-- ==== Defs.lean ====
def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite_dx [hPre_finite_dx : Cert.Pre_finite_dx.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6))) = (fun _ => 1#1)

def Pre_ReferenceDxIdeal (m : (ℓ : Loc Cert.ReferenceDxIdeal.nD Cert.ReferenceDxIdeal.τ Cert.ReferenceDxIdeal.sig) → Buf (Elt Ideal) ℓ) : Prop :=
  True

def Pre_ReferenceDxIdeal_finite_dx [hPre_finite_dx : Cert.Pre_finite_dx.Facts] (m : (ℓ : Loc Cert.ReferenceDxIdeal.nD Cert.ReferenceDxIdeal.τ Cert.ReferenceDxIdeal.sig) → Buf (Elt Ideal) ℓ) : Prop :=
  ∀ c : Dev Cert.ReferenceDxIdeal.nD,
    (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGw (m : (ℓ : Loc Cert.KernelGw.nD Cert.KernelGw.τ Cert.KernelGw.sig) → Buf (Elt Bits) ℓ) : Prop :=
  True

def Pre_KernelGwIdeal (m : (ℓ : Loc Cert.KernelGwIdeal.nD Cert.KernelGwIdeal.τ Cert.KernelGwIdeal.sig) → Buf (Elt Ideal) ℓ) : Prop :=
  True

def Pre_ReferenceGwIdeal (m : (ℓ : Loc Cert.ReferenceGwIdeal.nD Cert.ReferenceGwIdeal.τ Cert.ReferenceGwIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_KernelPostIdeal_finite_post [hPre_finite_post : Cert.Pre_finite_post.Facts] (m : (ℓ : Loc Cert.KernelPostIdeal.nD Cert.KernelPostIdeal.τ Cert.KernelPostIdeal.sig) → Buf (Elt Ideal) ℓ) : Prop :=
  ∀ c : Dev Cert.KernelPostIdeal.nD,
    (Cert.Pre_finite_post.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))) = (fun _ => 1#1)

def Pre_ReferencePostIdeal (m : (ℓ : Loc Cert.ReferencePostIdeal.nD Cert.ReferencePostIdeal.τ Cert.ReferencePostIdeal.sig) → Buf (Elt Ideal) ℓ) : Prop :=
  True

def Pre_ReferencePostIdeal_finite_post [hPre_finite_post : Cert.Pre_finite_post.Facts] (m : (ℓ : Loc Cert.ReferencePostIdeal.nD Cert.ReferencePostIdeal.τ Cert.ReferencePostIdeal.sig) → Buf (Elt Ideal) ℓ) : Prop :=
  ∀ c : Dev Cert.ReferencePostIdeal.nD,
    (Cert.Pre_finite_post.fn (F := Ideal) (m ((c.tc : Thread Cert.ReferencePostIdeal.nD Cert.ReferencePostIdeal.τ).loc Cert.ReferencePostIdeal.main_arg0)) (m ((c.tc : Thread Cert.ReferencePostIdeal.nD Cert.ReferencePostIdeal.τ).loc Cert.ReferencePostIdeal.main_arg1)) (m ((c.tc : Thread Cert.ReferencePostIdeal.nD Cert.ReferencePostIdeal.τ).loc Cert.ReferencePostIdeal.main_arg2)) (m ((c.tc : Thread Cert.ReferencePostIdeal.nD Cert.ReferencePostIdeal.τ).loc Cert.ReferencePostIdeal.main_arg3)) (m ((c.tc : Thread Cert.ReferencePostIdeal.nD Cert.ReferencePostIdeal.τ).loc Cert.ReferencePostIdeal.main_arg4)) (m ((c.tc : Thread Cert.ReferencePostIdeal.nD Cert.ReferencePostIdeal.τ).loc Cert.ReferencePostIdeal.main_arg5)) (m ((c.tc : Thread Cert.ReferencePostIdeal.nD Cert.ReferencePostIdeal.τ).loc Cert.ReferencePostIdeal.main_arg6)) (m ((c.tc : Thread Cert.ReferencePostIdeal.nD Cert.ReferencePostIdeal.τ).loc Cert.ReferencePostIdeal.main_arg7)) (m ((c.tc : Thread Cert.ReferencePostIdeal.nD Cert.ReferencePostIdeal.τ).loc Cert.ReferencePostIdeal.main_arg8))) = (fun _ => 1#1)

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_KernelGatesIdeal_finite_gates [hPre_finite_gates : Cert.Pre_finite_gates.Facts] (m : (ℓ : Loc Cert.KernelGatesIdeal.nD Cert.KernelGatesIdeal.τ Cert.KernelGatesIdeal.sig) → Buf (Elt Ideal) ℓ) : Prop :=
  ∀ c : Dev Cert.KernelGatesIdeal.nD,
    (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3))) = (fun _ => 1#1)

def Pre_ReferenceGatesIdeal (m : (ℓ : Loc Cert.ReferenceGatesIdeal.nD Cert.ReferenceGatesIdeal.τ Cert.ReferenceGatesIdeal.sig) → Buf (Elt Ideal) ℓ) : Prop :=
  True

def Pre_ReferenceGatesIdeal_finite_gates [hPre_finite_gates : Cert.Pre_finite_gates.Facts] (m : (ℓ : Loc Cert.ReferenceGatesIdeal.nD Cert.ReferenceGatesIdeal.τ Cert.ReferenceGatesIdeal.sig) → Buf (Elt Ideal) ℓ) : Prop :=
  ∀ c : Dev Cert.ReferenceGatesIdeal.nD,
    (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3))) = (fun _ => 1#1)

def Pre_KernelGs (m : (ℓ : Loc Cert.KernelGs.nD Cert.KernelGs.τ Cert.KernelGs.sig) → Buf (Elt Bits) ℓ) : Prop :=
  True

def Pre_KernelGsIdeal (m : (ℓ : Loc Cert.KernelGsIdeal.nD Cert.KernelGsIdeal.τ Cert.KernelGsIdeal.sig) → Buf (Elt Ideal) ℓ) : Prop :=
  True

def Pre_ReferenceGsIdeal (m : (ℓ : Loc Cert.ReferenceGsIdeal.nD Cert.ReferenceGsIdeal.τ Cert.ReferenceGsIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelAc (m : (ℓ : Loc Cert.KernelAc.nD Cert.KernelAc.τ Cert.KernelAc.sig) → Buf (Elt Bits) ℓ) : Prop :=
  True

def Pre_KernelAcIdeal (m : (ℓ : Loc Cert.KernelAcIdeal.nD Cert.KernelAcIdeal.τ Cert.KernelAcIdeal.sig) → Buf (Elt Ideal) ℓ) : Prop :=
  True

def Pre_ReferenceAcIdeal (m : (ℓ : Loc Cert.ReferenceAcIdeal.nD Cert.ReferenceAcIdeal.τ Cert.ReferenceAcIdeal.sig) → Buf (Elt Ideal) ℓ) : Prop :=
  True

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5)
      ∧ r.2.mem ((c.tc : Thread Cert.KernelDx.nD Cert.KernelDx.τ).loc Cert.KernelDx.main_arg6) = m ((c.tc : Thread Cert.KernelDx.nD Cert.KernelDx.τ).loc Cert.KernelDx.main_arg6))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
      ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6))
      ∧ r.2.sem = fun _ => 0)

def quiescent_KernelDxIdeal_pre_finite_dx [hKernelDxIdeal : Cert.KernelDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite_dx m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
      ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5)
      ∧ r.2.mem ((c.tc : Thread Cert.ReferenceDxIdeal.nD Cert.ReferenceDxIdeal.τ).loc Cert.ReferenceDxIdeal.main_arg6) = m ((c.tc : Thread Cert.ReferenceDxIdeal.nD Cert.ReferenceDxIdeal.τ).loc Cert.ReferenceDxIdeal.main_arg6))
      ∧ r.2.sem = fun _ => 0)

def quiescent_ReferenceDxIdeal_pre_finite_dx [hReferenceDxIdeal : Cert.ReferenceDxIdeal.Facts] [hPre_finite_dx : Cert.Pre_finite_dx.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal_finite_dx m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5)
      ∧ r.2.mem ((c.tc : Thread Cert.ReferenceDxIdeal.nD Cert.ReferenceDxIdeal.τ).loc Cert.ReferenceDxIdeal.main_arg6) = m ((c.tc : Thread Cert.ReferenceDxIdeal.nD Cert.ReferenceDxIdeal.τ).loc Cert.ReferenceDxIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelGw [hKernelGw : Cert.KernelGw.Facts] : Prop :=
  ∀ (m : (ℓ : Loc Cert.KernelGw.nD Cert.KernelGw.τ Cert.KernelGw.sig) → Buf (Elt Bits) ℓ) (g : Dev Cert.KernelGw.nD → PrngReg), Pre_KernelGw m →
    θ_run (Cert.KernelGw.defs (F := Bits)) (onTc (τ := Cert.KernelGw.τ) (Cert.KernelGw.main (F := Bits))) ⟨m, fun _ => 0, g⟩ (fun r => (∀ c : Dev Cert.KernelGw.nD,
      r.2.mem ((c.tc : Thread Cert.KernelGw.nD Cert.KernelGw.τ).loc Cert.KernelGw.main_arg0) = m ((c.tc : Thread Cert.KernelGw.nD Cert.KernelGw.τ).loc Cert.KernelGw.main_arg0)
      ∧ r.2.mem ((c.tc : Thread Cert.KernelGw.nD Cert.KernelGw.τ).loc Cert.KernelGw.main_arg1) = m ((c.tc : Thread Cert.KernelGw.nD Cert.KernelGw.τ).loc Cert.KernelGw.main_arg1)
      ∧ r.2.mem ((c.tc : Thread Cert.KernelGw.nD Cert.KernelGw.τ).loc Cert.KernelGw.main_arg2) = m ((c.tc : Thread Cert.KernelGw.nD Cert.KernelGw.τ).loc Cert.KernelGw.main_arg2))
      ∧ r.2.sem = fun _ => 0)

def quiescent_KernelGwIdeal [hKernelGwIdeal : Cert.KernelGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg), Pre_KernelGwIdeal m →
    θ_run (Cert.KernelGwIdeal.defs (F := Ideal)) (onTc (τ := Cert.KernelGwIdeal.τ) (Cert.KernelGwIdeal.main (F := Ideal))) ⟨m, fun _ => 0, g⟩ (fun r => (∀ c : Dev Cert.KernelGwIdeal.nD,
      r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
      ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1)
      ∧ r.2.mem ((c.tc : Thread Cert.KernelGwIdeal.nD Cert.KernelGwIdeal.τ).loc Cert.KernelGwIdeal.main_arg2) = m ((c.tc : Thread Cert.KernelGwIdeal.nD Cert.KernelGwIdeal.τ).loc Cert.KernelGwIdeal.main_arg2))
      ∧ r.2.sem = fun _ => 0)

def quiescent_ReferenceGwIdeal [hReferenceGwIdeal : Cert.ReferenceGwIdeal.Facts] : Prop :=
  ∀ (m : (ℓ : Loc Cert.ReferenceGwIdeal.nD Cert.ReferenceGwIdeal.τ Cert.ReferenceGwIdeal.sig) → Buf (Elt Ideal) ℓ) (g : Dev Cert.ReferenceGwIdeal.nD → PrngReg), Pre_ReferenceGwIdeal m →
    θ_run (Cert.ReferenceGwIdeal.defs (F := Ideal)) (onTc (τ := Cert.ReferenceGwIdeal.τ) (Cert.ReferenceGwIdeal.main (F := Ideal))) ⟨m, fun _ => 0, g⟩ (fun r => (∀ c : Dev Cert.ReferenceGwIdeal.nD,
      r.2.mem ((c.tc : Thread Cert.ReferenceGwIdeal.nD Cert.ReferenceGwIdeal.τ).loc Cert.ReferenceGwIdeal.main_arg0) = m ((c.tc : Thread Cert.ReferenceGwIdeal.nD Cert.ReferenceGwIdeal.τ).loc Cert.ReferenceGwIdeal.main_arg0)
      ∧ r.2.mem ((c.tc : Thread Cert.ReferenceGwIdeal.nD Cert.ReferenceGwIdeal.τ).loc Cert.ReferenceGwIdeal.main_arg1) = m ((c.tc : Thread Cert.ReferenceGwIdeal.nD Cert.ReferenceGwIdeal.τ).loc Cert.ReferenceGwIdeal.main_arg1)
      ∧ r.2.mem ((c.tc : Thread Cert.ReferenceGwIdeal.nD Cert.ReferenceGwIdeal.τ).loc Cert.ReferenceGwIdeal.main_arg2) = m ((c.tc : Thread Cert.ReferenceGwIdeal.nD Cert.ReferenceGwIdeal.τ).loc Cert.ReferenceGwIdeal.main_arg2))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5)
      ∧ r.2.mem ((c.tc : Thread Cert.KernelPost.nD Cert.KernelPost.τ).loc Cert.KernelPost.main_arg6) = m ((c.tc : Thread Cert.KernelPost.nD Cert.KernelPost.τ).loc Cert.KernelPost.main_arg6)
      ∧ r.2.mem ((c.tc : Thread Cert.KernelPost.nD Cert.KernelPost.τ).loc Cert.KernelPost.main_arg7) = m ((c.tc : Thread Cert.KernelPost.nD Cert.KernelPost.τ).loc Cert.KernelPost.main_arg7)
      ∧ r.2.mem ((c.tc : Thread Cert.KernelPost.nD Cert.KernelPost.τ).loc Cert.KernelPost.main_arg8) = m ((c.tc : Thread Cert.KernelPost.nD Cert.KernelPost.τ).loc Cert.KernelPost.main_arg8))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
      ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8))
      ∧ r.2.sem = fun _ => 0)

def quiescent_KernelPostIdeal_pre_finite_post [hKernelPostIdeal : Cert.KernelPostIdeal.Facts] [hPre_finite_post : Cert.Pre_finite_post.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal_finite_post m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
      ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7)
      ∧ r.2.mem ((c.tc : Thread Cert.ReferencePostIdeal.nD Cert.ReferencePostIdeal.τ).loc Cert.ReferencePostIdeal.main_arg8) = m ((c.tc : Thread Cert.ReferencePostIdeal.nD Cert.ReferencePostIdeal.τ).loc Cert.ReferencePostIdeal.main_arg8))
      ∧ r.2.sem = fun _ => 0)

def quiescent_ReferencePostIdeal_pre_finite_post [hReferencePostIdeal : Cert.ReferencePostIdeal.Facts] [hPre_finite_post : Cert.Pre_finite_post.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal_finite_post m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7)
      ∧ r.2.mem ((c.tc : Thread Cert.ReferencePostIdeal.nD Cert.ReferencePostIdeal.τ).loc Cert.ReferencePostIdeal.main_arg8) = m ((c.tc : Thread Cert.ReferencePostIdeal.nD Cert.ReferencePostIdeal.τ).loc Cert.ReferencePostIdeal.main_arg8))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2)
      ∧ r.2.mem ((c.tc : Thread Cert.KernelGates.nD Cert.KernelGates.τ).loc Cert.KernelGates.main_arg3) = m ((c.tc : Thread Cert.KernelGates.nD Cert.KernelGates.τ).loc Cert.KernelGates.main_arg3))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3))
      ∧ r.2.sem = fun _ => 0)

def quiescent_KernelGatesIdeal_pre_finite_gates [hKernelGatesIdeal : Cert.KernelGatesIdeal.Facts] [hPre_finite_gates : Cert.Pre_finite_gates.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal_finite_gates m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3))
      ∧ r.2.sem = fun _ => 0)

def quiescent_ReferenceGatesIdeal_pre_finite_gates [hReferenceGatesIdeal : Cert.ReferenceGatesIdeal.Facts] [hPre_finite_gates : Cert.Pre_finite_gates.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal_finite_gates m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3))
      ∧ r.2.sem = fun _ => 0)

def quiescent_KernelGs [hKernelGs : Cert.KernelGs.Facts] : Prop :=
  ∀ (m : (ℓ : Loc Cert.KernelGs.nD Cert.KernelGs.τ Cert.KernelGs.sig) → Buf (Elt Bits) ℓ) (g : Dev Cert.KernelGs.nD → PrngReg), Pre_KernelGs m →
    θ_run (Cert.KernelGs.defs (F := Bits)) (onTc (τ := Cert.KernelGs.τ) (Cert.KernelGs.main (F := Bits))) ⟨m, fun _ => 0, g⟩ (fun r => (∀ c : Dev Cert.KernelGs.nD,
      r.2.mem ((c.tc : Thread Cert.KernelGs.nD Cert.KernelGs.τ).loc Cert.KernelGs.main_arg0) = m ((c.tc : Thread Cert.KernelGs.nD Cert.KernelGs.τ).loc Cert.KernelGs.main_arg0)
      ∧ r.2.mem ((c.tc : Thread Cert.KernelGs.nD Cert.KernelGs.τ).loc Cert.KernelGs.main_arg1) = m ((c.tc : Thread Cert.KernelGs.nD Cert.KernelGs.τ).loc Cert.KernelGs.main_arg1)
      ∧ r.2.mem ((c.tc : Thread Cert.KernelGs.nD Cert.KernelGs.τ).loc Cert.KernelGs.main_arg2) = m ((c.tc : Thread Cert.KernelGs.nD Cert.KernelGs.τ).loc Cert.KernelGs.main_arg2))
      ∧ r.2.sem = fun _ => 0)

def quiescent_KernelGsIdeal [hKernelGsIdeal : Cert.KernelGsIdeal.Facts] : Prop :=
  ∀ (m : (ℓ : Loc Cert.KernelGsIdeal.nD Cert.KernelGsIdeal.τ Cert.KernelGsIdeal.sig) → Buf (Elt Ideal) ℓ) (g : Dev Cert.KernelGsIdeal.nD → PrngReg), Pre_KernelGsIdeal m →
    θ_run (Cert.KernelGsIdeal.defs (F := Ideal)) (onTc (τ := Cert.KernelGsIdeal.τ) (Cert.KernelGsIdeal.main (F := Ideal))) ⟨m, fun _ => 0, g⟩ (fun r => (∀ c : Dev Cert.KernelGsIdeal.nD,
      r.2.mem ((c.tc : Thread Cert.KernelGsIdeal.nD Cert.KernelGsIdeal.τ).loc Cert.KernelGsIdeal.main_arg0) = m ((c.tc : Thread Cert.KernelGsIdeal.nD Cert.KernelGsIdeal.τ).loc Cert.KernelGsIdeal.main_arg0)
      ∧ r.2.mem ((c.tc : Thread Cert.KernelGsIdeal.nD Cert.KernelGsIdeal.τ).loc Cert.KernelGsIdeal.main_arg1) = m ((c.tc : Thread Cert.KernelGsIdeal.nD Cert.KernelGsIdeal.τ).loc Cert.KernelGsIdeal.main_arg1)
      ∧ r.2.mem ((c.tc : Thread Cert.KernelGsIdeal.nD Cert.KernelGsIdeal.τ).loc Cert.KernelGsIdeal.main_arg2) = m ((c.tc : Thread Cert.KernelGsIdeal.nD Cert.KernelGsIdeal.τ).loc Cert.KernelGsIdeal.main_arg2))
      ∧ r.2.sem = fun _ => 0)

def quiescent_ReferenceGsIdeal [hReferenceGsIdeal : Cert.ReferenceGsIdeal.Facts] : Prop :=
  ∀ (m : (ℓ : Loc Cert.ReferenceGsIdeal.nD Cert.ReferenceGsIdeal.τ Cert.ReferenceGsIdeal.sig) → Buf (Elt Ideal) ℓ) (g : Dev Cert.ReferenceGsIdeal.nD → PrngReg), Pre_ReferenceGsIdeal m →
    θ_run (Cert.ReferenceGsIdeal.defs (F := Ideal)) (onTc (τ := Cert.ReferenceGsIdeal.τ) (Cert.ReferenceGsIdeal.main (F := Ideal))) ⟨m, fun _ => 0, g⟩ (fun r => (∀ c : Dev Cert.ReferenceGsIdeal.nD,
      r.2.mem ((c.tc : Thread Cert.ReferenceGsIdeal.nD Cert.ReferenceGsIdeal.τ).loc Cert.ReferenceGsIdeal.main_arg0) = m ((c.tc : Thread Cert.ReferenceGsIdeal.nD Cert.ReferenceGsIdeal.τ).loc Cert.ReferenceGsIdeal.main_arg0)
      ∧ r.2.mem ((c.tc : Thread Cert.ReferenceGsIdeal.nD Cert.ReferenceGsIdeal.τ).loc Cert.ReferenceGsIdeal.main_arg1) = m ((c.tc : Thread Cert.ReferenceGsIdeal.nD Cert.ReferenceGsIdeal.τ).loc Cert.ReferenceGsIdeal.main_arg1)
      ∧ r.2.mem ((c.tc : Thread Cert.ReferenceGsIdeal.nD Cert.ReferenceGsIdeal.τ).loc Cert.ReferenceGsIdeal.main_arg2) = m ((c.tc : Thread Cert.ReferenceGsIdeal.nD Cert.ReferenceGsIdeal.τ).loc Cert.ReferenceGsIdeal.main_arg2))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelAc [hKernelAc : Cert.KernelAc.Facts] : Prop :=
  ∀ (m : (ℓ : Loc Cert.KernelAc.nD Cert.KernelAc.τ Cert.KernelAc.sig) → Buf (Elt Bits) ℓ) (g : Dev Cert.KernelAc.nD → PrngReg), Pre_KernelAc m →
    θ_run (Cert.KernelAc.defs (F := Bits)) (onTc (τ := Cert.KernelAc.τ) (Cert.KernelAc.main (F := Bits))) ⟨m, fun _ => 0, g⟩ (fun r => (∀ c : Dev Cert.KernelAc.nD,
      r.2.mem ((c.tc : Thread Cert.KernelAc.nD Cert.KernelAc.τ).loc Cert.KernelAc.main_arg0) = m ((c.tc : Thread Cert.KernelAc.nD Cert.KernelAc.τ).loc Cert.KernelAc.main_arg0)
      ∧ r.2.mem ((c.tc : Thread Cert.KernelAc.nD Cert.KernelAc.τ).loc Cert.KernelAc.main_arg1) = m ((c.tc : Thread Cert.KernelAc.nD Cert.KernelAc.τ).loc Cert.KernelAc.main_arg1)
      ∧ r.2.mem ((c.tc : Thread Cert.KernelAc.nD Cert.KernelAc.τ).loc Cert.KernelAc.main_arg2) = m ((c.tc : Thread Cert.KernelAc.nD Cert.KernelAc.τ).loc Cert.KernelAc.main_arg2)
      ∧ r.2.mem ((c.tc : Thread Cert.KernelAc.nD Cert.KernelAc.τ).loc Cert.KernelAc.main_arg3) = m ((c.tc : Thread Cert.KernelAc.nD Cert.KernelAc.τ).loc Cert.KernelAc.main_arg3))
      ∧ r.2.sem = fun _ => 0)

def quiescent_KernelAcIdeal [hKernelAcIdeal : Cert.KernelAcIdeal.Facts] : Prop :=
  ∀ (m : (ℓ : Loc Cert.KernelAcIdeal.nD Cert.KernelAcIdeal.τ Cert.KernelAcIdeal.sig) → Buf (Elt Ideal) ℓ) (g : Dev Cert.KernelAcIdeal.nD → PrngReg), Pre_KernelAcIdeal m →
    θ_run (Cert.KernelAcIdeal.defs (F := Ideal)) (onTc (τ := Cert.KernelAcIdeal.τ) (Cert.KernelAcIdeal.main (F := Ideal))) ⟨m, fun _ => 0, g⟩ (fun r => (∀ c : Dev Cert.KernelAcIdeal.nD,
      r.2.mem ((c.tc : Thread Cert.KernelAcIdeal.nD Cert.KernelAcIdeal.τ).loc Cert.KernelAcIdeal.main_arg0) = m ((c.tc : Thread Cert.KernelAcIdeal.nD Cert.KernelAcIdeal.τ).loc Cert.KernelAcIdeal.main_arg0)
      ∧ r.2.mem ((c.tc : Thread Cert.KernelAcIdeal.nD Cert.KernelAcIdeal.τ).loc Cert.KernelAcIdeal.main_arg1) = m ((c.tc : Thread Cert.KernelAcIdeal.nD Cert.KernelAcIdeal.τ).loc Cert.KernelAcIdeal.main_arg1)
      ∧ r.2.mem ((c.tc : Thread Cert.KernelAcIdeal.nD Cert.KernelAcIdeal.τ).loc Cert.KernelAcIdeal.main_arg2) = m ((c.tc : Thread Cert.KernelAcIdeal.nD Cert.KernelAcIdeal.τ).loc Cert.KernelAcIdeal.main_arg2)
      ∧ r.2.mem ((c.tc : Thread Cert.KernelAcIdeal.nD Cert.KernelAcIdeal.τ).loc Cert.KernelAcIdeal.main_arg3) = m ((c.tc : Thread Cert.KernelAcIdeal.nD Cert.KernelAcIdeal.τ).loc Cert.KernelAcIdeal.main_arg3))
      ∧ r.2.sem = fun _ => 0)

def quiescent_ReferenceAcIdeal [hReferenceAcIdeal : Cert.ReferenceAcIdeal.Facts] : Prop :=
  ∀ (m : (ℓ : Loc Cert.ReferenceAcIdeal.nD Cert.ReferenceAcIdeal.τ Cert.ReferenceAcIdeal.sig) → Buf (Elt Ideal) ℓ) (g : Dev Cert.ReferenceAcIdeal.nD → PrngReg), Pre_ReferenceAcIdeal m →
    θ_run (Cert.ReferenceAcIdeal.defs (F := Ideal)) (onTc (τ := Cert.ReferenceAcIdeal.τ) (Cert.ReferenceAcIdeal.main (F := Ideal))) ⟨m, fun _ => 0, g⟩ (fun r => (∀ c : Dev Cert.ReferenceAcIdeal.nD,
      r.2.mem ((c.tc : Thread Cert.ReferenceAcIdeal.nD Cert.ReferenceAcIdeal.τ).loc Cert.ReferenceAcIdeal.main_arg0) = m ((c.tc : Thread Cert.ReferenceAcIdeal.nD Cert.ReferenceAcIdeal.τ).loc Cert.ReferenceAcIdeal.main_arg0)
      ∧ r.2.mem ((c.tc : Thread Cert.ReferenceAcIdeal.nD Cert.ReferenceAcIdeal.τ).loc Cert.ReferenceAcIdeal.main_arg1) = m ((c.tc : Thread Cert.ReferenceAcIdeal.nD Cert.ReferenceAcIdeal.τ).loc Cert.ReferenceAcIdeal.main_arg1)
      ∧ r.2.mem ((c.tc : Thread Cert.ReferenceAcIdeal.nD Cert.ReferenceAcIdeal.τ).loc Cert.ReferenceAcIdeal.main_arg2) = m ((c.tc : Thread Cert.ReferenceAcIdeal.nD Cert.ReferenceAcIdeal.τ).loc Cert.ReferenceAcIdeal.main_arg2)
      ∧ r.2.mem ((c.tc : Thread Cert.ReferenceAcIdeal.nD Cert.ReferenceAcIdeal.τ).loc Cert.ReferenceAcIdeal.main_arg3) = m ((c.tc : Thread Cert.ReferenceAcIdeal.nD Cert.ReferenceAcIdeal.τ).loc Cert.ReferenceAcIdeal.main_arg3))
      ∧ r.2.sem = fun _ => 0)

def preserves_KernelDx_KernelDxIdeal : Prop :=
  True

def algebraic_KernelDxIdeal_ReferenceDxIdeal_pre_finite_dx [hKernelDxIdeal : Cert.KernelDxIdeal.Facts] [hReferenceDxIdeal : Cert.ReferenceDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal_finite_dx m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)
      ∧ m' ((c.tc : Thread Cert.ReferenceDxIdeal.nD Cert.ReferenceDxIdeal.τ).loc Cert.ReferenceDxIdeal.main_arg6) = m ((c.tc : Thread Cert.KernelDxIdeal.nD Cert.KernelDxIdeal.τ).loc Cert.KernelDxIdeal.main_arg6)) →
    ∃ (v0 : (c : Dev Cert.KernelDxIdeal.nD) → Buf (Elt Ideal) ((c.tc : Thread Cert.KernelDxIdeal.nD Cert.KernelDxIdeal.τ).loc Cert.KernelDxIdeal.main_v10_0)) (v1 : (c : Dev Cert.KernelDxIdeal.nD) → Buf (Elt Ideal) ((c.tc : Thread Cert.KernelDxIdeal.nD Cert.KernelDxIdeal.τ).loc Cert.KernelDxIdeal.main_v10_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v10_0) = v0 c
          ∧ r.2.mem ((c.tc : Thread Cert.KernelDxIdeal.nD Cert.KernelDxIdeal.τ).loc Cert.KernelDxIdeal.main_v10_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
          ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v56) = v0 c
          ∧ r.2.mem ((c.tc : Thread Cert.ReferenceDxIdeal.nD Cert.ReferenceDxIdeal.τ).loc Cert.ReferenceDxIdeal.main_v39) = v1 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5)
          ∧ r.2.mem ((c.tc : Thread Cert.ReferenceDxIdeal.nD Cert.ReferenceDxIdeal.τ).loc Cert.ReferenceDxIdeal.main_arg6) = m' ((c.tc : Thread Cert.ReferenceDxIdeal.nD Cert.ReferenceDxIdeal.τ).loc Cert.ReferenceDxIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v4_0)) (v1 : (c : Dev Cert.KernelInIdeal.nD) → Buf (Elt Ideal) ((c.tc : Thread Cert.KernelInIdeal.nD Cert.KernelInIdeal.τ).loc Cert.KernelInIdeal.main_v4_1)) (v2 : (c : Dev Cert.KernelInIdeal.nD) → Buf (Elt Ideal) ((c.tc : Thread Cert.KernelInIdeal.nD Cert.KernelInIdeal.τ).loc Cert.KernelInIdeal.main_v4_2)) (v3 : (c : Dev Cert.KernelInIdeal.nD) → Buf (Elt Ideal) ((c.tc : Thread Cert.KernelInIdeal.nD Cert.KernelInIdeal.τ).loc Cert.KernelInIdeal.main_v4_3)) (v4 : (c : Dev Cert.KernelInIdeal.nD) → Buf (Elt Ideal) ((c.tc : Thread Cert.KernelInIdeal.nD Cert.KernelInIdeal.τ).loc Cert.KernelInIdeal.main_v4_4)) (v5 : (c : Dev Cert.KernelInIdeal.nD) → Buf (Elt Ideal) ((c.tc : Thread Cert.KernelInIdeal.nD Cert.KernelInIdeal.τ).loc Cert.KernelInIdeal.main_v4_5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4_0) = v0 c
          ∧ r.2.mem ((c.tc : Thread Cert.KernelInIdeal.nD Cert.KernelInIdeal.τ).loc Cert.KernelInIdeal.main_v4_1) = v1 c
          ∧ r.2.mem ((c.tc : Thread Cert.KernelInIdeal.nD Cert.KernelInIdeal.τ).loc Cert.KernelInIdeal.main_v4_2) = v2 c
          ∧ r.2.mem ((c.tc : Thread Cert.KernelInIdeal.nD Cert.KernelInIdeal.τ).loc Cert.KernelInIdeal.main_v4_3) = v3 c
          ∧ r.2.mem ((c.tc : Thread Cert.KernelInIdeal.nD Cert.KernelInIdeal.τ).loc Cert.KernelInIdeal.main_v4_4) = v4 c
          ∧ r.2.mem ((c.tc : Thread Cert.KernelInIdeal.nD Cert.KernelInIdeal.τ).loc Cert.KernelInIdeal.main_v4_5) = v5 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v29) = v0 c
          ∧ r.2.mem ((c.tc : Thread Cert.ReferenceInIdeal.nD Cert.ReferenceInIdeal.τ).loc Cert.ReferenceInIdeal.main_v27) = v1 c
          ∧ r.2.mem ((c.tc : Thread Cert.ReferenceInIdeal.nD Cert.ReferenceInIdeal.τ).loc Cert.ReferenceInIdeal.main_v21) = v2 c
          ∧ r.2.mem ((c.tc : Thread Cert.ReferenceInIdeal.nD Cert.ReferenceInIdeal.τ).loc Cert.ReferenceInIdeal.main_v31) = v3 c
          ∧ r.2.mem ((c.tc : Thread Cert.ReferenceInIdeal.nD Cert.ReferenceInIdeal.τ).loc Cert.ReferenceInIdeal.main_v33) = v4 c
          ∧ r.2.mem ((c.tc : Thread Cert.ReferenceInIdeal.nD Cert.ReferenceInIdeal.τ).loc Cert.ReferenceInIdeal.main_v7) = v5 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelGw_KernelGwIdeal : Prop :=
  True

def algebraic_KernelGwIdeal_ReferenceGwIdeal [hKernelGwIdeal : Cert.KernelGwIdeal.Facts] [hReferenceGwIdeal : Cert.ReferenceGwIdeal.Facts] : Prop :=
  ∀ (m : (ℓ : Loc Cert.KernelGwIdeal.nD Cert.KernelGwIdeal.τ Cert.KernelGwIdeal.sig) → Buf (Elt Ideal) ℓ) (g : Dev Cert.KernelGwIdeal.nD → PrngReg)
    (m' : (ℓ : Loc Cert.ReferenceGwIdeal.nD Cert.ReferenceGwIdeal.τ Cert.ReferenceGwIdeal.sig) → Buf (Elt Ideal) ℓ) (g' : Dev Cert.ReferenceGwIdeal.nD → PrngReg), Pre_KernelGwIdeal m →
    (∀ c : Dev Cert.KernelGwIdeal.nD,
      m' ((c.tc : Thread Cert.ReferenceGwIdeal.nD Cert.ReferenceGwIdeal.τ).loc Cert.ReferenceGwIdeal.main_arg0) = m ((c.tc : Thread Cert.KernelGwIdeal.nD Cert.KernelGwIdeal.τ).loc Cert.KernelGwIdeal.main_arg0)
      ∧ m' ((c.tc : Thread Cert.ReferenceGwIdeal.nD Cert.ReferenceGwIdeal.τ).loc Cert.ReferenceGwIdeal.main_arg1) = m ((c.tc : Thread Cert.KernelGwIdeal.nD Cert.KernelGwIdeal.τ).loc Cert.KernelGwIdeal.main_arg1)
      ∧ m' ((c.tc : Thread Cert.ReferenceGwIdeal.nD Cert.ReferenceGwIdeal.τ).loc Cert.ReferenceGwIdeal.main_arg2) = m ((c.tc : Thread Cert.KernelGwIdeal.nD Cert.KernelGwIdeal.τ).loc Cert.KernelGwIdeal.main_arg2)) →
    ∃ (v0 : (c : Dev Cert.KernelGwIdeal.nD) → Buf (Elt Ideal) ((c.tc : Thread Cert.KernelGwIdeal.nD Cert.KernelGwIdeal.τ).loc Cert.KernelGwIdeal.main_v14)),
      θ_run (Cert.KernelGwIdeal.defs (F := Ideal)) (onTc (τ := Cert.KernelGwIdeal.τ) (Cert.KernelGwIdeal.main (F := Ideal))) ⟨m, fun _ => 0, g⟩ (fun r => ∀ c : Dev Cert.KernelGwIdeal.nD,
          r.2.mem ((c.tc : Thread Cert.KernelGwIdeal.nD Cert.KernelGwIdeal.τ).loc Cert.KernelGwIdeal.main_v14) = v0 c
          ∧ r.2.mem ((c.tc : Thread Cert.KernelGwIdeal.nD Cert.KernelGwIdeal.τ).loc Cert.KernelGwIdeal.main_arg0) = m ((c.tc : Thread Cert.KernelGwIdeal.nD Cert.KernelGwIdeal.τ).loc Cert.KernelGwIdeal.main_arg0)
          ∧ r.2.mem ((c.tc : Thread Cert.KernelGwIdeal.nD Cert.KernelGwIdeal.τ).loc Cert.KernelGwIdeal.main_arg1) = m ((c.tc : Thread Cert.KernelGwIdeal.nD Cert.KernelGwIdeal.τ).loc Cert.KernelGwIdeal.main_arg1)
          ∧ r.2.mem ((c.tc : Thread Cert.KernelGwIdeal.nD Cert.KernelGwIdeal.τ).loc Cert.KernelGwIdeal.main_arg2) = m ((c.tc : Thread Cert.KernelGwIdeal.nD Cert.KernelGwIdeal.τ).loc Cert.KernelGwIdeal.main_arg2))
      ∧ θ_run (Cert.ReferenceGwIdeal.defs (F := Ideal)) (onTc (τ := Cert.ReferenceGwIdeal.τ) (Cert.ReferenceGwIdeal.main (F := Ideal))) ⟨m', fun _ => 0, g'⟩ (fun r => ∀ c : Dev Cert.ReferenceGwIdeal.nD,
          r.2.mem ((c.tc : Thread Cert.ReferenceGwIdeal.nD Cert.ReferenceGwIdeal.τ).loc Cert.ReferenceGwIdeal.main_v32) = v0 c
          ∧ r.2.mem ((c.tc : Thread Cert.ReferenceGwIdeal.nD Cert.ReferenceGwIdeal.τ).loc Cert.ReferenceGwIdeal.main_arg0) = m' ((c.tc : Thread Cert.ReferenceGwIdeal.nD Cert.ReferenceGwIdeal.τ).loc Cert.ReferenceGwIdeal.main_arg0)
          ∧ r.2.mem ((c.tc : Thread Cert.ReferenceGwIdeal.nD Cert.ReferenceGwIdeal.τ).loc Cert.ReferenceGwIdeal.main_arg1) = m' ((c.tc : Thread Cert.ReferenceGwIdeal.nD Cert.ReferenceGwIdeal.τ).loc Cert.ReferenceGwIdeal.main_arg1)
          ∧ r.2.mem ((c.tc : Thread Cert.ReferenceGwIdeal.nD Cert.ReferenceGwIdeal.τ).loc Cert.ReferenceGwIdeal.main_arg2) = m' ((c.tc : Thread Cert.ReferenceGwIdeal.nD Cert.ReferenceGwIdeal.τ).loc Cert.ReferenceGwIdeal.main_arg2))

def preserves_KernelPost_KernelPostIdeal : Prop :=
  True

def algebraic_KernelPostIdeal_ReferencePostIdeal_on_written_pre_finite_post [hKernelPostIdeal : Cert.KernelPostIdeal.Facts] [hReferencePostIdeal : Cert.ReferencePostIdeal.Facts] [hPre_finite_post : Cert.Pre_finite_post.Facts] [hOn_written : Cert.On_written.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal_finite_post m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)
      ∧ m' ((c.tc : Thread Cert.ReferencePostIdeal.nD Cert.ReferencePostIdeal.τ).loc Cert.ReferencePostIdeal.main_arg6) = m ((c.tc : Thread Cert.KernelPostIdeal.nD Cert.KernelPostIdeal.τ).loc Cert.KernelPostIdeal.main_arg6)
      ∧ m' ((c.tc : Thread Cert.ReferencePostIdeal.nD Cert.ReferencePostIdeal.τ).loc Cert.ReferencePostIdeal.main_arg7) = m ((c.tc : Thread Cert.KernelPostIdeal.nD Cert.KernelPostIdeal.τ).loc Cert.KernelPostIdeal.main_arg7)
      ∧ m' ((c.tc : Thread Cert.ReferencePostIdeal.nD Cert.ReferencePostIdeal.τ).loc Cert.ReferencePostIdeal.main_arg8) = m ((c.tc : Thread Cert.KernelPostIdeal.nD Cert.KernelPostIdeal.τ).loc Cert.KernelPostIdeal.main_arg8)) →
    ∃ (v0 : (c : Dev Cert.KernelPostIdeal.nD) → Buf (Elt Ideal) ((c.tc : Thread Cert.KernelPostIdeal.nD Cert.KernelPostIdeal.τ).loc Cert.KernelPostIdeal.main_v1_0)) (v1 : (c : Dev Cert.KernelPostIdeal.nD) → Buf (Elt Ideal) ((c.tc : Thread Cert.KernelPostIdeal.nD Cert.KernelPostIdeal.τ).loc Cert.KernelPostIdeal.main_v1_1)) (v2 : (c : Dev Cert.KernelPostIdeal.nD) → Buf (Elt Ideal) ((c.tc : Thread Cert.KernelPostIdeal.nD Cert.KernelPostIdeal.τ).loc Cert.KernelPostIdeal.main_v1_2)) (v3 : (c : Dev Cert.KernelPostIdeal.nD) → Buf (Elt Ideal) ((c.tc : Thread Cert.KernelPostIdeal.nD Cert.KernelPostIdeal.τ).loc Cert.KernelPostIdeal.main_v1_3)) (v4 : (c : Dev Cert.KernelPostIdeal.nD) → Buf (Elt Ideal) ((c.tc : Thread Cert.KernelPostIdeal.nD Cert.KernelPostIdeal.τ).loc Cert.KernelPostIdeal.main_v1_4)) (v5 : (c : Dev Cert.KernelPostIdeal.nD) → Buf (Elt Ideal) ((c.tc : Thread Cert.KernelPostIdeal.nD Cert.KernelPostIdeal.τ).loc Cert.KernelPostIdeal.main_v1_5)) (v6 : (c : Dev Cert.KernelPostIdeal.nD) → Buf (Elt Ideal) ((c.tc : Thread Cert.KernelPostIdeal.nD Cert.KernelPostIdeal.τ).loc Cert.KernelPostIdeal.main_v1_6)) (v7 : (c : Dev Cert.KernelPostIdeal.nD) → Buf (Elt Ideal) ((c.tc : Thread Cert.KernelPostIdeal.nD Cert.KernelPostIdeal.τ).loc Cert.KernelPostIdeal.main_v1_7)) (v8 : (c : Dev Cert.KernelPostIdeal.nD) → Buf (Elt Ideal) ((c.tc : Thread Cert.KernelPostIdeal.nD Cert.KernelPostIdeal.τ).loc Cert.KernelPostIdeal.main_v1_8)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          (∀ i : (⟨2, ![2048, 1024]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).1 i = 1#1 → r.2.mem ((c.tc : Thread Cert.KernelPostIdeal.nD Cert.KernelPostIdeal.τ).loc Cert.KernelPostIdeal.main_v1_0) i = v0 c i)
          ∧ (∀ i : (⟨3, ![4, 2048, 128]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.1 i = 1#1 → r.2.mem ((c.tc : Thread Cert.KernelPostIdeal.nD Cert.KernelPostIdeal.τ).loc Cert.KernelPostIdeal.main_v1_1) i = v1 c i)
          ∧ (∀ i : (⟨2, ![2048, 512]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.1 i = 1#1 → r.2.mem ((c.tc : Thread Cert.KernelPostIdeal.nD Cert.KernelPostIdeal.τ).loc Cert.KernelPostIdeal.main_v1_2) i = v2 c i)
          ∧ (∀ i : (⟨3, ![8, 2048, 512]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.1 i = 1#1 → r.2.mem ((c.tc : Thread Cert.KernelPostIdeal.nD Cert.KernelPostIdeal.τ).loc Cert.KernelPostIdeal.main_v1_3) i = v3 c i)
          ∧ (∀ i : (⟨2, ![1, 128]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.1 i = 1#1 → r.2.mem ((c.tc : Thread Cert.KernelPostIdeal.nD Cert.KernelPostIdeal.τ).loc Cert.KernelPostIdeal.main_v1_4) i = v4 c i)
          ∧ (∀ i : (⟨2, ![1, 1024]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.2.1 i = 1#1 → r.2.mem ((c.tc : Thread Cert.KernelPostIdeal.nD Cert.KernelPostIdeal.τ).loc Cert.KernelPostIdeal.main_v1_5) i = v5 c i)
          ∧ (∀ i : (⟨2, ![1, 512]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.2.2.1 i = 1#1 → r.2.mem ((c.tc : Thread Cert.KernelPostIdeal.nD Cert.KernelPostIdeal.τ).loc Cert.KernelPostIdeal.main_v1_6) i = v6 c i)
          ∧ (∀ i : (⟨2, ![1, 512]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.2.2.2.1 i = 1#1 → r.2.mem ((c.tc : Thread Cert.KernelPostIdeal.nD Cert.KernelPostIdeal.τ).loc Cert.KernelPostIdeal.main_v1_7) i = v7 c i)
          ∧ (∀ i : (⟨2, ![1024, 1024]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.2.2.2.2 i = 1#1 → r.2.mem ((c.tc : Thread Cert.KernelPostIdeal.nD Cert.KernelPostIdeal.τ).loc Cert.KernelPostIdeal.main_v1_8) i = v8 c i)
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
          ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
          ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
          ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          (∀ i : (⟨2, ![2048, 1024]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).1 i = 1#1 → r.2.mem ((c.tc : Thread Cert.ReferencePostIdeal.nD Cert.ReferencePostIdeal.τ).loc Cert.ReferencePostIdeal.main_v97) i = v0 c i)
          ∧ (∀ i : (⟨3, ![4, 2048, 128]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.1 i = 1#1 → r.2.mem ((c.tc : Thread Cert.ReferencePostIdeal.nD Cert.ReferencePostIdeal.τ).loc Cert.ReferencePostIdeal.main_v160) i = v1 c i)
          ∧ (∀ i : (⟨2, ![2048, 512]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.1 i = 1#1 → r.2.mem ((c.tc : Thread Cert.ReferencePostIdeal.nD Cert.ReferencePostIdeal.τ).loc Cert.ReferencePostIdeal.main_v128) i = v2 c i)
          ∧ (∀ i : (⟨3, ![8, 2048, 512]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.1 i = 1#1 → r.2.mem ((c.tc : Thread Cert.ReferencePostIdeal.nD Cert.ReferencePostIdeal.τ).loc Cert.ReferencePostIdeal.main_v158) i = v3 c i)
          ∧ (∀ i : (⟨2, ![1, 128]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.1 i = 1#1 → r.2.mem ((c.tc : Thread Cert.ReferencePostIdeal.nD Cert.ReferencePostIdeal.τ).loc Cert.ReferencePostIdeal.main_v161) i = v4 c i)
          ∧ (∀ i : (⟨2, ![1, 1024]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.2.1 i = 1#1 → r.2.mem ((c.tc : Thread Cert.ReferencePostIdeal.nD Cert.ReferencePostIdeal.τ).loc Cert.ReferencePostIdeal.main_v81) i = v5 c i)
          ∧ (∀ i : (⟨2, ![1, 512]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.2.2.1 i = 1#1 → r.2.mem ((c.tc : Thread Cert.ReferencePostIdeal.nD Cert.ReferencePostIdeal.τ).loc Cert.ReferencePostIdeal.main_v153) i = v6 c i)
          ∧ (∀ i : (⟨2, ![1, 512]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.2.2.2.1 i = 1#1 → r.2.mem ((c.tc : Thread Cert.ReferencePostIdeal.nD Cert.ReferencePostIdeal.τ).loc Cert.ReferencePostIdeal.main_v127) i = v7 c i)
          ∧ (∀ i : (⟨2, ![1024, 1024]⟩ : Shape).Idx, (Cert.On_written.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8))).2.2.2.2.2.2.2.2 i = 1#1 → r.2.mem ((c.tc : Thread Cert.ReferencePostIdeal.nD Cert.ReferencePostIdeal.τ).loc Cert.ReferencePostIdeal.main_v99) i = v8 c i)
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5)
          ∧ r.2.mem ((c.tc : Thread Cert.ReferencePostIdeal.nD Cert.ReferencePostIdeal.τ).loc Cert.ReferencePostIdeal.main_arg6) = m' ((c.tc : Thread Cert.ReferencePostIdeal.nD Cert.ReferencePostIdeal.τ).loc Cert.ReferencePostIdeal.main_arg6)
          ∧ r.2.mem ((c.tc : Thread Cert.ReferencePostIdeal.nD Cert.ReferencePostIdeal.τ).loc Cert.ReferencePostIdeal.main_arg7) = m' ((c.tc : Thread Cert.ReferencePostIdeal.nD Cert.ReferencePostIdeal.τ).loc Cert.ReferencePostIdeal.main_arg7)
          ∧ r.2.mem ((c.tc : Thread Cert.ReferencePostIdeal.nD Cert.ReferencePostIdeal.τ).loc Cert.ReferencePostIdeal.main_arg8) = m' ((c.tc : Thread Cert.ReferencePostIdeal.nD Cert.ReferencePostIdeal.τ).loc Cert.ReferencePostIdeal.main_arg8))

def preserves_KernelGates_KernelGatesIdeal : Prop :=
  True

def algebraic_KernelGatesIdeal_ReferenceGatesIdeal_pre_finite_gates [hKernelGatesIdeal : Cert.KernelGatesIdeal.Facts] [hReferenceGatesIdeal : Cert.ReferenceGatesIdeal.Facts] [hPre_finite_gates : Cert.Pre_finite_gates.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal_finite_gates m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)
      ∧ m' ((c.tc : Thread Cert.ReferenceGatesIdeal.nD Cert.ReferenceGatesIdeal.τ).loc Cert.ReferenceGatesIdeal.main_arg3) = m ((c.tc : Thread Cert.KernelGatesIdeal.nD Cert.KernelGatesIdeal.τ).loc Cert.KernelGatesIdeal.main_arg3)) →
    ∃ (v0 : (c : Dev Cert.KernelGatesIdeal.nD) → Buf (Elt Ideal) ((c.tc : Thread Cert.KernelGatesIdeal.nD Cert.KernelGatesIdeal.τ).loc Cert.KernelGatesIdeal.main_v2_0)) (v1 : (c : Dev Cert.KernelGatesIdeal.nD) → Buf (Elt Ideal) ((c.tc : Thread Cert.KernelGatesIdeal.nD Cert.KernelGatesIdeal.τ).loc Cert.KernelGatesIdeal.main_v2_1)) (v2 : (c : Dev Cert.KernelGatesIdeal.nD) → Buf (Elt Ideal) ((c.tc : Thread Cert.KernelGatesIdeal.nD Cert.KernelGatesIdeal.τ).loc Cert.KernelGatesIdeal.main_v2_2)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v2_0) = v0 c
          ∧ r.2.mem ((c.tc : Thread Cert.KernelGatesIdeal.nD Cert.KernelGatesIdeal.τ).loc Cert.KernelGatesIdeal.main_v2_1) = v1 c
          ∧ r.2.mem ((c.tc : Thread Cert.KernelGatesIdeal.nD Cert.KernelGatesIdeal.τ).loc Cert.KernelGatesIdeal.main_v2_2) = v2 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
          ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v33) = v0 c
          ∧ r.2.mem ((c.tc : Thread Cert.ReferenceGatesIdeal.nD Cert.ReferenceGatesIdeal.τ).loc Cert.ReferenceGatesIdeal.main_v34) = v1 c
          ∧ r.2.mem ((c.tc : Thread Cert.ReferenceGatesIdeal.nD Cert.ReferenceGatesIdeal.τ).loc Cert.ReferenceGatesIdeal.main_v35) = v2 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2)
          ∧ r.2.mem ((c.tc : Thread Cert.ReferenceGatesIdeal.nD Cert.ReferenceGatesIdeal.τ).loc Cert.ReferenceGatesIdeal.main_arg3) = m' ((c.tc : Thread Cert.ReferenceGatesIdeal.nD Cert.ReferenceGatesIdeal.τ).loc Cert.ReferenceGatesIdeal.main_arg3))

def preserves_KernelGs_KernelGsIdeal : Prop :=
  True

def algebraic_KernelGsIdeal_ReferenceGsIdeal [hKernelGsIdeal : Cert.KernelGsIdeal.Facts] [hReferenceGsIdeal : Cert.ReferenceGsIdeal.Facts] : Prop :=
  ∀ (m : (ℓ : Loc Cert.KernelGsIdeal.nD Cert.KernelGsIdeal.τ Cert.KernelGsIdeal.sig) → Buf (Elt Ideal) ℓ) (g : Dev Cert.KernelGsIdeal.nD → PrngReg)
    (m' : (ℓ : Loc Cert.ReferenceGsIdeal.nD Cert.ReferenceGsIdeal.τ Cert.ReferenceGsIdeal.sig) → Buf (Elt Ideal) ℓ) (g' : Dev Cert.ReferenceGsIdeal.nD → PrngReg), Pre_KernelGsIdeal m →
    (∀ c : Dev Cert.KernelGsIdeal.nD,
      m' ((c.tc : Thread Cert.ReferenceGsIdeal.nD Cert.ReferenceGsIdeal.τ).loc Cert.ReferenceGsIdeal.main_arg0) = m ((c.tc : Thread Cert.KernelGsIdeal.nD Cert.KernelGsIdeal.τ).loc Cert.KernelGsIdeal.main_arg0)
      ∧ m' ((c.tc : Thread Cert.ReferenceGsIdeal.nD Cert.ReferenceGsIdeal.τ).loc Cert.ReferenceGsIdeal.main_arg1) = m ((c.tc : Thread Cert.KernelGsIdeal.nD Cert.KernelGsIdeal.τ).loc Cert.KernelGsIdeal.main_arg1)
      ∧ m' ((c.tc : Thread Cert.ReferenceGsIdeal.nD Cert.ReferenceGsIdeal.τ).loc Cert.ReferenceGsIdeal.main_arg2) = m ((c.tc : Thread Cert.KernelGsIdeal.nD Cert.KernelGsIdeal.τ).loc Cert.KernelGsIdeal.main_arg2)) →
    ∃ (v0 : (c : Dev Cert.KernelGsIdeal.nD) → Buf (Elt Ideal) ((c.tc : Thread Cert.KernelGsIdeal.nD Cert.KernelGsIdeal.τ).loc Cert.KernelGsIdeal.main_v14)),
      θ_run (Cert.KernelGsIdeal.defs (F := Ideal)) (onTc (τ := Cert.KernelGsIdeal.τ) (Cert.KernelGsIdeal.main (F := Ideal))) ⟨m, fun _ => 0, g⟩ (fun r => ∀ c : Dev Cert.KernelGsIdeal.nD,
          r.2.mem ((c.tc : Thread Cert.KernelGsIdeal.nD Cert.KernelGsIdeal.τ).loc Cert.KernelGsIdeal.main_v14) = v0 c
          ∧ r.2.mem ((c.tc : Thread Cert.KernelGsIdeal.nD Cert.KernelGsIdeal.τ).loc Cert.KernelGsIdeal.main_arg0) = m ((c.tc : Thread Cert.KernelGsIdeal.nD Cert.KernelGsIdeal.τ).loc Cert.KernelGsIdeal.main_arg0)
          ∧ r.2.mem ((c.tc : Thread Cert.KernelGsIdeal.nD Cert.KernelGsIdeal.τ).loc Cert.KernelGsIdeal.main_arg1) = m ((c.tc : Thread Cert.KernelGsIdeal.nD Cert.KernelGsIdeal.τ).loc Cert.KernelGsIdeal.main_arg1)
          ∧ r.2.mem ((c.tc : Thread Cert.KernelGsIdeal.nD Cert.KernelGsIdeal.τ).loc Cert.KernelGsIdeal.main_arg2) = m ((c.tc : Thread Cert.KernelGsIdeal.nD Cert.KernelGsIdeal.τ).loc Cert.KernelGsIdeal.main_arg2))
      ∧ θ_run (Cert.ReferenceGsIdeal.defs (F := Ideal)) (onTc (τ := Cert.ReferenceGsIdeal.τ) (Cert.ReferenceGsIdeal.main (F := Ideal))) ⟨m', fun _ => 0, g'⟩ (fun r => ∀ c : Dev Cert.ReferenceGsIdeal.nD,
          r.2.mem ((c.tc : Thread Cert.ReferenceGsIdeal.nD Cert.ReferenceGsIdeal.τ).loc Cert.ReferenceGsIdeal.main_v15) = v0 c
          ∧ r.2.mem ((c.tc : Thread Cert.ReferenceGsIdeal.nD Cert.ReferenceGsIdeal.τ).loc Cert.ReferenceGsIdeal.main_arg0) = m' ((c.tc : Thread Cert.ReferenceGsIdeal.nD Cert.ReferenceGsIdeal.τ).loc Cert.ReferenceGsIdeal.main_arg0)
          ∧ r.2.mem ((c.tc : Thread Cert.ReferenceGsIdeal.nD Cert.ReferenceGsIdeal.τ).loc Cert.ReferenceGsIdeal.main_arg1) = m' ((c.tc : Thread Cert.ReferenceGsIdeal.nD Cert.ReferenceGsIdeal.τ).loc Cert.ReferenceGsIdeal.main_arg1)
          ∧ r.2.mem ((c.tc : Thread Cert.ReferenceGsIdeal.nD Cert.ReferenceGsIdeal.τ).loc Cert.ReferenceGsIdeal.main_arg2) = m' ((c.tc : Thread Cert.ReferenceGsIdeal.nD Cert.ReferenceGsIdeal.τ).loc Cert.ReferenceGsIdeal.main_arg2))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v1) = v0 c
          ∧ r.2.mem ((c.tc : Thread Cert.ReferenceAdamIdeal.nD Cert.ReferenceAdamIdeal.τ).loc Cert.ReferenceAdamIdeal.main_v25) = v1 c
          ∧ r.2.mem ((c.tc : Thread Cert.ReferenceAdamIdeal.nD Cert.ReferenceAdamIdeal.τ).loc Cert.ReferenceAdamIdeal.main_v6) = v2 c
          ∧ r.2.mem ((c.tc : Thread Cert.ReferenceAdamIdeal.nD Cert.ReferenceAdamIdeal.τ).loc Cert.ReferenceAdamIdeal.main_v12) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v0)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v57) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelAc_KernelAcIdeal : Prop :=
  True

def algebraic_KernelAcIdeal_ReferenceAcIdeal [hKernelAcIdeal : Cert.KernelAcIdeal.Facts] [hReferenceAcIdeal : Cert.ReferenceAcIdeal.Facts] : Prop :=
  ∀ (m : (ℓ : Loc Cert.KernelAcIdeal.nD Cert.KernelAcIdeal.τ Cert.KernelAcIdeal.sig) → Buf (Elt Ideal) ℓ) (g : Dev Cert.KernelAcIdeal.nD → PrngReg)
    (m' : (ℓ : Loc Cert.ReferenceAcIdeal.nD Cert.ReferenceAcIdeal.τ Cert.ReferenceAcIdeal.sig) → Buf (Elt Ideal) ℓ) (g' : Dev Cert.ReferenceAcIdeal.nD → PrngReg), Pre_KernelAcIdeal m →
    (∀ c : Dev Cert.KernelAcIdeal.nD,
      m' ((c.tc : Thread Cert.ReferenceAcIdeal.nD Cert.ReferenceAcIdeal.τ).loc Cert.ReferenceAcIdeal.main_arg0) = m ((c.tc : Thread Cert.KernelAcIdeal.nD Cert.KernelAcIdeal.τ).loc Cert.KernelAcIdeal.main_arg0)
      ∧ m' ((c.tc : Thread Cert.ReferenceAcIdeal.nD Cert.ReferenceAcIdeal.τ).loc Cert.ReferenceAcIdeal.main_arg1) = m ((c.tc : Thread Cert.KernelAcIdeal.nD Cert.KernelAcIdeal.τ).loc Cert.KernelAcIdeal.main_arg1)
      ∧ m' ((c.tc : Thread Cert.ReferenceAcIdeal.nD Cert.ReferenceAcIdeal.τ).loc Cert.ReferenceAcIdeal.main_arg2) = m ((c.tc : Thread Cert.KernelAcIdeal.nD Cert.KernelAcIdeal.τ).loc Cert.KernelAcIdeal.main_arg2)
      ∧ m' ((c.tc : Thread Cert.ReferenceAcIdeal.nD Cert.ReferenceAcIdeal.τ).loc Cert.ReferenceAcIdeal.main_arg3) = m ((c.tc : Thread Cert.KernelAcIdeal.nD Cert.KernelAcIdeal.τ).loc Cert.KernelAcIdeal.main_arg3)) →
    ∃ (v0 : (c : Dev Cert.KernelAcIdeal.nD) → Buf (Elt Ideal) ((c.tc : Thread Cert.KernelAcIdeal.nD Cert.KernelAcIdeal.τ).loc Cert.KernelAcIdeal.main_v0_0)) (v1 : (c : Dev Cert.KernelAcIdeal.nD) → Buf (Elt Ideal) ((c.tc : Thread Cert.KernelAcIdeal.nD Cert.KernelAcIdeal.τ).loc Cert.KernelAcIdeal.main_v0_1)) (v2 : (c : Dev Cert.KernelAcIdeal.nD) → Buf (Elt Ideal) ((c.tc : Thread Cert.KernelAcIdeal.nD Cert.KernelAcIdeal.τ).loc Cert.KernelAcIdeal.main_v0_2)) (v3 : (c : Dev Cert.KernelAcIdeal.nD) → Buf (Elt Ideal) ((c.tc : Thread Cert.KernelAcIdeal.nD Cert.KernelAcIdeal.τ).loc Cert.KernelAcIdeal.main_v0_3)),
      θ_run (Cert.KernelAcIdeal.defs (F := Ideal)) (onTc (τ := Cert.KernelAcIdeal.τ) (Cert.KernelAcIdeal.main (F := Ideal))) ⟨m, fun _ => 0, g⟩ (fun r => ∀ c : Dev Cert.KernelAcIdeal.nD,
          r.2.mem ((c.tc : Thread Cert.KernelAcIdeal.nD Cert.KernelAcIdeal.τ).loc Cert.KernelAcIdeal.main_v0_0) = v0 c
          ∧ r.2.mem ((c.tc : Thread Cert.KernelAcIdeal.nD Cert.KernelAcIdeal.τ).loc Cert.KernelAcIdeal.main_v0_1) = v1 c
          ∧ r.2.mem ((c.tc : Thread Cert.KernelAcIdeal.nD Cert.KernelAcIdeal.τ).loc Cert.KernelAcIdeal.main_v0_2) = v2 c
          ∧ r.2.mem ((c.tc : Thread Cert.KernelAcIdeal.nD Cert.KernelAcIdeal.τ).loc Cert.KernelAcIdeal.main_v0_3) = v3 c
          ∧ r.2.mem ((c.tc : Thread Cert.KernelAcIdeal.nD Cert.KernelAcIdeal.τ).loc Cert.KernelAcIdeal.main_arg0) = m ((c.tc : Thread Cert.KernelAcIdeal.nD Cert.KernelAcIdeal.τ).loc Cert.KernelAcIdeal.main_arg0)
          ∧ r.2.mem ((c.tc : Thread Cert.KernelAcIdeal.nD Cert.KernelAcIdeal.τ).loc Cert.KernelAcIdeal.main_arg1) = m ((c.tc : Thread Cert.KernelAcIdeal.nD Cert.KernelAcIdeal.τ).loc Cert.KernelAcIdeal.main_arg1)
          ∧ r.2.mem ((c.tc : Thread Cert.KernelAcIdeal.nD Cert.KernelAcIdeal.τ).loc Cert.KernelAcIdeal.main_arg2) = m ((c.tc : Thread Cert.KernelAcIdeal.nD Cert.KernelAcIdeal.τ).loc Cert.KernelAcIdeal.main_arg2)
          ∧ r.2.mem ((c.tc : Thread Cert.KernelAcIdeal.nD Cert.KernelAcIdeal.τ).loc Cert.KernelAcIdeal.main_arg3) = m ((c.tc : Thread Cert.KernelAcIdeal.nD Cert.KernelAcIdeal.τ).loc Cert.KernelAcIdeal.main_arg3))
      ∧ θ_run (Cert.ReferenceAcIdeal.defs (F := Ideal)) (onTc (τ := Cert.ReferenceAcIdeal.τ) (Cert.ReferenceAcIdeal.main (F := Ideal))) ⟨m', fun _ => 0, g'⟩ (fun r => ∀ c : Dev Cert.ReferenceAcIdeal.nD,
          r.2.mem ((c.tc : Thread Cert.ReferenceAcIdeal.nD Cert.ReferenceAcIdeal.τ).loc Cert.ReferenceAcIdeal.main_v0) = v0 c
          ∧ r.2.mem ((c.tc : Thread Cert.ReferenceAcIdeal.nD Cert.ReferenceAcIdeal.τ).loc Cert.ReferenceAcIdeal.main_v24) = v1 c
          ∧ r.2.mem ((c.tc : Thread Cert.ReferenceAcIdeal.nD Cert.ReferenceAcIdeal.τ).loc Cert.ReferenceAcIdeal.main_v5) = v2 c
          ∧ r.2.mem ((c.tc : Thread Cert.ReferenceAcIdeal.nD Cert.ReferenceAcIdeal.τ).loc Cert.ReferenceAcIdeal.main_v11) = v3 c
          ∧ r.2.mem ((c.tc : Thread Cert.ReferenceAcIdeal.nD Cert.ReferenceAcIdeal.τ).loc Cert.ReferenceAcIdeal.main_arg0) = m' ((c.tc : Thread Cert.ReferenceAcIdeal.nD Cert.ReferenceAcIdeal.τ).loc Cert.ReferenceAcIdeal.main_arg0)
          ∧ r.2.mem ((c.tc : Thread Cert.ReferenceAcIdeal.nD Cert.ReferenceAcIdeal.τ).loc Cert.ReferenceAcIdeal.main_arg1) = m' ((c.tc : Thread Cert.ReferenceAcIdeal.nD Cert.ReferenceAcIdeal.τ).loc Cert.ReferenceAcIdeal.main_arg1)
          ∧ r.2.mem ((c.tc : Thread Cert.ReferenceAcIdeal.nD Cert.ReferenceAcIdeal.τ).loc Cert.ReferenceAcIdeal.main_arg2) = m' ((c.tc : Thread Cert.ReferenceAcIdeal.nD Cert.ReferenceAcIdeal.τ).loc Cert.ReferenceAcIdeal.main_arg2)
          ∧ r.2.mem ((c.tc : Thread Cert.ReferenceAcIdeal.nD Cert.ReferenceAcIdeal.τ).loc Cert.ReferenceAcIdeal.main_arg3) = m' ((c.tc : Thread Cert.ReferenceAcIdeal.nD Cert.ReferenceAcIdeal.τ).loc Cert.ReferenceAcIdeal.main_arg3))

def Claim : Prop :=
  ∃ (hKernelDx : Cert.KernelDx.Facts) (hKernelDxIdeal : Cert.KernelDxIdeal.Facts) (hReferenceDxIdeal : Cert.ReferenceDxIdeal.Facts) (hKernelIn : Cert.KernelIn.Facts) (hKernelInIdeal : Cert.KernelInIdeal.Facts) (hReferenceInIdeal : Cert.ReferenceInIdeal.Facts) (hKernelGw : Cert.KernelGw.Facts) (hKernelGwIdeal : Cert.KernelGwIdeal.Facts) (hReferenceGwIdeal : Cert.ReferenceGwIdeal.Facts) (hKernelPost : Cert.KernelPost.Facts) (hKernelPostIdeal : Cert.KernelPostIdeal.Facts) (hReferencePostIdeal : Cert.ReferencePostIdeal.Facts) (hKernelGates : Cert.KernelGates.Facts) (hKernelGatesIdeal : Cert.KernelGatesIdeal.Facts) (hReferenceGatesIdeal : Cert.ReferenceGatesIdeal.Facts) (hKernelGs : Cert.KernelGs.Facts) (hKernelGsIdeal : Cert.KernelGsIdeal.Facts) (hReferenceGsIdeal : Cert.ReferenceGsIdeal.Facts) (hKernelAdam : Cert.KernelAdam.Facts) (hKernelAdamIdeal : Cert.KernelAdamIdeal.Facts) (hReferenceAdamIdeal : Cert.ReferenceAdamIdeal.Facts) (hKernelConv : Cert.KernelConv.Facts) (hKernelConvIdeal : Cert.KernelConvIdeal.Facts) (hReferenceConvIdeal : Cert.ReferenceConvIdeal.Facts) (hKernelAc : Cert.KernelAc.Facts) (hKernelAcIdeal : Cert.KernelAcIdeal.Facts) (hReferenceAcIdeal : Cert.ReferenceAcIdeal.Facts) (hPre_finite_dx : Cert.Pre_finite_dx.Facts) (hPre_finite_post : Cert.Pre_finite_post.Facts) (hPre_finite_gates : Cert.Pre_finite_gates.Facts) (hOn_written : Cert.On_written.Facts),
    quiescent_KernelDx (hKernelDx := hKernelDx)
    ∧ quiescent_KernelDxIdeal (hKernelDxIdeal := hKernelDxIdeal)
    ∧ quiescent_KernelDxIdeal_pre_finite_dx (hKernelDxIdeal := hKernelDxIdeal) (hPre_finite_dx := hPre_finite_dx)
    ∧ quiescent_ReferenceDxIdeal (hReferenceDxIdeal := hReferenceDxIdeal)
    ∧ quiescent_ReferenceDxIdeal_pre_finite_dx (hReferenceDxIdeal := hReferenceDxIdeal) (hPre_finite_dx := hPre_finite_dx)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGw (hKernelGw := hKernelGw)
    ∧ quiescent_KernelGwIdeal (hKernelGwIdeal := hKernelGwIdeal)
    ∧ quiescent_ReferenceGwIdeal (hReferenceGwIdeal := hReferenceGwIdeal)
    ∧ quiescent_KernelPost (hKernelPost := hKernelPost)
    ∧ quiescent_KernelPostIdeal (hKernelPostIdeal := hKernelPostIdeal)
    ∧ quiescent_KernelPostIdeal_pre_finite_post (hKernelPostIdeal := hKernelPostIdeal) (hPre_finite_post := hPre_finite_post)
    ∧ quiescent_ReferencePostIdeal (hReferencePostIdeal := hReferencePostIdeal)
    ∧ quiescent_ReferencePostIdeal_pre_finite_post (hReferencePostIdeal := hReferencePostIdeal) (hPre_finite_post := hPre_finite_post)
    ∧ quiescent_KernelGates (hKernelGates := hKernelGates)
    ∧ quiescent_KernelGatesIdeal (hKernelGatesIdeal := hKernelGatesIdeal)
    ∧ quiescent_KernelGatesIdeal_pre_finite_gates (hKernelGatesIdeal := hKernelGatesIdeal) (hPre_finite_gates := hPre_finite_gates)
    ∧ quiescent_ReferenceGatesIdeal (hReferenceGatesIdeal := hReferenceGatesIdeal)
    ∧ quiescent_ReferenceGatesIdeal_pre_finite_gates (hReferenceGatesIdeal := hReferenceGatesIdeal) (hPre_finite_gates := hPre_finite_gates)
    ∧ quiescent_KernelGs (hKernelGs := hKernelGs)
    ∧ quiescent_KernelGsIdeal (hKernelGsIdeal := hKernelGsIdeal)
    ∧ quiescent_ReferenceGsIdeal (hReferenceGsIdeal := hReferenceGsIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelAc (hKernelAc := hKernelAc)
    ∧ quiescent_KernelAcIdeal (hKernelAcIdeal := hKernelAcIdeal)
    ∧ quiescent_ReferenceAcIdeal (hReferenceAcIdeal := hReferenceAcIdeal)
    ∧ preserves_KernelDx_KernelDxIdeal
    ∧ algebraic_KernelDxIdeal_ReferenceDxIdeal_pre_finite_dx (hKernelDxIdeal := hKernelDxIdeal) (hReferenceDxIdeal := hReferenceDxIdeal) (hPre_finite_dx := hPre_finite_dx)
    ∧ preserves_KernelIn_KernelInIdeal
    ∧ algebraic_KernelInIdeal_ReferenceInIdeal (hKernelInIdeal := hKernelInIdeal) (hReferenceInIdeal := hReferenceInIdeal)
    ∧ preserves_KernelGw_KernelGwIdeal
    ∧ algebraic_KernelGwIdeal_ReferenceGwIdeal (hKernelGwIdeal := hKernelGwIdeal) (hReferenceGwIdeal := hReferenceGwIdeal)
    ∧ preserves_KernelPost_KernelPostIdeal
    ∧ algebraic_KernelPostIdeal_ReferencePostIdeal_on_written_pre_finite_post (hKernelPostIdeal := hKernelPostIdeal) (hReferencePostIdeal := hReferencePostIdeal) (hPre_finite_post := hPre_finite_post) (hOn_written := hOn_written)
    ∧ preserves_KernelGates_KernelGatesIdeal
    ∧ algebraic_KernelGatesIdeal_ReferenceGatesIdeal_pre_finite_gates (hKernelGatesIdeal := hKernelGatesIdeal) (hReferenceGatesIdeal := hReferenceGatesIdeal) (hPre_finite_gates := hPre_finite_gates)
    ∧ preserves_KernelGs_KernelGsIdeal
    ∧ algebraic_KernelGsIdeal_ReferenceGsIdeal (hKernelGsIdeal := hKernelGsIdeal) (hReferenceGsIdeal := hReferenceGsIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelConv_KernelConvIdeal
    ∧ algebraic_KernelConvIdeal_ReferenceConvIdeal (hKernelConvIdeal := hKernelConvIdeal) (hReferenceConvIdeal := hReferenceConvIdeal)
    ∧ preserves_KernelAc_KernelAcIdeal
    ∧ algebraic_KernelAcIdeal_ReferenceAcIdeal (hKernelAcIdeal := hKernelAcIdeal) (hReferenceAcIdeal := hReferenceAcIdeal)
-- ==== On_written.lean ====
abbrev S4x2048x128 : Shape := ⟨3, ![4, 2048, 128]⟩
abbrev S2048x512 : Shape := ⟨2, ![2048, 512]⟩
abbrev S2048x1024 : Shape := ⟨2, ![2048, 1024]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩
abbrev S8x2048x512 : Shape := ⟨3, ![8, 2048, 512]⟩
abbrev S1x128 : Shape := ⟨2, ![1, 128]⟩

class Facts : Prop where
  bcast_S_S2048x1024 : S_.BroadcastsInDim S2048x1024 (![] : Fin 0 → Fin S2048x1024.rank)
  bcast_S_S4x2048x128 : S_.BroadcastsInDim S4x2048x128 (![] : Fin 0 → Fin S4x2048x128.rank)
  bcast_S_S2048x512 : S_.BroadcastsInDim S2048x512 (![] : Fin 0 → Fin S2048x512.rank)
  bcast_S_S8x2048x512 : S_.BroadcastsInDim S8x2048x512 (![] : Fin 0 → Fin S8x2048x512.rank)
  bcast_S_S1x128 : S_.BroadcastsInDim S1x128 (![] : Fin 0 → Fin S1x128.rank)
  bcast_S_S1x1024 : S_.BroadcastsInDim S1x1024 (![] : Fin 0 → Fin S1x1024.rank)
  bcast_S_S1x512 : S_.BroadcastsInDim S1x512 (![] : Fin 0 → Fin S1x512.rank)
  bcast_S_S1024x1024 : S_.BroadcastsInDim S1024x1024 (![] : Fin 0 → Fin S1024x1024.rank)

variable [Facts]

def fn {F : FTy → Type} [FloatOps F] (main_arg0 : FVec F S4x2048x128 .f32) (main_arg1 : FVec F S2048x512 .f32) (main_arg2 : FVec F S2048x1024 .f32) (main_arg3 : FVec F S2048x1024 .f32) (main_arg4 : FVec F S2048x1024 .f32) (main_arg5 : FVec F S1024x1024 .f32) (main_arg6 : FVec F S1x512 .f32) (main_arg7 : FVec F S1x512 .f32) (main_arg8 : FVec F S1x1024 .f32) : IVec S2048x1024 1 × IVec S4x2048x128 1 × IVec S2048x512 1 × IVec S8x2048x512 1 × IVec S1x128 1 × IVec S1x1024 1 × IVec S1x512 1 × IVec S1x512 1 × IVec S1024x1024 1 :=
  let main_c : IVec S_ 1 := constantI S_ 1 1#1
  let main_v0 : IVec S2048x1024 1 := broadcastInDim S2048x1024 ![] bcast_S_S2048x1024 main_c
  let main_c_0 : IVec S_ 1 := constantI S_ 1 1#1
  let main_v1 : IVec S4x2048x128 1 := broadcastInDim S4x2048x128 ![] bcast_S_S4x2048x128 main_c_0
  let main_c_1 : IVec S_ 1 := constantI S_ 1 1#1
  let main_v2 : IVec S2048x512 1 := broadcastInDim S2048x512 ![] bcast_S_S2048x512 main_c_1
  let main_v3 : IVec S8x2048x512 32 := iotaInDim S8x2048x512 32 0
  let main_c_2 : IVec S_ 32 := constantI S_ 32 6#32
  let main_v4 : IVec S8x2048x512 32 := broadcastInDim S8x2048x512 ![] bcast_S_S8x2048x512 main_c_2
  let main_v5 : IVec S8x2048x512 1 := cmpi .sge main_v3 main_v4
  let main_c_3 : IVec S_ 1 := constantI S_ 1 1#1
  let main_v6 : IVec S1x128 1 := broadcastInDim S1x128 ![] bcast_S_S1x128 main_c_3
  let main_c_4 : IVec S_ 1 := constantI S_ 1 1#1
  let main_v7 : IVec S1x1024 1 := broadcastInDim S1x1024 ![] bcast_S_S1x1024 main_c_4
  let main_c_5 : IVec S_ 1 := constantI S_ 1 1#1
  let main_v8 : IVec S1x512 1 := broadcastInDim S1x512 ![] bcast_S_S1x512 main_c_5
  let main_c_6 : IVec S_ 1 := constantI S_ 1 1#1
  let main_v9 : IVec S1x512 1 := broadcastInDim S1x512 ![] bcast_S_S1x512 main_c_6
  let main_c_7 : IVec S_ 1 := constantI S_ 1 1#1
  let main_v10 : IVec S1024x1024 1 := broadcastInDim S1024x1024 ![] bcast_S_S1024x1024 main_c_7
  (main_v0, main_v1, main_v2, main_v5, main_v6, main_v7, main_v8, main_v9, main_v10)
-- ==== Pre_finite_dx.lean ====
abbrev S8x2048x512 : Shape := ⟨3, ![8, 2048, 512]⟩
abbrev S2048x128 : Shape := ⟨2, ![2048, 128]⟩
abbrev S1024x4096 : Shape := ⟨2, ![1024, 4096]⟩
abbrev S1024x128 : Shape := ⟨2, ![1024, 128]⟩
abbrev S2048x1024 : Shape := ⟨2, ![2048, 1024]⟩
abbrev S1x1024 : Shape := ⟨2, ![1, 1024]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024x128 : S_.BroadcastsInDim S1024x128 (![] : Fin 0 → Fin S1024x128.rank)
  reducesTo_S1024x128_S_d0_1 : S1024x128.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S2048x1024 .f32) (main_arg6 : FVec F S1x1024 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1x1024 .f32 := Host.absf main_arg6
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S8x2048x512 .f32) (main_arg1 : FVec F S2048x128 .f32) (main_arg2 : FVec F S1024x4096 .f32) (main_arg3 : FVec F S1024x128 .f32) (main_arg4 : FVec F S2048x1024 .f32) (main_arg5 : FVec F S2048x1024 .f32) (main_arg6 : FVec F S1x1024 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg6 main_v13 main_v16
-- ==== Pre_finite_gates.lean ====
abbrev S2048x128 : Shape := ⟨2, ![2048, 128]⟩
abbrev S1x4 : Shape := ⟨2, ![1, 4]⟩
abbrev S2048x4 : Shape := ⟨2, ![2048, 4]⟩
abbrev S_ : Shape := ⟨0, ![]⟩

class Facts : Prop where
  slices_S2048x128_S2048x4_0_4 : S2048x128.Slices ![0, 4] S2048x4
  bcast_S_S2048x4 : S_.BroadcastsInDim S2048x4 (![] : Fin 0 → Fin S2048x4.rank)
  reducesTo_S2048x4_S_d0_1 : S2048x4.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_v14 : IVec S_ 1) (main_v16 : FVec F S2048x4 .f32) (main_cst_4 : FVec F S_ .f32) : IVec S_ 1 :=
  let main_v17 : FVec F S2048x4 .f32 := broadcastInDim S2048x4 ![] bcast_S_S2048x4 main_cst_4
  let main_v18 : IVec S2048x4 1 := cmpf .olt main_v16 main_v17
  let main_c_5 : IVec S_ 1 := constantI S_ 1 1#1
  let main_v19 : IVec S_ 1 := (fun x v => Host.reduce IntOp.andi x v reducesTo_S2048x4_S_d0_1 h_S_) main_v18 main_c_5
  let main_v20 : IVec S_ 1 := andi main_v14 main_v19
  main_v20

def fn {F : FTy → Type} [FloatOps F] (main_arg0 : FVec F S2048x128 .f32) (main_arg1 : FVec F S1x4 .f32) (main_arg2 : FVec F S1x4 .f32) (main_arg3 : FVec F S2048x128 .f32) : IVec S_ 1 :=
  let main_v0 : FVec F S2048x4 .f32 := (extractStridedSlice S2048x4 ![0, 4] · slices_S2048x128_S2048x4_0_4) main_arg0
  let main_v1 : FVec F S2048x4 .f32 := Host.absf main_v0
  let main_cst : FVec F S_ .f32 := constant S_ .f32 0x7F800000#32
  let main_v2 : FVec F S2048x4 .f32 := broadcastInDim S2048x4 ![] bcast_S_S2048x4 main_cst
  let main_v3 : IVec S2048x4 1 := cmpf .olt main_v1 main_v2
  let main_c : IVec S_ 1 := constantI S_ 1 1#1
  let main_v4 : IVec S_ 1 := (fun x v => Host.reduce IntOp.andi x v reducesTo_S2048x4_S_d0_1 h_S_) main_v3 main_c
  let main_v5 : FVec F S1x4 .f32 := Host.absf main_arg1
  let main_cst_0 : FVec F S_ .f32 := constant S_ .f32 0x7F800000#32
  let main_v6 : FVec F S1x4 .f32 := broadcastInDim S1x4 ![] bcast_S_S1x4 main_cst_0
  let main_v7 : IVec S1x4 1 := cmpf .olt main_v5 main_v6
  let main_c_1 : IVec S_ 1 := constantI S_ 1 1#1
  let main_v8 : IVec S_ 1 := (fun x v => Host.reduce IntOp.andi x v reducesTo_S1x4_S_d0_1 h_S_) main_v7 main_c_1
  let main_v9 : IVec S_ 1 := andi main_v4 main_v8
  let main_v10 : FVec F S1x4 .f32 := Host.absf main_arg2
  let main_cst_2 : FVec F S_ .f32 := constant S_ .f32 0x7F800000#32
  let main_v11 : FVec F S1x4 .f32 := broadcastInDim S1x4 ![] bcast_S_S1x4 main_cst_2
  let main_v12 : IVec S1x4 1 := cmpf .olt main_v10 main_v11
  let main_c_3 : IVec S_ 1 := constantI S_ 1 1#1
  let main_v13 : IVec S_ 1 := (fun x v => Host.reduce IntOp.andi x v reducesTo_S1x4_S_d0_1 h_S_) main_v12 main_c_3
  let main_v14 : IVec S_ 1 := andi main_v9 main_v13
  let main_v15 : FVec F S2048x4 .f32 := (extractStridedSlice S2048x4 ![0, 4] · slices_S2048x128_S2048x4_0_4) main_arg3
  let main_v16 : FVec F S2048x4 .f32 := Host.absf main_v15
  let main_cst_4 : FVec F S_ .f32 := constant S_ .f32 0x7F800000#32
  fn_part1 (F := F) main_v14 main_v16 main_cst_4
-- ==== Pre_finite_post.lean ====
abbrev S4x2048x128 : Shape := ⟨3, ![4, 2048, 128]⟩
abbrev S2048x512 : Shape := ⟨2, ![2048, 512]⟩
abbrev S2048x1024 : Shape := ⟨2, ![2048, 1024]⟩
abbrev S1024x1024 : Shape := ⟨2, ![1024, 1024]⟩
abbrev S1x512 : Shape := ⟨2, ![1, 512]⟩
abbrev S1x1024 : Shape := ⟨2, ![1, 1024]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x512 .f32) (main_arg8 : FVec F S1x1024 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  main_v43

def fn_part1 {F : FTy → Type} [FloatOps F] (main_arg4 : FVec F S2048x1024 .f32) (main_arg5 : FVec F S1024x1024 .f32) (main_arg6 : FVec F S1x512 .f32) (main_arg7 : FVec F S1x512 .f32) (main_arg8 : FVec F S1x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_v33

def fn {F : FTy → Type} [FloatOps F] (main_arg0 : FVec F S4x2048x128 .f32) (main_arg1 : FVec F S2048x512 .f32) (main_arg2 : FVec F S2048x1024 .f32) (main_arg3 : FVec F S2048x1024 .f32) (main_arg4 : FVec F S2048x1024 .f32) (main_arg5 : FVec F S1024x1024 .f32) (main_arg6 : FVec F S1x512 .f32) (main_arg7 : FVec F S1x512 .f32) (main_arg8 : FVec F S1x1024 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_v13 main_v16
-- ==== KernelDx.lean ====
abbrev S8x2048x512 : Shape := ⟨3, ![8, 2048, 512]⟩
abbrev S2048x128 : Shape := ⟨2, ![2048, 128]⟩
abbrev S1024x4096 : Shape := ⟨2, ![1024, 4096]⟩
abbrev S1024x128 : Shape := ⟨2, ![1024, 128]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S8x256x512 : Shape := ⟨3, ![8, 256, 512]⟩
abbrev S256x128 : Shape := ⟨2, ![256, 128]⟩
abbrev S256x1024 : Shape := ⟨2, ![256, 1024]⟩
abbrev S256x1 : Shape := ⟨2, ![256, 1]⟩
abbrev S1x256x512 : Shape := ⟨3, ![1, 256, 512]⟩
abbrev S256x512 : Shape := ⟨2, ![256, 512]⟩
abbrev S1024x512 : Shape := ⟨2, ![1024, 512]⟩
abbrev S256 : Shape := ⟨1, ![256]⟩
abbrev S1024 : Shape := ⟨1, ![1024]⟩

abbrev nBuf : Space → Nat
  | .hbm => 22
  | .vmem => 16
  | .smem => 0
  | _ => 0

abbrev bufTy : (tb : Table) → Fin (tcTables nBuf tb) → BufTy
  | .hbm, ⟨0, _⟩ => ⟨S8x2048x512, .f32⟩
  | .hbm, ⟨1, _⟩ => ⟨S2048x128, .f32⟩
  | .hbm, ⟨2, _⟩ => ⟨S1024x4096, .f32⟩
  | .hbm, ⟨3, _⟩ => ⟨S1024x128, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S1024x4096, .bf16⟩
  | .hbm, ⟨19, _⟩ => ⟨S1024x128, .bf16⟩
  | .hbm, ⟨20, _⟩ => ⟨S2048x1024, .f32⟩
  | .hbm, ⟨21, _⟩ => ⟨S1x1024, .f32⟩
  | .local _ .vmem, ⟨0, _⟩ => ⟨S8x256x512, .f32⟩
  | .local _ .vmem, ⟨1, _⟩ => ⟨S8x256x512, .f32⟩
  | .local _ .vmem, ⟨2, _⟩ => ⟨S256x128, .f32⟩
  | .local _ .vmem, ⟨3, _⟩ => ⟨S256x128, .f32⟩
  | .local _ .vmem, ⟨4, _⟩ => ⟨S1024x4096, .bf16⟩
  | .local _ .vmem, ⟨5, _⟩ => ⟨S1024x128, .bf16⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceDxIdeal.lean ====
abbrev S8x2048x512 : Shape := ⟨3, ![8, 2048, 512]⟩
abbrev S2048x128 : Shape := ⟨2, ![2048, 128]⟩
abbrev S1024x4096 : Shape := ⟨2, ![1024, 4096]⟩
abbrev S1024x128 : Shape := ⟨2, ![1024, 128]⟩
abbrev S2048x1024 : Shape := ⟨2, ![2048, 1024]⟩
abbrev S1x1024 : Shape := ⟨2, ![1, 1024]⟩
abbrev S1x2048x512 : Shape := ⟨3, ![1, 2048, 512]⟩
abbrev S2048x512 : Shape := ⟨2, ![2048, 512]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2048x128, .f32⟩
  | .hbm, ⟨2, _⟩ => ⟨S1024x4096, .f32⟩
  | .hbm, ⟨3, _⟩ => ⟨S1024x128, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S2048x512, .f32⟩
  | .hbm, ⟨11, _⟩ => ⟨S1x2048x512, .f32⟩
  | .hbm, ⟨12, _⟩ => ⟨S2048x512, .f32⟩
  | .hbm, ⟨13, _⟩ => ⟨S1x2048x512, .f32⟩
  | .hbm, ⟨14, _⟩ => ⟨S2048x512, .f32⟩
  | .hbm, ⟨15, _⟩ => ⟨S1x2048x512, .f32⟩
  | .hbm, ⟨16, _⟩ => ⟨S2048x512, .f32⟩
  | .hbm, ⟨17, _⟩ => ⟨S1x2048x512, .f32⟩
  | .hbm, ⟨18, _⟩ => ⟨S2048x512, .f32⟩
  | .hbm, ⟨19, _⟩ => ⟨S1x2048x512, .f32⟩
  | .hbm, ⟨20, _⟩ => ⟨S2048x512, .f32⟩
  | .hbm, ⟨21, _⟩ => ⟨S1x2048x512, .f32⟩
  | .hbm, ⟨22, _⟩ => ⟨S2048x512, .f32⟩
  | .hbm, ⟨23, _⟩ => ⟨S2048x4096, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x4096, .f32⟩
  | .hbm, ⟨44, _⟩ => ⟨S2048x128, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== KernelIn.lean ====
abbrev S2048x1024 : Shape := ⟨2, ![2048, 1024]⟩
abbrev S1x1024 : Shape := ⟨2, ![1, 1024]⟩
abbrev S1024x4096 : Shape := ⟨2, ![1024, 4096]⟩
abbrev S1024x128 : Shape := ⟨2, ![1024, 128]⟩
abbrev S1024x8 : Shape := ⟨2, ![1024, 8]⟩
abbrev S8x1024 : Shape := ⟨2, ![8, 1024]⟩
abbrev S24x2048x128 : Shape := ⟨3, ![24, 2048, 128]⟩
abbrev S2048x128 : Shape := ⟨2, ![2048, 128]⟩
abbrev S8x2048 : Shape := ⟨2, ![8, 2048]⟩
abbrev S1024x2048 : Shape := ⟨2, ![1024, 2048]⟩
abbrev S2048x1 : Shape := ⟨2, ![2048, 1]⟩
abbrev S256x1024 : Shape := ⟨2, ![256, 1024]⟩
abbrev S24x256x128 : Shape := ⟨3, ![24, 256, 128]⟩
abbrev S256x128 : Shape := ⟨2, ![256, 128]⟩
abbrev S8x256 : Shape := ⟨2, ![8, 256]⟩
abbrev S1024x256 : Shape := ⟨2, ![1024, 256]⟩
abbrev S256x1 : Shape := ⟨2, ![256, 1]⟩
abbrev S256 : Shape := ⟨1, ![256]⟩
abbrev S1024x512 : Shape := ⟨2, ![1024, 512]⟩
abbrev S256x512 : Shape := ⟨2, ![256, 512]⟩
abbrev S1x256x128 : Shape := ⟨3, ![1, 256, 128]⟩

abbrev nBuf : Space → Nat
  | .hbm => 14
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S1024x128, .f32⟩
  | .hbm, ⟨4, _⟩ => ⟨S1024x4096, .bf16⟩
  | .hbm, ⟨5, _⟩ => ⟨S1024x128, .bf16⟩
  | .hbm, ⟨6, _⟩ => ⟨S1024x8, .bf16⟩
  | .hbm, ⟨7, _⟩ => ⟨S8x1024, .bf16⟩
  | .hbm, ⟨8, _⟩ => ⟨S24x2048x128, .f32⟩
  | .hbm, ⟨9, _⟩ => ⟨S2048x1024, .f32⟩
  | .hbm, ⟨10, _⟩ => ⟨S2048x128, .f32⟩
  | .hbm, ⟨11, _⟩ => ⟨S8x2048, .f32⟩
  | .hbm, ⟨12, _⟩ => ⟨S1024x2048, .bf16⟩
  | .hbm, ⟨13, _⟩ => ⟨S2048x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S8x1024, .bf16⟩
  | .local _ .vmem, ⟨6, _⟩ => ⟨S24x256x128, .f32⟩
  | .local _ .vmem, ⟨7, _⟩ => ⟨S24x256x128, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S8x256, .f32⟩
  | .local _ .vmem, ⟨13, _⟩ => ⟨S8x256, .f32⟩
  | .local _ .vmem, ⟨14, _⟩ => ⟨S1024x256, .bf16⟩
  | .local _ .vmem, ⟨15, _⟩ => ⟨S1024x256, .bf16⟩
  | .local _ .vmem, ⟨16, _⟩ => ⟨S256x1, .f32⟩
  | .local _ .vmem, ⟨17, _⟩ => ⟨S256x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S24x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceInIdeal.lean ====
abbrev S2048x1024 : Shape := ⟨2, ![2048, 1024]⟩
abbrev S1x1024 : Shape := ⟨2, ![1, 1024]⟩
abbrev S1024x4096 : Shape := ⟨2, ![1024, 4096]⟩
abbrev S1024x128 : Shape := ⟨2, ![1024, 128]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S2048x128 : Shape := ⟨2, ![2048, 128]⟩
abbrev S2048x1536 : Shape := ⟨2, ![2048, 1536]⟩
abbrev S2048x3072 : Shape := ⟨2, ![2048, 3072]⟩
abbrev S2048x512 : Shape := ⟨2, ![2048, 512]⟩
abbrev S2048x24x128 : Shape := ⟨3, ![2048, 24, 128]⟩
abbrev S24x2048x128 : Shape := ⟨3, ![24, 2048, 128]⟩
abbrev S2048x8 : Shape := ⟨2, ![2048, 8]⟩
abbrev S8x2048 : Shape := ⟨2, ![8, 2048]⟩
abbrev S1024x2048 : Shape := ⟨2, ![1024, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S1024x128, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x4096, .f32⟩
  | .hbm, ⟨31, _⟩ => ⟨S2048x128, .f32⟩
  | .hbm, ⟨32, _⟩ => ⟨S2048x1536, .f32⟩
  | .hbm, ⟨33, _⟩ => ⟨S2048x1536, .f32⟩
  | .hbm, ⟨34, _⟩ => ⟨S2048x3072, .f32⟩
  | .hbm, ⟨35, _⟩ => ⟨S2048x512, .f32⟩
  | .hbm, ⟨36, _⟩ => ⟨S2048x512, .f32⟩
  | .hbm, ⟨37, _⟩ => ⟨S2048x1024, .f32⟩
  | .hbm, ⟨38, _⟩ => ⟨S2048x24x128, .f32⟩
  | .hbm, ⟨39, _⟩ => ⟨S24x2048x128, .f32⟩
  | .hbm, ⟨40, _⟩ => ⟨S2048x8, .f32⟩
  | .hbm, ⟨41, _⟩ => ⟨S8x2048, .f32⟩
  | .hbm, ⟨42, _⟩ => ⟨S1024x2048, .f32⟩
  | .hbm, ⟨43, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== KernelGw.lean ====
abbrev S2048x1024 : Shape := ⟨2, ![2048, 1024]⟩
abbrev S1x1024 : Shape := ⟨2, ![1, 1024]⟩
abbrev S8x2048x512 : Shape := ⟨3, ![8, 2048, 512]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S1024x4096 : Shape := ⟨2, ![1024, 4096]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 21
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x512, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x2048, .f32⟩
  | .hbm, ⟨19, _⟩ => ⟨S1024x2048, .bf16⟩
  | .hbm, ⟨20, _⟩ => ⟨S1024x4096, .f32⟩
  | .local _ .vmem, ⟨0, _⟩ => ⟨S1024x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1024x512, .f32⟩
  | .local _ .vmem, ⟨4, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 1 := Scalar.cmpi .slt arg0 c3_i32
  let c6_i32 : BitVec 32 := 6#32
  let v1 : BitVec 1 := Scalar.cmpi .slt arg0 c6_i32
  let c1_i32 : BitVec 32 := 1#32
  let v2 : BitVec 32 := Scalar.addi arg0 c1_i32
  let c6_i32_0 : BitVec 32 := 6#32
  let v3 : BitVec 1 := Scalar.cmpi .eq arg0 c6_i32_0
  let c3_i32_1 : BitVec 32 := 3#32
  let c7_i32 : BitVec 32 := 7#32
  let v4 : BitVec 32 := Scalar.select v3 c3_i32_1 c7_i32
  let v5 : BitVec 32 := Scalar.select v1 v2 v4
  let v6 : BitVec 32 := Scalar.select v0 arg0 v5
  let c0_i32 : BitVec 32 := 0#32
  let c0_i32_2 : BitVec 32 := 0#32
  ![c0_i32.toNat, v6.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceGwIdeal.lean ====
abbrev S2048x1024 : Shape := ⟨2, ![2048, 1024]⟩
abbrev S1x1024 : Shape := ⟨2, ![1, 1024]⟩
abbrev S8x2048x512 : Shape := ⟨3, ![8, 2048, 512]⟩
abbrev S1x2048x512 : Shape := ⟨3, ![1, 2048, 512]⟩
abbrev S2048x512 : Shape := ⟨2, ![2048, 512]⟩
abbrev S2048x4096 : Shape := ⟨2, ![2048, 4096]⟩
abbrev S_ : Shape := ⟨0, ![]⟩
abbrev S1024x4096 : Shape := ⟨2, ![1024, 4096]⟩
abbrev S2048 : Shape := ⟨1, ![2048]⟩
abbrev S2048x1 : Shape := ⟨2, ![2048, 1]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x512, .f32⟩
  | .hbm, ⟨3, _⟩ => ⟨S1x2048x512, .f32⟩
  | .hbm, ⟨4, _⟩ => ⟨S2048x512, .f32⟩
  | .hbm, ⟨5, _⟩ => ⟨S1x2048x512, .f32⟩
  | .hbm, ⟨6, _⟩ => ⟨S2048x512, .f32⟩
  | .hbm, ⟨7, _⟩ => ⟨S1x2048x512, .f32⟩
  | .hbm, ⟨8, _⟩ => ⟨S2048x512, .f32⟩
  | .hbm, ⟨9, _⟩ => ⟨S1x2048x512, .f32⟩
  | .hbm, ⟨10, _⟩ => ⟨S2048x512, .f32⟩
  | .hbm, ⟨11, _⟩ => ⟨S1x2048x512, .f32⟩
  | .hbm, ⟨12, _⟩ => ⟨S2048x512, .f32⟩
  | .hbm, ⟨13, _⟩ => ⟨S1x2048x512, .f32⟩
  | .hbm, ⟨14, _⟩ => ⟨S2048x512, .f32⟩
  | .hbm, ⟨15, _⟩ => ⟨S1x2048x512, .f32⟩
  | .hbm, ⟨16, _⟩ => ⟨S2048x512, .f32⟩
  | .hbm, ⟨17, _⟩ => ⟨S1x2048x512, .f32⟩
  | .hbm, ⟨18, _⟩ => ⟨S2048x512, .f32⟩
  | .hbm, ⟨19, _⟩ => ⟨S2048x4096, .f32⟩
  | .hbm, ⟨20, _⟩ => ⟨S_, .f32⟩
  | .hbm, ⟨21, _⟩ => ⟨S1024x4096, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x4096, .f32⟩
  | .hbm, ⟨38, _⟩ => ⟨S4096x1024, .f32⟩
  | .hbm, ⟨39, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== KernelPost.lean ====
abbrev S4x2048x128 : Shape := ⟨3, ![4, 2048, 128]⟩
abbrev S2048x512 : Shape := ⟨2, ![2048, 512]⟩
abbrev S2048x1024 : Shape := ⟨2, ![2048, 1024]⟩
abbrev S1024x1024 : Shape := ⟨2, ![1024, 1024]⟩
abbrev S1x512 : Shape := ⟨2, ![1, 512]⟩
abbrev S1x1024 : Shape := ⟨2, ![1, 1024]⟩
abbrev S8x2048x512 : Shape := ⟨3, ![8, 2048, 512]⟩
abbrev S1x128 : Shape := ⟨2, ![1, 128]⟩
abbrev S4x256x128 : Shape := ⟨3, ![4, 256, 128]⟩
abbrev S256x512 : Shape := ⟨2, ![256, 512]⟩
abbrev S256x1024 : Shape := ⟨2, ![256, 1024]⟩
abbrev S2x256x512 : Shape := ⟨3, ![2, 256, 512]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩
abbrev S512 : Shape := ⟨1, ![512]⟩
abbrev S1x256x512 : Shape := ⟨3, ![1, 256, 512]⟩

abbrev nBuf : Space → Nat
  | .hbm => 19
  | .vmem => 29
  | .smem => 0
  | _ => 0

abbrev bufTy : (tb : Table) → Fin (tcTables nBuf tb) → BufTy
  | .hbm, ⟨0, _⟩ => ⟨S4x2048x128, .f32⟩
  | .hbm, ⟨1, _⟩ => ⟨S2048x512, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S1x512, .f32⟩
  | .hbm, ⟨7, _⟩ => ⟨S1x512, .f32⟩
  | .hbm, ⟨8, _⟩ => ⟨S1x1024, .f32⟩
  | .hbm, ⟨9, _⟩ => ⟨S1024x1024, .bf16⟩
  | .hbm, ⟨10, _⟩ => ⟨S2048x1024, .f32⟩
  | .hbm, ⟨11, _⟩ => ⟨S4x2048x128, .f32⟩
  | .hbm, ⟨12, _⟩ => ⟨S2048x512, .f32⟩
  | .hbm, ⟨13, _⟩ => ⟨S8x2048x512, .f32⟩
  | .hbm, ⟨14, _⟩ => ⟨S1x128, .f32⟩
  | .hbm, ⟨15, _⟩ => ⟨S1x1024, .f32⟩
  | .hbm, ⟨16, _⟩ => ⟨S1x512, .f32⟩
  | .hbm, ⟨17, _⟩ => ⟨S1x512, .f32⟩
  | .hbm, ⟨18, _⟩ => ⟨S1024x1024, .f32⟩
  | .local _ .vmem, ⟨0, _⟩ => ⟨S4x256x128, .f32⟩
  | .local _ .vmem, ⟨1, _⟩ => ⟨S4x256x128, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S1x512, .f32⟩
  | .local _ .vmem, ⟨14, _⟩ => ⟨S1x512, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S4x256x128, .f32⟩
  | .local _ .vmem, ⟨19, _⟩ => ⟨S4x256x128, .f32⟩
  | .local _ .vmem, ⟨20, _⟩ => ⟨S256x512, .f32⟩
  | .local _ .vmem, ⟨21, _⟩ => ⟨S256x512, .f32⟩
  | .local _ .vmem, ⟨22, _⟩ => ⟨S2x256x512, .f32⟩
  | .local _ .vmem, ⟨23, _⟩ => ⟨S2x256x512, .f32⟩
  | .local _ .vmem, ⟨24, _⟩ => ⟨S1x128, .f32⟩
  | .local _ .vmem, ⟨25, _⟩ => ⟨S1x1024, .f32⟩
  | .local _ .vmem, ⟨26, _⟩ => ⟨S1x512, .f32⟩
  | .local _ .vmem, ⟨27, _⟩ => ⟨S1x512, .f32⟩
  | .local _ .vmem, ⟨28, _⟩ => ⟨S1024x1024, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferencePostIdeal.lean ====
abbrev S4x2048x128 : Shape := ⟨3, ![4, 2048, 128]⟩
abbrev S2048x512 : Shape := ⟨2, ![2048, 512]⟩
abbrev S2048x1024 : Shape := ⟨2, ![2048, 1024]⟩
abbrev S1024x1024 : Shape := ⟨2, ![1024, 1024]⟩
abbrev S1x512 : Shape := ⟨2, ![1, 512]⟩
abbrev S1x1024 : Shape := ⟨2, ![1, 1024]⟩
abbrev S2048x4x128 : Shape := ⟨3, ![2048, 4, 128]⟩
abbrev S2048x8x64 : Shape := ⟨3, ![2048, 8, 64]⟩
abbrev S8x64 : Shape := ⟨2, ![8, 64]⟩
abbrev S_ : Shape := ⟨0, ![]⟩
abbrev S2048x8 : Shape := ⟨2, ![2048, 8]⟩
abbrev S2048x8x1 : Shape := ⟨3, ![2048, 8, 1]⟩
abbrev S1x8x64 : Shape := ⟨3, ![1, 8, 64]⟩
abbrev S4x128 : Shape := ⟨2, ![4, 128]⟩
abbrev S2048x4 : Shape := ⟨2, ![2048, 4]⟩
abbrev S2048x4x1 : Shape := ⟨3, ![2048, 4, 1]⟩
abbrev S1x4x128 : Shape := ⟨3, ![1, 4, 128]⟩
abbrev S2048 : Shape := ⟨1, ![2048]⟩
abbrev S2048x1 : Shape := ⟨2, ![2048, 1]⟩
abbrev S1024 : Shape := ⟨1, ![1024]⟩
abbrev S6x2048x512 : Shape := ⟨3, ![6, 2048, 512]⟩
abbrev S1x2048x512 : Shape := ⟨3, ![1, 2048, 512]⟩
abbrev S8x2048x512 : Shape := ⟨3, ![8, 2048, 512]⟩
abbrev S1x128 : Shape := ⟨2, ![1, 128]⟩

abbrev nBuf : Space → Nat
  | .hbm => 236
  | .vmem => 0
  | .smem => 0
  | _ => 0

abbrev hbmTy0_0 (i : Nat) : BufTy := match i % 128 with
  | 0 => ⟨S4x2048x128, .f32⟩
  | 1 => ⟨S2048x512, .f32⟩
  | 2 => ⟨S2048x1024, .f32⟩
  | 3 => ⟨S2048x1024, .f32⟩
  | 4 => ⟨S2048x1024, .f32⟩
  | 5 => ⟨S1024x1024, .f32⟩
  | 6 => ⟨S1x512, .f32⟩
  | 7 => ⟨S1x512, .f32⟩
  | 8 => ⟨S1x1024, .f32⟩
  | 9 => ⟨S2048x4x128, .f32⟩
  | 10 => ⟨S2048x512, .f32⟩
  | 11 => ⟨S2048x512, .f32⟩
  | 12 => ⟨S2048x512, .f32⟩
  | 13 => ⟨S2048x8x64, .f32⟩
  | 14 => ⟨S8x64, .f32⟩
  | 15 => ⟨S2048x8x64, .f32⟩
  | 16 => ⟨S_, .f32⟩
  | 17 => ⟨S2048x8, .f32⟩
  | 18 => ⟨S2048x8x1, .f32⟩
  | 19 => ⟨S_, .f32⟩
  | 20 => ⟨S2048x8x1, .f32⟩
  | 21 => ⟨S2048x8x1, .f32⟩
  | 22 => ⟨S_, .f32⟩
  | 23 => ⟨S2048x8x1, .f32⟩
  | 24 => ⟨S2048x8x1, .f32⟩
  | 25 => ⟨S2048x8x1, .f32⟩
  | 26 => ⟨S2048x8x1, .f32⟩
  | 27 => ⟨S_, .f32⟩
  | 28 => ⟨S2048x8x1, .f32⟩
  | 29 => ⟨S2048x8x1, .f32⟩
  | 30 => ⟨S2048x8x64, .f32⟩
  | 31 => ⟨S2048x8x64, .f32⟩
  | 32 => ⟨S1x8x64, .f32⟩
  | 33 => ⟨S2048x8x64, .f32⟩
  | 34 => ⟨S2048x8x64, .f32⟩
  | 35 => ⟨S2048x512, .f32⟩
  | 36 => ⟨S2048x512, .f32⟩
  | 37 => ⟨S2048x512, .f32⟩
  | 38 => ⟨S_, .f32⟩
  | 39 => ⟨S2048x512, .f32⟩
  | 40 => ⟨S2048x512, .f32⟩
  | 41 => ⟨S_, .f32⟩
  | 42 => ⟨S2048x512, .f32⟩
  | 43 => ⟨S2048x512, .f32⟩
  | 44 => ⟨S_, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S2048x4x128, .f32⟩
  | 51 => ⟨S4x128, .f32⟩
  | 52 => ⟨S2048x4x128, .f32⟩
  | 53 => ⟨S_, .f32⟩
  | 54 => ⟨S2048x4, .f32⟩
  | 55 => ⟨S2048x4x1, .f32⟩
  | 56 => ⟨S_, .f32⟩
  | 57 => ⟨S2048x4x1, .f32⟩
  | 58 => ⟨S2048x4x1, .f32⟩
  | 59 => ⟨S_, .f32⟩
  | 60 => ⟨S2048x4x1, .f32⟩
  | 61 => ⟨S2048x4x1, .f32⟩
  | 62 => ⟨S2048x4x1, .f32⟩
  | 63 => ⟨S2048x4x1, .f32⟩
  | 64 => ⟨S_, .f32⟩
  | 65 => ⟨S2048x4x1, .f32⟩
  | 66 => ⟨S2048x4x1, .f32⟩
  | 67 => ⟨S2048x4x128, .f32⟩
  | 68 => ⟨S2048x4x128, .f32⟩
  | 69 => ⟨S1x4x128, .f32⟩
  | 70 => ⟨S2048x4x128, .f32⟩
  | 71 => ⟨S2048x4x128, .f32⟩
  | 72 => ⟨S2048x512, .f32⟩
  | 73 => ⟨S2048x512, .f32⟩
  | 74 => ⟨S2048x512, .f32⟩
  | 75 => ⟨S_, .f32⟩
  | 76 => ⟨S2048x512, .f32⟩
  | 77 => ⟨S2048x512, .f32⟩
  | 78 => ⟨S_, .f32⟩
  | 79 => ⟨S2048x512, .f32⟩
  | 80 => ⟨S2048x512, .f32⟩
  | 81 => ⟨S_, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S2048x1024, .f32⟩
  | 88 => ⟨S2048x1024, .f32⟩
  | 89 => ⟨S2048x1024, .f32⟩
  | 90 => ⟨S2048x1024, .f32⟩
  | 91 => ⟨S_, .f32⟩
  | 92 => ⟨S2048, .f32⟩
  | 93 => ⟨S2048x1, .f32⟩
  | 94 => ⟨S_, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1, .f32⟩
  | 101 => ⟨S2048x1, .f32⟩
  | 102 => ⟨S_, .f32⟩
  | 103 => ⟨S2048x1, .f32⟩
  | 104 => ⟨S2048x1, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S_, .f32⟩
  | 115 => ⟨S2048, .f32⟩
  | 116 => ⟨S_, .f32⟩
  | 117 => ⟨S2048, .f32⟩
  | 118 => ⟨S2048, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S2048, .f32⟩
  | 127 => ⟨S_, .f32⟩
  | _ => ⟨S4x2048x128, .f32⟩

abbrev hbmTy0_1 (i : Nat) : BufTy := match i % 128 with
  | 0 => ⟨S2048, .f32⟩
  | 1 => ⟨S2048, .f32⟩
  | 2 => ⟨S2048x1024, .f32⟩
  | 3 => ⟨S2048x1024, .f32⟩
  | 4 => ⟨S2048x1024, .f32⟩
  | 5 => ⟨S_, .f32⟩
  | 6 => ⟨S1024, .f32⟩
  | 7 => ⟨S1x1024, .f32⟩
  | 8 => ⟨S2048x1024, .f32⟩
  | 9 => ⟨S2048x1024, .f32⟩
  | 10 => ⟨S2048x1024, .f32⟩
  | 11 => ⟨S_, .f32⟩
  | 12 => ⟨S2048, .f32⟩
  | 13 => ⟨S2048x1, .f32⟩
  | 14 => ⟨S2048x1024, .f32⟩
  | 15 => ⟨S2048x1024, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S1024x1024, .f32⟩
  | 28 => ⟨S1024x1024, .f32⟩
  | 29 => ⟨S2048x1024, .f32⟩
  | 30 => ⟨S2048x512, .f32⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x512, .f32⟩
  | 38 => ⟨S2048x4x128, .f32⟩
  | 39 => ⟨S2048x4x128, .f32⟩
  | 40 => ⟨S_, .f32⟩
  | 41 => ⟨S4x128, .f32⟩
  | 42 => ⟨S1x4x128, .f32⟩
  | 43 => ⟨S2048x4x128, .f32⟩
  | 44 => ⟨S2048x4x128, .f32⟩
  | 45 => ⟨S_, .f32⟩
  | 46 => ⟨S4x128, .f32⟩
  | 47 => ⟨S2048x4x128, .f32⟩
  | 48 => ⟨S_, .f32⟩
  | 49 => ⟨S2048x4, .f32⟩
  | 50 => ⟨S2048x4x1, .f32⟩
  | 51 => ⟨S2048x4x128, .f32⟩
  | 52 => ⟨S2048x4x128, .f32⟩
  | 53 => ⟨S2048x4x1, .f32⟩
  | 54 => ⟨S_, .f32⟩
  | 55 => ⟨S2048x4x1, .f32⟩
  | 56 => ⟨S2048x4x1, .f32⟩
  | 57 => ⟨S_, .f32⟩
  | 58 => ⟨S2048x4, .f32⟩
  | 59 => ⟨S2048x4x128, .f32⟩
  | 60 => ⟨S2048x4x128, .f32⟩
  | 61 => ⟨S2048x4x128, .f32⟩
  | 62 => ⟨S2048x4x128, .f32⟩
  | 63 => ⟨S2048x4x128, .f32⟩
  | 64 => ⟨S1x512, .f32⟩
  | 65 => ⟨S2048x512, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x8x64, .f32⟩
  | 73 => ⟨S2048x8x64, .f32⟩
  | 74 => ⟨S_, .f32⟩
  | 75 => ⟨S8x64, .f32⟩
  | 76 => ⟨S1x8x64, .f32⟩
  | 77 => ⟨S2048x8x64, .f32⟩
  | 78 => ⟨S2048x8x64, .f32⟩
  | 79 => ⟨S_, .f32⟩
  | 80 => ⟨S8x64, .f32⟩
  | 81 => ⟨S2048x8x64, .f32⟩
  | 82 => ⟨S_, .f32⟩
  | 83 => ⟨S2048x8, .f32⟩
  | 84 => ⟨S2048x8x1, .f32⟩
  | 85 => ⟨S2048x8x64, .f32⟩
  | 86 => ⟨S2048x8x64, .f32⟩
  | 87 => ⟨S2048x8x1, .f32⟩
  | 88 => ⟨S_, .f32⟩
  | 89 => ⟨S2048x8x1, .f32⟩
  | 90 => ⟨S2048x8x1, .f32⟩
  | 91 => ⟨S_, .f32⟩
  | 92 => ⟨S2048x8, .f32⟩
  | 93 => ⟨S2048x8x64, .f32⟩
  | 94 => ⟨S2048x8x64, .f32⟩
  | 95 => ⟨S2048x8x64, .f32⟩
  | 96 => ⟨S2048x8x64, .f32⟩
  | 97 => ⟨S2048x8x64, .f32⟩
  | 98 => ⟨S1x512, .f32⟩
  | 99 => ⟨S2048x512, .f32⟩
  | 100 => ⟨S_, .f32⟩
  | 101 => ⟨S6x2048x512, .f32⟩
  | 102 => ⟨S1x2048x512, .f32⟩
  | 103 => ⟨S1x2048x512, .f32⟩
  | 104 => ⟨S8x2048x512, .f32⟩
  | 105 => ⟨S2048x4x128, .f32⟩
  | 106 => ⟨S4x2048x128, .f32⟩
  | 107 => ⟨S1x128, .f32⟩
  | _ => ⟨S4x2048x128, .f32⟩

abbrev hbmTy (i : Nat) : BufTy := match i / 128 with
  | 0 => hbmTy0_0 i
  | 1 => hbmTy0_1 i
  | _ => ⟨S4x2048x128, .f32⟩

abbrev bufTy : (tb : Table) → Fin (tcTables nBuf tb) → BufTy
  | .hbm, ⟨i, _⟩ => hbmTy i
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v23_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v23_1 : Ref sig .tc := ⟨.hbm, 47, rfl⟩
abbrev main_v23_0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_v44_2 : Ref sig .tc := ⟨.hbm, 80, rfl⟩
abbrev main_call1_cst_1 : Ref sig .tc := ⟨.hbm, 81, rfl⟩
abbrev main_call1_v6 : Ref sig .tc := ⟨.hbm, 82, rfl⟩
abbrev main_call1_v7 : Ref sig .tc := ⟨.hbm, 83, rfl⟩
abbrev main_v44_1 : Ref sig .tc := ⟨.hbm, 84, rfl⟩
abbrev main_v44_0 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_7 : Ref sig .tc := ⟨.hbm, 91, rfl⟩
abbrev main_v50 : Ref sig .tc := ⟨.hbm, 92, rfl⟩
abbrev main_v51 : Ref sig .tc := ⟨.hbm, 93, rfl⟩
abbrev main_cst_8 : Ref sig .tc := ⟨.hbm, 94, rfl⟩
abbrev main_v52 : Ref sig .tc := ⟨.hbm, 95, rfl⟩
abbrev main_v53 : Ref sig .tc := ⟨.hbm, 96, rfl⟩
abbrev main_cst_9 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_10 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_11 : Ref sig .tc := ⟨.hbm, 111, rfl⟩
abbrev main_v66 : Ref sig .tc := ⟨.hbm, 112, rfl⟩
abbrev main_v67 : Ref sig .tc := ⟨.hbm, 113, rfl⟩
abbrev main_cst_12 : Ref sig .tc := ⟨.hbm, 114, rfl⟩
abbrev main_v68 : Ref sig .tc := ⟨.hbm, 115, rfl⟩
abbrev main_cst_13 : Ref sig .tc := ⟨.hbm, 116, rfl⟩
abbrev main_v69 : Ref sig .tc := ⟨.hbm, 117, rfl⟩
abbrev main_v70 : Ref sig .tc := ⟨.hbm, 118, rfl⟩
abbrev main_cst_14 : Ref sig .tc := ⟨.hbm, 119, rfl⟩
abbrev main_v71 : Ref sig .tc := ⟨.hbm, 120, rfl⟩
abbrev main_cst_15 : Ref sig .tc := ⟨.hbm, 121, rfl⟩
abbrev main_v72 : Ref sig .tc := ⟨.hbm, 122, rfl⟩
abbrev main_cst_16 : Ref sig .tc := ⟨.hbm, 123, rfl⟩
abbrev main_cst_17 : Ref sig .tc := ⟨.hbm, 124, rfl⟩
abbrev main_v73 : Ref sig .tc := ⟨.hbm, 125, rfl⟩
abbrev main_v74 : Ref sig .tc := ⟨.hbm, 126, rfl⟩
abbrev main_cst_18 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_19 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_20 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_21 : Ref sig .tc := ⟨.hbm, 145, rfl⟩
abbrev main_v90 : Ref sig .tc := ⟨.hbm, 146, rfl⟩
abbrev main_v91 : Ref sig .tc := ⟨.hbm, 147, rfl⟩
abbrev main_cst_22 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_call2_v0 : Ref sig .tc := ⟨.hbm, 162, rfl⟩
abbrev main_call2_v1 : Ref sig .tc := ⟨.hbm, 163, rfl⟩
abbrev main_call2_v2 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_23 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_cst_24 : Ref sig .tc := ⟨.hbm, 173, rfl⟩
abbrev main_v112 : Ref sig .tc := ⟨.hbm, 174, rfl⟩
abbrev main_v113 : Ref sig .tc := ⟨.hbm, 175, rfl⟩
abbrev main_cst_25 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_26 : Ref sig .tc := ⟨.hbm, 182, rfl⟩
abbrev main_v119 : Ref sig .tc := ⟨.hbm, 183, rfl⟩
abbrev main_v120 : Ref sig .tc := ⟨.hbm, 184, rfl⟩
abbrev main_cst_27 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_call3_v0 : Ref sig .tc := ⟨.hbm, 196, rfl⟩
abbrev main_call3_v1 : Ref sig .tc := ⟨.hbm, 197, rfl⟩
abbrev main_call3_v2 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_cst_28 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_29 : Ref sig .tc := ⟨.hbm, 207, rfl⟩
abbrev main_v138 : Ref sig .tc := ⟨.hbm, 208, rfl⟩
abbrev main_v139 : Ref sig .tc := ⟨.hbm, 209, rfl⟩
abbrev main_cst_30 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_cst_31 : Ref sig .tc := ⟨.hbm, 216, rfl⟩
abbrev main_v145 : Ref sig .tc := ⟨.hbm, 217, rfl⟩
abbrev main_v146 : Ref sig .tc := ⟨.hbm, 218, rfl⟩
abbrev main_cst_32 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_33 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩

abbrev nD : Nat := 1
abbrev τ : Topo := Topo.v7x

variable {F : FTy → Type} [FloatOps F]
-- ==== KernelGates.lean ====
abbrev S2048x128 : Shape := ⟨2, ![2048, 128]⟩
abbrev S1x4 : Shape := ⟨2, ![1, 4]⟩
abbrev S_ : Shape := ⟨0, ![]⟩
abbrev S1x128 : Shape := ⟨2, ![1, 128]⟩
abbrev S128 : Shape := ⟨1, ![128]⟩

abbrev nBuf : Space → Nat
  | .hbm => 13
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S1x4, .f32⟩
  | .hbm, ⟨2, _⟩ => ⟨S1x4, .f32⟩
  | .hbm, ⟨3, _⟩ => ⟨S2048x128, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S2048x128, .f32⟩
  | .hbm, ⟨11, _⟩ => ⟨S1x128, .f32⟩
  | .hbm, ⟨12, _⟩ => ⟨S1x128, .f32⟩
  | .local _ .vmem, ⟨0, _⟩ => ⟨S2048x128, .f32⟩
  | .local _ .vmem, ⟨1, _⟩ => ⟨S1x128, .f32⟩
  | .local _ .vmem, ⟨2, _⟩ => ⟨S1x128, .f32⟩
  | .local _ .vmem, ⟨3, _⟩ => ⟨S2048x128, .f32⟩
  | .local _ .vmem, ⟨4, _⟩ => ⟨S2048x128, .f32⟩
  | .local _ .vmem, ⟨5, _⟩ => ⟨S1x128, .f32⟩
  | .local _ .vmem, ⟨6, _⟩ => ⟨S1x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceGatesIdeal.lean ====
abbrev S2048x128 : Shape := ⟨2, ![2048, 128]⟩
abbrev S1x4 : Shape := ⟨2, ![1, 4]⟩
abbrev S2048x4 : Shape := ⟨2, ![2048, 4]⟩
abbrev S_ : Shape := ⟨0, ![]⟩
abbrev S4 : Shape := ⟨1, ![4]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1x4, .f32⟩
  | .hbm, ⟨2, _⟩ => ⟨S1x4, .f32⟩
  | .hbm, ⟨3, _⟩ => ⟨S2048x128, .f32⟩
  | .hbm, ⟨4, _⟩ => ⟨S2048x4, .f32⟩
  | .hbm, ⟨5, _⟩ => ⟨S2048x4, .f32⟩
  | .hbm, ⟨6, _⟩ => ⟨S2048x4, .f32⟩
  | .hbm, ⟨7, _⟩ => ⟨S_, .f32⟩
  | .hbm, ⟨8, _⟩ => ⟨S2048x4, .f32⟩
  | .hbm, ⟨9, _⟩ => ⟨S2048x4, .f32⟩
  | .hbm, ⟨10, _⟩ => ⟨S_, .f32⟩
  | .hbm, ⟨11, _⟩ => ⟨S2048x4, .f32⟩
  | .hbm, ⟨12, _⟩ => ⟨S2048x4, .f32⟩
  | .hbm, ⟨13, _⟩ => ⟨S_, .f32⟩
  | .hbm, ⟨14, _⟩ => ⟨S2048x4, .f32⟩
  | .hbm, ⟨15, _⟩ => ⟨S2048x4, .f32⟩
  | .hbm, ⟨16, _⟩ => ⟨S2048x4, .f32⟩
  | .hbm, ⟨17, _⟩ => ⟨S1x4, .f32⟩
  | .hbm, ⟨18, _⟩ => ⟨S1x4, .f32⟩
  | .hbm, ⟨19, _⟩ => ⟨S2048x4, .f32⟩
  | .hbm, ⟨20, _⟩ => ⟨S2048x4, .f32⟩
  | .hbm, ⟨21, _⟩ => ⟨S2048x4, .f32⟩
  | .hbm, ⟨22, _⟩ => ⟨S_, .f32⟩
  | .hbm, ⟨23, _⟩ => ⟨S2048x4, .f32⟩
  | .hbm, ⟨24, _⟩ => ⟨S2048x4, .f32⟩
  | .hbm, ⟨25, _⟩ => ⟨S2048x4, .f32⟩
  | .hbm, ⟨26, _⟩ => ⟨S2048x4, .f32⟩
  | .hbm, ⟨27, _⟩ => ⟨S2048x4, .i1⟩
  | .hbm, ⟨28, _⟩ => ⟨S2048x4, .f32⟩
  | .hbm, ⟨29, _⟩ => ⟨S2048x4, .f32⟩
  | .hbm, ⟨30, _⟩ => ⟨S2048x4, .f32⟩
  | .hbm, ⟨31, _⟩ => ⟨S2048x4, .f32⟩
  | .hbm, ⟨32, _⟩ => ⟨S2048x4, .f32⟩
  | .hbm, ⟨33, _⟩ => ⟨S2048x4, .f32⟩
  | .hbm, ⟨34, _⟩ => ⟨S2048x4, .f32⟩
  | .hbm, ⟨35, _⟩ => ⟨S2048x4, .f32⟩
  | .hbm, ⟨36, _⟩ => ⟨S_, .f32⟩
  | .hbm, ⟨37, _⟩ => ⟨S2048x4, .f32⟩
  | .hbm, ⟨38, _⟩ => ⟨S2048x4, .i1⟩
  | .hbm, ⟨39, _⟩ => ⟨S_, .f32⟩
  | .hbm, ⟨40, _⟩ => ⟨S2048x4, .f32⟩
  | .hbm, ⟨41, _⟩ => ⟨S2048x4, .f32⟩
  | .hbm, ⟨42, _⟩ => ⟨S_, .f32⟩
  | .hbm, ⟨43, _⟩ => ⟨S2048x4, .f32⟩
  | .hbm, ⟨44, _⟩ => ⟨S2048x4, .i1⟩
  | .hbm, ⟨45, _⟩ => ⟨S_, .f32⟩
  | .hbm, ⟨46, _⟩ => ⟨S2048x4, .f32⟩
  | .hbm, ⟨47, _⟩ => ⟨S2048x4, .f32⟩
  | .hbm, ⟨48, _⟩ => ⟨S2048x4, .f32⟩
  | .hbm, ⟨49, _⟩ => ⟨S2048x4, .f32⟩
  | .hbm, ⟨50, _⟩ => ⟨S_, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048x4, .f32⟩
  | .hbm, ⟨58, _⟩ => ⟨S2048x4, .i1⟩
  | .hbm, ⟨59, _⟩ => ⟨S_, .f32⟩
  | .hbm, ⟨60, _⟩ => ⟨S2048x4, .f32⟩
  | .hbm, ⟨61, _⟩ => ⟨S2048x4, .f32⟩
  | .hbm, ⟨62, _⟩ => ⟨S2048x4, .f32⟩
  | .hbm, ⟨63, _⟩ => ⟨S2048x4, .f32⟩
  | .hbm, ⟨64, _⟩ => ⟨S2048x4, .f32⟩
  | .hbm, ⟨65, _⟩ => ⟨S_, .f32⟩
  | .hbm, ⟨66, _⟩ => ⟨S2048x4, .f32⟩
  | .hbm, ⟨67, _⟩ => ⟨S2048x4, .f32⟩
  | .hbm, ⟨68, _⟩ => ⟨S2048x4, .f32⟩
  | .hbm, ⟨69, _⟩ => ⟨S2048x4, .f32⟩
  | .hbm, ⟨70, _⟩ => ⟨S2048x4, .f32⟩
  | .hbm, ⟨71, _⟩ => ⟨S2048x4, .f32⟩
  | .hbm, ⟨72, _⟩ => ⟨S2048x4, .f32⟩
  | .hbm, ⟨73, _⟩ => ⟨S2048x4, .f32⟩
  | .hbm, ⟨74, _⟩ => ⟨S2048x4, .f32⟩
  | .hbm, ⟨75, _⟩ => ⟨S_, .f32⟩
  | .hbm, ⟨76, _⟩ => ⟨S4, .f32⟩
  | .hbm, ⟨77, _⟩ => ⟨S1x4, .f32⟩
  | .hbm, ⟨78, _⟩ => ⟨S2048x4, .f32⟩
  | .hbm, ⟨79, _⟩ => ⟨S_, .f32⟩
  | .hbm, ⟨80, _⟩ => ⟨S4, .f32⟩
  | .hbm, ⟨81, _⟩ => ⟨S1x4, .f32⟩
  | .hbm, ⟨82, _⟩ => ⟨S_, .f32⟩
  | .hbm, ⟨83, _⟩ => ⟨S2048x128, .f32⟩
  | .hbm, ⟨84, _⟩ => ⟨S1x4, .f32⟩
  | .hbm, ⟨85, _⟩ => ⟨S1x4, .f32⟩
  | .hbm, ⟨86, _⟩ => ⟨S2048x4, .f32⟩
  | .hbm, ⟨87, _⟩ => ⟨S_, .f32⟩
  | .hbm, ⟨88, _⟩ => ⟨S2048x128, .f32⟩
  | .hbm, ⟨89, _⟩ => ⟨S2048x128, .f32⟩
  | .hbm, ⟨90, _⟩ => ⟨S_, .i32⟩
  | .hbm, ⟨91, _⟩ => ⟨S_, .f32⟩
  | .hbm, ⟨92, _⟩ => ⟨S1x128, .f32⟩
  | .hbm, ⟨93, _⟩ => ⟨S_, .i32⟩
  | .hbm, ⟨94, _⟩ => ⟨S_, .f32⟩
  | .hbm, ⟨95, _⟩ => ⟨S1x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v15_0 : Ref sig .tc := ⟨.hbm, 35, rfl⟩
abbrev main_call0_cst_0 : Ref sig .tc := ⟨.hbm, 36, rfl⟩
abbrev main_call0_v13 : Ref sig .tc := ⟨.hbm, 37, rfl⟩
abbrev main_call0_v14 : Ref sig .tc := ⟨.hbm, 38, rfl⟩
abbrev main_call0_cst_1 : Ref sig .tc := ⟨.hbm, 39, rfl⟩
abbrev main_call0_v15 : Ref sig .tc := ⟨.hbm, 40, rfl⟩
abbrev main_call0_v16 : Ref sig .tc := ⟨.hbm, 41, rfl⟩
abbrev main_call0_cst_2 : Ref sig .tc := ⟨.hbm, 42, rfl⟩
abbrev main_call0_v17 : Ref sig .tc := ⟨.hbm, 43, rfl⟩
abbrev main_call0_v18 : Ref sig .tc := ⟨.hbm, 44, rfl⟩
abbrev main_call0_cst_3 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_v15_1 : Ref sig .tc := ⟨.hbm, 49, rfl⟩
abbrev main_call0_cst_4 : Ref sig .tc := ⟨.hbm, 50, rfl⟩
abbrev main_call0_cst_5 : Ref sig .tc := ⟨.hbm, 51, rfl⟩
abbrev main_call0_v23 : Ref sig .tc := ⟨.hbm, 52, rfl⟩
abbrev main_call0_cst_6 : Ref sig .tc := ⟨.hbm, 53, rfl⟩
abbrev main_call0_cst_7 : Ref sig .tc := ⟨.hbm, 54, rfl⟩
abbrev main_call0_v24 : Ref sig .tc := ⟨.hbm, 55, rfl⟩
abbrev main_call0_cst_8 : Ref sig .tc := ⟨.hbm, 56, rfl⟩
abbrev main_call0_v25 : Ref sig .tc := ⟨.hbm, 57, rfl⟩
abbrev main_call0_v26 : Ref sig .tc := ⟨.hbm, 58, rfl⟩
abbrev main_call0_cst_9 : Ref sig .tc := ⟨.hbm, 59, rfl⟩
abbrev main_call0_v27 : Ref sig .tc := ⟨.hbm, 60, rfl⟩
abbrev main_call0_v28 : Ref sig .tc := ⟨.hbm, 61, rfl⟩
abbrev main_call0_v29 : Ref sig .tc := ⟨.hbm, 62, rfl⟩
abbrev main_call0_v30 : Ref sig .tc := ⟨.hbm, 63, rfl⟩
abbrev main_call0_v31 : Ref sig .tc := ⟨.hbm, 64, rfl⟩
abbrev main_call0_cst_10 : Ref sig .tc := ⟨.hbm, 65, rfl⟩
abbrev main_call0_v32 : Ref sig .tc := ⟨.hbm, 66, rfl⟩
abbrev main_v15_2 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_cst_2 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_cst_3 : Ref sig .tc := ⟨.hbm, 79, rfl⟩
abbrev main_v26 : Ref sig .tc := ⟨.hbm, 80, rfl⟩
abbrev main_v27 : Ref sig .tc := ⟨.hbm, 81, rfl⟩
abbrev main_cst_4 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_cst_5 : Ref sig .tc := ⟨.hbm, 87, rfl⟩
abbrev main_v32 : Ref sig .tc := ⟨.hbm, 88, rfl⟩
abbrev main_v33 : Ref sig .tc := ⟨.hbm, 89, rfl⟩
abbrev main_c : Ref sig .tc := ⟨.hbm, 90, rfl⟩
abbrev main_call2_v0 : Ref sig .tc := ⟨.hbm, 91, rfl⟩
abbrev main_v34 : Ref sig .tc := ⟨.hbm, 92, rfl⟩
abbrev main_c_6 : Ref sig .tc := ⟨.hbm, 93, rfl⟩
abbrev main_call3_v0 : Ref sig .tc := ⟨.hbm, 94, rfl⟩
abbrev main_v35 : Ref sig .tc := ⟨.hbm, 95, rfl⟩

abbrev nD : Nat := 1
abbrev τ : Topo := Topo.v7x

variable {F : FTy → Type} [FloatOps F]
-- ==== KernelGs.lean ====
abbrev S2048x1024 : Shape := ⟨2, ![2048, 1024]⟩
abbrev S1x1024 : Shape := ⟨2, ![1, 1024]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S1024x128 : Shape := ⟨2, ![1024, 128]⟩
abbrev S1024x512 : Shape := ⟨2, ![1024, 512]⟩
abbrev S512x128 : Shape := ⟨2, ![512, 128]⟩

abbrev nBuf : Space → Nat
  | .hbm => 21
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x128, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x2048, .f32⟩
  | .hbm, ⟨19, _⟩ => ⟨S1024x2048, .bf16⟩
  | .hbm, ⟨20, _⟩ => ⟨S1024x128, .f32⟩
  | .local _ .vmem, ⟨0, _⟩ => ⟨S1024x512, .bf16⟩
  | .local _ .vmem, ⟨1, _⟩ => ⟨S1024x512, .bf16⟩
  | .local _ .vmem, ⟨2, _⟩ => ⟨S512x128, .f32⟩
  | .local _ .vmem, ⟨3, _⟩ => ⟨S512x128, .f32⟩
  | .local _ .vmem, ⟨4, _⟩ => ⟨S1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceGsIdeal.lean ====
abbrev S2048x1024 : Shape := ⟨2, ![2048, 1024]⟩
abbrev S1x1024 : Shape := ⟨2, ![1, 1024]⟩
abbrev S2048x128 : Shape := ⟨2, ![2048, 128]⟩
abbrev S_ : Shape := ⟨0, ![]⟩
abbrev S1024x128 : Shape := ⟨2, ![1024, 128]⟩
abbrev S2048 : Shape := ⟨1, ![2048]⟩
abbrev S2048x1 : Shape := ⟨2, ![2048, 1]⟩
abbrev S128x1024 : Shape := ⟨2, ![128, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x128, .f32⟩
  | .hbm, ⟨3, _⟩ => ⟨S_, .f32⟩
  | .hbm, ⟨4, _⟩ => ⟨S1024x128, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x128, .f32⟩
  | .hbm, ⟨21, _⟩ => ⟨S128x1024, .f32⟩
  | .hbm, ⟨22, _⟩ => ⟨S1024x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelAdam.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelConv.lean ====
abbrev S24x2048x128 : Shape := ⟨3, ![24, 2048, 128]⟩
abbrev S4x1536 : Shape := ⟨2, ![4, 1536]⟩
abbrev S2048x512 : Shape := ⟨2, ![2048, 512]⟩
abbrev S2048x1536 : Shape := ⟨2, ![2048, 1536]⟩
abbrev S1x2048x128 : Shape := ⟨3, ![1, 2048, 128]⟩
abbrev S4x128 : Shape := ⟨2, ![4, 128]⟩
abbrev S2048x128 : Shape := ⟨2, ![2048, 128]⟩
abbrev S1x128 : Shape := ⟨2, ![1, 128]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S24x2048x128, .f32⟩
  | .hbm, ⟨1, _⟩ => ⟨S4x1536, .f32⟩
  | .hbm, ⟨2, _⟩ => ⟨S2048x512, .f32⟩
  | .hbm, ⟨3, _⟩ => ⟨S2048x1536, .f32⟩
  | .local _ .vmem, ⟨0, _⟩ => ⟨S1x2048x128, .f32⟩
  | .local _ .vmem, ⟨1, _⟩ => ⟨S1x2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S24x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceConvIdeal.lean ====
abbrev S24x2048x128 : Shape := ⟨3, ![24, 2048, 128]⟩
abbrev S4x1536 : Shape := ⟨2, ![4, 1536]⟩
abbrev S2048x512 : Shape := ⟨2, ![2048, 512]⟩
abbrev S12x2048x128 : Shape := ⟨3, ![12, 2048, 128]⟩
abbrev S2048x12x128 : Shape := ⟨3, ![2048, 12, 128]⟩
abbrev S2048x1536 : Shape := ⟨2, ![2048, 1536]⟩
abbrev S_ : Shape := ⟨0, ![]⟩
abbrev S2051x1536 : Shape := ⟨2, ![2051, 1536]⟩
abbrev S1x1536 : Shape := ⟨2, ![1, 1536]⟩
abbrev S1536 : Shape := ⟨1, ![1536]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 76
  | .vmem => 0
  | .smem => 0
  | _ => 0

abbrev bufTy : (tb : Table) → Fin (tcTables nBuf tb) → BufTy
  | .hbm, ⟨0, _⟩ => ⟨S24x2048x128, .f32⟩
  | .hbm, ⟨1, _⟩ => ⟨S4x1536, .f32⟩
  | .hbm, ⟨2, _⟩ => ⟨S2048x512, .f32⟩
  | .hbm, ⟨3, _⟩ => ⟨S12x2048x128, .f32⟩
  | .hbm, ⟨4, _⟩ => ⟨S2048x12x128, .f32⟩
  | .hbm, ⟨5, _⟩ => ⟨S2048x1536, .f32⟩
  | .hbm, ⟨6, _⟩ => ⟨S_, .i32⟩
  | .hbm, ⟨7, _⟩ => ⟨S_, .f32⟩
  | .hbm, ⟨8, _⟩ => ⟨S2051x1536, .f32⟩
  | .hbm, ⟨9, _⟩ => ⟨S2048x1536, .f32⟩
  | .hbm, ⟨10, _⟩ => ⟨S1x1536, .f32⟩
  | .hbm, ⟨11, _⟩ => ⟨S1536, .f32⟩
  | .hbm, ⟨12, _⟩ => ⟨S1x1536, .f32⟩
  | .hbm, ⟨13, _⟩ => ⟨S2048x1536, .f32⟩
  | .hbm, ⟨14, _⟩ => ⟨S2048x1536, .f32⟩
  | .hbm, ⟨15, _⟩ => ⟨S2048x1536, .f32⟩
  | .hbm, ⟨16, _⟩ => ⟨S1x1536, .f32⟩
  | .hbm, ⟨17, _⟩ => ⟨S1536, .f32⟩
  | .hbm, ⟨18, _⟩ => ⟨S1x1536, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S1x1536, .f32⟩
  | .hbm, ⟨24, _⟩ => ⟨S1536, .f32⟩
  | .hbm, ⟨25, _⟩ => ⟨S1x1536, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S2048x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | .hbm, ⟨44, _⟩ => ⟨S2048x1536, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x4x128, .f32⟩
  | .hbm, ⟨49, _⟩ => ⟨S2048x4x128, .f32⟩
  | .hbm, ⟨50, _⟩ => ⟨S_, .f32⟩
  | .hbm, ⟨51, _⟩ => ⟨S2048x4, .f32⟩
  | .hbm, ⟨52, _⟩ => ⟨S2048x4x1, .f32⟩
  | .hbm, ⟨53, _⟩ => ⟨S_, .f32⟩
  | .hbm, ⟨54, _⟩ => ⟨S2048x4x1, .f32⟩
  | .hbm, ⟨55, _⟩ => ⟨S2048x4x1, .f32⟩
  | .hbm, ⟨56, _⟩ => ⟨S2048x4x1, .f32⟩
  | .hbm, ⟨57, _⟩ => ⟨S2048x4x128, .f32⟩
  | .hbm, ⟨58, _⟩ => ⟨S2048x4x128, .f32⟩
  | .hbm, ⟨59, _⟩ => ⟨S2048x512, .f32⟩
  | .hbm, ⟨60, _⟩ => ⟨S_, .f32⟩
  | .hbm, ⟨61, _⟩ => ⟨S2048x512, .f32⟩
  | .hbm, ⟨62, _⟩ => ⟨S2048x512, .f32⟩
  | .hbm, ⟨63, _⟩ => ⟨S2048x4x128, .f32⟩
  | .hbm, ⟨64, _⟩ => ⟨S2048x4x128, .f32⟩
  | .hbm, ⟨65, _⟩ => ⟨S_, .f32⟩
  | .hbm, ⟨66, _⟩ => ⟨S2048x4, .f32⟩
  | .hbm, ⟨67, _⟩ => ⟨S2048x4x1, .f32⟩
  | .hbm, ⟨68, _⟩ => ⟨S_, .f32⟩
  | .hbm, ⟨69, _⟩ => ⟨S2048x4x1, .f32⟩
  | .hbm, ⟨70, _⟩ => ⟨S2048x4x1, .f32⟩
  | .hbm, ⟨71, _⟩ => ⟨S2048x4x1, .f32⟩
  | .hbm, ⟨72, _⟩ => ⟨S2048x4x128, .f32⟩
  | .hbm, ⟨73, _⟩ => ⟨S2048x4x128, .f32⟩
  | .hbm, ⟨74, _⟩ => ⟨S2048x512, .f32⟩
  | .hbm, ⟨75, _⟩ => ⟨S2048x1536, .f32⟩
  | _, _ => ⟨S24x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_cst_0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_1 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_2 : Ref sig .tc := ⟨.hbm, 65, rfl⟩
abbrev main_v49 : Ref sig .tc := ⟨.hbm, 66, rfl⟩
abbrev main_v50 : Ref sig .tc := ⟨.hbm, 67, rfl⟩
abbrev main_cst_3 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== KernelAc.lean ====
abbrev S8x4x192 : Shape := ⟨3, ![8, 4, 192]⟩
abbrev S4x192 : Shape := ⟨2, ![4, 192]⟩
abbrev S1x4x192 : Shape := ⟨3, ![1, 4, 192]⟩

abbrev nBuf : Space → Nat
  | .hbm => 8
  | .vmem => 8
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S8x4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAcIdeal.lean ====
abbrev S8x4x192 : Shape := ⟨3, ![8, 4, 192]⟩
abbrev S4x192 : Shape := ⟨2, ![4, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S_, .f32⟩
  | .hbm, ⟨7, _⟩ => ⟨S4x192, .f32⟩
  | .hbm, ⟨8, _⟩ => ⟨S4x192, .f32⟩
  | .hbm, ⟨9, _⟩ => ⟨S_, .f32⟩
  | .hbm, ⟨10, _⟩ => ⟨S4x192, .f32⟩
  | .hbm, ⟨11, _⟩ => ⟨S4x192, .f32⟩
  | .hbm, ⟨12, _⟩ => ⟨S4x192, .f32⟩
  | .hbm, ⟨13, _⟩ => ⟨S_, .f32⟩
  | .hbm, ⟨14, _⟩ => ⟨S4x192, .f32⟩
  | .hbm, ⟨15, _⟩ => ⟨S4x192, .f32⟩
  | .hbm, ⟨16, _⟩ => ⟨S4x192, .f32⟩
  | .hbm, ⟨17, _⟩ => ⟨S_, .f32⟩
  | .hbm, ⟨18, _⟩ => ⟨S4x192, .f32⟩
  | .hbm, ⟨19, _⟩ => ⟨S4x192, .f32⟩
  | .hbm, ⟨20, _⟩ => ⟨S4x192, .f32⟩
  | .hbm, ⟨21, _⟩ => ⟨S_, .f32⟩
  | .hbm, ⟨22, _⟩ => ⟨S4x192, .f32⟩
  | .hbm, ⟨23, _⟩ => ⟨S4x192, .f32⟩
  | .hbm, ⟨24, _⟩ => ⟨S_, .f32⟩
  | .hbm, ⟨25, _⟩ => ⟨S4x192, .f32⟩
  | .hbm, ⟨26, _⟩ => ⟨S4x192, .f32⟩
  | .hbm, ⟨27, _⟩ => ⟨S4x192, .f32⟩
  | .hbm, ⟨28, _⟩ => ⟨S_, .f32⟩
  | .hbm, ⟨29, _⟩ => ⟨S4x192, .f32⟩
  | .hbm, ⟨30, _⟩ => ⟨S4x192, .f32⟩
  | .hbm, ⟨31, _⟩ => ⟨S4x192, .f32⟩
  | .hbm, ⟨32, _⟩ => ⟨S_, .f32⟩
  | .hbm, ⟨33, _⟩ => ⟨S4x192, .f32⟩
  | .hbm, ⟨34, _⟩ => ⟨S4x192, .f32⟩
  | .hbm, ⟨35, _⟩ => ⟨S4x192, .f32⟩
  | .hbm, ⟨36, _⟩ => ⟨S_, .f32⟩
  | .hbm, ⟨37, _⟩ => ⟨S4x192, .f32⟩
  | .hbm, ⟨38, _⟩ => ⟨S4x192, .f32⟩
  | _, _ => ⟨S8x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Pieces.lean ====
module

public import Idealize.ShloMosaic.Lib.Claim

public import Idealize.ShloMosaic.Lib.Pipeline.ValueKit
public import Idealize.ShloMosaic.Lib.Pointwise

@[expose] public section

noncomputable section

open Idealize.ShloMosaic Idealize.ShloMosaic.TcCoe Idealize.SL.Sem
open scoped BigOperators

namespace Cert.Pieces

/-- The slot of the kernel's stack that holds a piece of the projection's columns. -/
def slot : Fin 8 → Fin 8 := ![0, 1, 2, 6, 3, 4, 5, 7]

/-- The pieces side by side, as a function of the column. -/
def pick (g : Fin 8 → Fin 512 → EReal) (q : Nat) (hq : q < 4096) : EReal :=
  if h0 : q < 512 then g 0 ⟨q, h0⟩ else if h1 : q - 512 < 512 then g 1 ⟨q - 512, h1⟩ else if h2 : q - 512 - 512 < 512 then g 2 ⟨q - 512 - 512, h2⟩ else if h3 : q - 512 - 512 - 512 < 512 then g 6 ⟨q - 512 - 512 - 512, h3⟩ else if h4 : q - 512 - 512 - 512 - 512 < 512 then g 3 ⟨q - 512 - 512 - 512 - 512, h4⟩ else if h5 : q - 512 - 512 - 512 - 512 - 512 < 512 then g 4 ⟨q - 512 - 512 - 512 - 512 - 512, h5⟩ else if h6 : q - 512 - 512 - 512 - 512 - 512 - 512 < 512 then g 5 ⟨q - 512 - 512 - 512 - 512 - 512 - 512, h6⟩ else g 7 ⟨q - 512 - 512 - 512 - 512 - 512 - 512 - 512, by omega⟩

theorem pick_apply (g : Fin 8 → Fin 512 → EReal) (o : Fin 8) (l : Fin 512) :
    pick g (512 * o.val + l.val) (by omega) = g (slot o) l := by
  have hl := l.isLt
  unfold pick
  obtain ⟨o, ho⟩ := o
  interval_cases o <;> dsimp only
  · rw [dif_pos (by omega)]; exact congrArg (g 0) (Fin.ext (by dsimp only; omega))
  · rw [dif_neg (by omega), dif_pos (by omega)]; exact congrArg (g 1) (Fin.ext (by dsimp only; omega))
  · rw [dif_neg (by omega), dif_neg (by omega), dif_pos (by omega)]; exact congrArg (g 2) (Fin.ext (by dsimp only; omega))
  · rw [dif_neg (by omega), dif_neg (by omega), dif_neg (by omega), dif_pos (by omega)]; exact congrArg (g 6) (Fin.ext (by dsimp only; omega))
  · rw [dif_neg (by omega), dif_neg (by omega), dif_neg (by omega), dif_neg (by omega), dif_pos (by omega)]; exact congrArg (g 3) (Fin.ext (by dsimp only; omega))
  · rw [dif_neg (by omega), dif_neg (by omega), dif_neg (by omega), dif_neg (by omega), dif_neg (by omega), dif_pos (by omega)]; exact congrArg (g 4) (Fin.ext (by dsimp only; omega))
  · rw [dif_neg (by omega), dif_neg (by omega), dif_neg (by omega), dif_neg (by omega), dif_neg (by omega), dif_neg (by omega), dif_pos (by omega)]; exact congrArg (g 5) (Fin.ext (by dsimp only; omega))
  · rw [dif_neg (by omega), dif_neg (by omega), dif_neg (by omega), dif_neg (by omega), dif_neg (by omega), dif_neg (by omega), dif_neg (by omega)]; exact congrArg (g 7) (Fin.ext (by dsimp only; omega))

end Cert.Pieces

end
-- ==== Proof.DxBase.lean ====
module

public import proofs.«01_k».proof.Proof.Gen.KernelDxIdeal.Value
public import proofs.«01_k».proof.Proof.Gen.KernelDxIdeal.Frame
public import proofs.«01_k».proof.Proof.Gen.ReferenceDxIdeal.Read
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelDxIdeal.Value

open Cert.KernelDxIdeal Cert.KernelDxIdeal.Gen

variable (m : (ℓ : Loc nD τ sig) → Buf (Elt Ideal) ℓ)

/-- Every window's block index at every grid point. -/
theorem idx_val : ∀ t : Fin cfg0.N, win0_0.index t = ![0, t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![0, 0]
    ∧ win0_8.index t = ![t.val, 0]
    ∧ win0_9.index t = ![0, 0] :=
  (by decide +kernel : ∀ t : Fin grid0.N, _)

end Cert.KernelDxIdeal.Value

end
-- ==== Proof.DxProd.lean ====
module

public import proofs.«01_k».proof.Proof.Pieces
public import proofs.«01_k».proof.Proof.DxBase

@[expose] public section

set_option maxRecDepth 16384

noncomputable section

open Idealize.ShloMosaic Idealize.ShloMosaic.TcCoe Idealize.SL.Sem
open Idealize.ShloMosaic.Pipeline (Dat)
open scoped BigOperators

namespace Cert.KernelDxIdeal.Value

open Cert.KernelDxIdeal Cert.KernelDxIdeal.Gen

variable (m : (ℓ : Loc nD τ sig) → Buf (Elt Ideal) ℓ)
open Cert.ReferenceDxIdeal.Read Cert.Pieces

/-- A sum over `4096` lanes is eight sums over `512`. -/
theorem sum_lanes (f : Fin 4096 → EReal) : ∑ k, f k = ∑ s : Fin 8, ∑ l : Fin 512, f ⟨512 * s.val + l.val, by omega⟩ := by
  rw [← Fintype.sum_prod_type' (f := fun (s : Fin 8) (l : Fin 512) => f ⟨512 * s.val + l.val, by omega⟩),
    ← Equiv.sum_comp (finProdFinEquiv (m := 8) (n := 512)) f]
  exact Finset.sum_congr rfl fun x _ => congrArg f (Fin.ext (by simp [finProdFinEquiv]; omega))

/-- The gradient of the normalised rows at one block, from the windows' blocks. -/
def dhBlk (x0 : Vec Ideal S8x256x512 .f32) (x1 : Vec Ideal S256x128 .f32) (x2 : Vec Ideal S1024x4096 .bf16)
    (x3 : Vec Ideal S1024x128 .bf16) : FVec Ideal S256x1024 .f32 :=
  k0_pay1 (F := Ideal)
      (k0_pay7
        (k0_pay6 x1 x3
          (View.ld x0 (Rect.unit ![0, 0, 0] ![1, 256, 512] inb_S8x256x512_S1x256x512_0_0_0))
          (View.ld x2 (Rect.unit ![0, 0] ![1024, 512] inb_S1024x4096_S1024x512_0_0))
          (View.ld x0 (Rect.unit ![1, 0, 0] ![1, 256, 512] inb_S8x256x512_S1x256x512_1_0_0))
          (View.ld x2 (Rect.unit ![0, 512] ![1024, 512] inb_S1024x4096_S1024x512_0_512))
          (View.ld x0 (Rect.unit ![2, 0, 0] ![1, 256, 512] inb_S8x256x512_S1x256x512_2_0_0))
          (View.ld x2 (Rect.unit ![0, 1024] ![1024, 512] inb_S1024x4096_S1024x512_0_1024)))
        (View.ld x0 (Rect.unit ![3, 0, 0] ![1, 256, 512] inb_S8x256x512_S1x256x512_3_0_0))
        (View.ld x2 (Rect.unit ![0, 2048] ![1024, 512] inb_S1024x4096_S1024x512_0_2048))
        (View.ld x0 (Rect.unit ![4, 0, 0] ![1, 256, 512] inb_S8x256x512_S1x256x512_4_0_0))
        (View.ld x2 (Rect.unit ![0, 2560] ![1024, 512] inb_S1024x4096_S1024x512_0_2560))
        (View.ld x0 (Rect.unit ![5, 0, 0] ![1, 256, 512] inb_S8x256x512_S1x256x512_5_0_0))
        (View.ld x2 (Rect.unit ![0, 3072] ![1024, 512] inb_S1024x4096_S1024x512_0_3072))
        (View.ld x0 (Rect.unit ![6, 0, 0] ![1, 256, 512] inb_S8x256x512_S1x256x512_6_0_0))
        (View.ld x2 (Rect.unit ![0, 1536] ![1024, 512] inb_S1024x4096_S1024x512_0_1536)))
      (k0_pay8 (View.ld x0 (Rect.unit ![7, 0, 0] ![1, 256, 512] inb_S8x256x512_S1x256x512_7_0_0))
        (View.ld x2 (Rect.unit ![0, 3584] ![1024, 512] inb_S1024x4096_S1024x512_0_3584)))

/-- One piece's part of the product. -/
def part (x0 : Vec Ideal S8x256x512 .f32) (x2 : Vec Ideal S1024x4096 .bf16) (s : Fin 8) (o : Fin 8) (y : S256x1024.Idx) : EReal :=
  ∑ l : Fin 512, x0 (ix3 s (y 0) l) * x2 (ix2 (y 1) (⟨512 * o.val + l.val, by omega⟩ : Fin 4096))

/-- The small projection's part of the product, of one block and of the whole arrays. -/
def small (x1 : Vec Ideal S256x128 .f32) (x3 : Vec Ideal S1024x128 .bf16) (i : Fin 256) (j : Fin 1024) : EReal :=
  ∑ k : Fin 128, x1 (ix2 i k) * x3 (ix2 j k)
def smallR (x1 : Vec Ideal Cert.ReferenceDxIdeal.S2048x128 .f32) (x3 : Vec Ideal Cert.ReferenceDxIdeal.S1024x128 .f32)
    (i : Fin 2048) (j : Fin 1024) : EReal :=
  ∑ k : Fin 128, x1 (ix2 i k) * x3 (ix2 j k)

theorem dhBlk_apply (x0 : Vec Ideal S8x256x512 .f32) (x1 : Vec Ideal S256x128 .f32) (x2 : Vec Ideal S1024x4096 .bf16)
    (x3 : Vec Ideal S1024x128 .bf16) (y : S256x1024.Idx) :
    dhBlk x0 x1 x2 x3 y = small x1 x3 (y 0) (y 1) + part x0 x2 0 0 y + part x0 x2 1 1 y
      + part x0 x2 2 2 y + part x0 x2 3 4 y + part x0 x2 4 5 y + part x0 x2 5 6 y + part x0 x2 6 3 y + part x0 x2 7 7 y := by
  pointwise [dhBlk, part, small, k0_pay1, k0_pay6, k0_pay7, k0_pay8]

theorem v16_open (x0 : Vec Ideal Cert.ReferenceDxIdeal.S8x2048x512 .f32) (i : Fin 2048) (q : Fin 4096) :
    val_main_v16 (F := Ideal) x0 (ix2 i q) = pick (fun s l => x0 (ix3 s i l)) q.val q.isLt := by
  pointwise [pick, val_main_v16, val_main_v0, val_main_v1, val_main_v2, val_main_v3, val_main_v4, val_main_v5, val_main_v6, val_main_v7, val_main_v8, val_main_v9, val_main_v10, val_main_v11, val_main_v12, val_main_v13, val_main_v14, val_main_v15]

theorem v16_apply (x0 : Vec Ideal Cert.ReferenceDxIdeal.S8x2048x512 .f32) (i : Fin 2048) (o : Fin 8) (l : Fin 512) :
    val_main_v16 (F := Ideal) x0 (ix2 i (⟨512 * o.val + l.val, by omega⟩ : Fin 4096)) = x0 (ix3 (slot o) i l) :=
  (v16_open x0 i _).trans (pick_apply (fun s l => x0 (ix3 s i l)) o l)

/-- One piece's part of the product, of the whole arrays. -/
def partR (x0 : Vec Ideal Cert.ReferenceDxIdeal.S8x2048x512 .f32) (x2 : Vec Ideal Cert.ReferenceDxIdeal.S1024x4096 .f32)
    (s o : Fin 8) (i : Fin 2048) (j : Fin 1024) : EReal :=
  ∑ l : Fin 512, x0 (ix3 s i l) * x2 (ix2 j (⟨512 * o.val + l.val, by omega⟩ : Fin 4096))

/-- The reference's gradient of the normalised rows, its columns cut as the kernel's stack is. -/
theorem v36_apply (x0 : Vec Ideal Cert.ReferenceDxIdeal.S8x2048x512 .f32) (x1 : Vec Ideal Cert.ReferenceDxIdeal.S2048x128 .f32)
    (x2 : Vec Ideal Cert.ReferenceDxIdeal.S1024x4096 .f32) (x3 : Vec Ideal Cert.ReferenceDxIdeal.S1024x128 .f32) (i : Fin 2048) (j : Fin 1024) :
    val_main_v36 (F := Ideal) x0 x1 x2 x3 (ix2 i j) = smallR x1 x3 i j
      + ∑ o : Fin 8, partR x0 x2 (slot o) o i j := by
  have h : val_main_v36 (F := Ideal) x0 x1 x2 x3 (ix2 i j) = (∑ k : Fin 128, x1 (ix2 i k) * x3 (ix2 j k))
      + ∑ k : Fin 4096, val_main_v16 (F := Ideal) x0 (ix2 i k) * x2 (ix2 j k) := by
    pointwise [val_main_v36, val_main_v34, val_main_v35]
  rw [h, sum_lanes]
  simp only [v16_apply, smallR, partR]

/-- The row of the whole array at which row `p` of block `t` lies. -/
abbrev row (t : Fin cfg0.N) (p : Fin 256) : Fin 2048 := ⟨256 * t.val + p.val, by have := t.isLt; have : cfg0.N = 8 := N_0; omega⟩

theorem part_eq (m : (ℓ : Loc nD τ sig) → Buf (Elt Ideal) ℓ) (c : Dev nD) (t : Fin cfg0.N) (s o : Fin 8) (p : Fin 256) (d : Fin 1024) :
    part (iblk m c 0 t) (iblk m c 2 t) s o (ix2 p d)
      = partR (m ((c : Thread nD τ).loc main_arg0)) (m ((c : Thread nD τ).loc main_arg2)) s o (row t p) d := by
  refine Finset.sum_congr rfl fun l _ => ?_
  blk_point [iblk, V, idx_val t]

theorem small_eq (m : (ℓ : Loc nD τ sig) → Buf (Elt Ideal) ℓ) (c : Dev nD) (t : Fin cfg0.N) (p : Fin 256) (d : Fin 1024) :
    small (iblk m c 1 t) (iblk m c 3 t) p d
      = smallR (m ((c : Thread nD τ).loc main_arg1)) (m ((c : Thread nD τ).loc main_arg3)) (row t p) d := by
  refine Finset.sum_congr rfl fun l _ => ?_
  blk_point [iblk, V, idx_val t]

/-- The block's rows of the gradient are the reference's. -/
theorem dh_eq (m : (ℓ : Loc nD τ sig) → Buf (Elt Ideal) ℓ) (c : Dev nD) (t : Fin cfg0.N) (p : Fin 256) (d : Fin 1024) :
    dhBlk (iblk m c 0 t) (iblk m c 1 t) (iblk m c 2 t) (iblk m c 3 t) (ix2 p d)
      = val_main_v36 (F := Ideal) (m ((c : Thread nD τ).loc main_arg0)) (m ((c : Thread nD τ).loc main_arg1))
          (m ((c : Thread nD τ).loc main_arg2)) (m ((c : Thread nD τ).loc main_arg3)) (ix2 (row t p) d) := by
  refine (dhBlk_apply _ _ _ _ (ix2 p d)).trans (Eq.trans ?_ (v36_apply _ _ _ _ (row t p) d).symm)
  rw [Fin.sum_univ_eight]
  simp only [part_eq]
  refine Eq.trans (congrArg (fun z => z + _ + _ + _ + _ + _ + _ + _ + _) (small_eq m c t p d)) ?_
  rw [show slot 0 = 0 from rfl, show slot 1 = 1 from rfl, show slot 2 = 2 from rfl, show slot 3 = 6 from rfl,
    show slot 4 = 3 from rfl, show slot 5 = 4 from rfl, show slot 6 = 5 from rfl, show slot 7 = 7 from rfl]
  generalize smallR _ _ (row t p) d = a
  generalize hf : (fun s o => partR _ _ s o (row t p) d) = f
  have hf' : ∀ s o, partR (m ((c : Thread nD τ).loc main_arg0)) (m ((c : Thread nD τ).loc main_arg2)) s o (row t p) d = f s o := fun s o => congrFun (congrFun hf s) o
  simp only [hf']
  abel

end Cert.KernelDxIdeal.Value

end
-- ==== Proof.DxNw.lean ====
module

public import proofs.«01_k».proof.Proof.DxProd

@[expose] public section

set_option maxRecDepth 16384

noncomputable section

open Idealize.ShloMosaic Idealize.ShloMosaic.TcCoe Idealize.SL.Sem
open Idealize.ShloMosaic.Pipeline (Dat)
open scoped BigOperators

namespace Cert.KernelDxIdeal.Value

open Cert.KernelDxIdeal Cert.KernelDxIdeal.Gen

variable (m : (ℓ : Loc nD τ sig) → Buf (Elt Ideal) ℓ)
open Cert.ReferenceDxIdeal.Read

/-- The block's reciprocal roots are the reference's. -/
theorem r_eq (c : Dev nD) (t : Fin cfg0.N) (p : Fin 256) :
    (iblk m c 5 t : Vec Ideal S256x1 .f32) (ix2 p 0)
      = val_main_v24 (F := Ideal) (m ((c : Thread nD τ).loc main_arg4)) (ix2 (row t p) 0) := by
  blk_simp [iblk, V, idx_val t]
  entry_read
  pointwise [val_main_v24, val_main_v23, val_main_v22, val_main_v21, val_main_v20, val_main_v19, val_main_v18, val_main_v17, val_main_cst, val_main_cst_0, val_main_cst_1]
  blk_point [iblk, V, idx_val t]

theorem pay4_apply (v56 v62 : FVec Ideal S256x1024 .f32) (v64 : Vec Ideal S256x1024 .f32) (v65 : Vec Ideal S256x1 .f32)
    (v86 : Vec Ideal S1x1024 .f32) (j : S1x1024.Idx) :
    k0_pay4 v56 v62 v64 v65 v86 j = v86 j + ∑ p : Fin 256, k0_pay1 v56 v62 (ix2 p (j 1)) * v64 (ix2 p (j 1)) * v65 (ix2 p 0) := by
  pointwise [k0_pay4, k0_pay2]

theorem zero_9 (j : S1x1024.Idx) : k0_pay5 (F := Ideal) j = 0 := by
  pointwise! [k0_pay5]

/-- One block's part of the gradient of the normalisation's weight. -/
def nwPart (dh : FVec Ideal S256x1024 .f32) (x : Vec Ideal S256x1024 .f32) (r : Vec Ideal S256x1 .f32) (d : Fin 1024) : EReal :=
  ∑ p : Fin 256, dh (ix2 p d) * x (ix2 p d) * r (ix2 p 0)

theorem x_eq (c : Dev nD) (t : Fin cfg0.N) (p : Fin 256) (d : Fin 1024) :
    (iblk m c 4 t : Vec Ideal S256x1024 .f32) (ix2 p d) = m ((c : Thread nD τ).loc main_arg4) (ix2 (row t p) d) := by
  blk_point [iblk, V, idx_val t]

/-- The gradient of the normalisation's weight: a sum over every row. -/
def nwSum (x0 : Vec Ideal Cert.ReferenceDxIdeal.S8x2048x512 .f32) (x1 : Vec Ideal Cert.ReferenceDxIdeal.S2048x128 .f32)
    (x2 : Vec Ideal Cert.ReferenceDxIdeal.S1024x4096 .f32) (x3 : Vec Ideal Cert.ReferenceDxIdeal.S1024x128 .f32)
    (x4 : Vec Ideal Cert.ReferenceDxIdeal.S2048x1024 .f32) (d : Fin 1024) : EReal :=
  ∑ i : Fin 2048, x4 (ix2 i d) * val_main_v24 (F := Ideal) x4 (ix2 i 0) * val_main_v36 (F := Ideal) x0 x1 x2 x3 (ix2 i d)

theorem v39_apply (x0 : Vec Ideal Cert.ReferenceDxIdeal.S8x2048x512 .f32) (x1 : Vec Ideal Cert.ReferenceDxIdeal.S2048x128 .f32)
    (x2 : Vec Ideal Cert.ReferenceDxIdeal.S1024x4096 .f32) (x3 : Vec Ideal Cert.ReferenceDxIdeal.S1024x128 .f32)
    (x4 : Vec Ideal Cert.ReferenceDxIdeal.S2048x1024 .f32) (j : S1x1024.Idx) :
    val_main_v39 (F := Ideal) x0 x1 x2 x3 x4 j
      = nwSum x0 x1 x2 x3 x4 (j 1) := by
  pointwise [nwSum, val_main_v39, val_main_v38, val_main_v37, val_main_v29, val_main_v28, val_main_cst_3]

/-- The blocks' parts add up to the sum over every row. -/
theorem nw_sum (c : Dev nD) (d : Fin 1024) :
    ∑ t : Fin cfg0.N, nwPart (dhBlk (iblk m c 0 t) (iblk m c 1 t) (iblk m c 2 t) (iblk m c 3 t)) (iblk m c 4 t) (iblk m c 5 t) d
      = nwSum (m ((c : Thread nD τ).loc main_arg0)) (m ((c : Thread nD τ).loc main_arg1))
          (m ((c : Thread nD τ).loc main_arg2)) (m ((c : Thread nD τ).loc main_arg3)) (m ((c : Thread nD τ).loc main_arg4)) d := by
  unfold nwPart nwSum
  refine Fin.sum_mul_add_congr fun s k hl => ?_
  have e : (⟨s.val * 256 + k.val, hl⟩ : Fin 2048) = row s k := Fin.ext (by dsimp only; omega)
  refine (congrArg₂ (· * ·) (congrArg₂ (· * ·) (dh_eq m c s k d) (x_eq m c s k d)) (r_eq m c s k)).trans ?_
  rw [e]
  generalize val_main_v36 (F := Ideal) _ _ _ _ _ = a
  generalize val_main_v24 (F := Ideal) _ _ = b
  rw [mul_comm a, mul_assoc, mul_comm a, ← mul_assoc]

theorem final_9 (c : Dev nD) : (dats m 0 c).arrAt 9 (cfgs 0).N
    = val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0)
    (fun t j => nwPart (dhBlk (iblk m c 0 t) (iblk m c 1 t) (iblk m c 2 t) (iblk m c 3 t)) (iblk m c 4 t) (iblk m c 5 t) (j 1))
    (fun t h j => by rw [outsAt0_A m c t h]; frame_out; rw [pay4_apply, zero_9]; rfl)
    (fun t h j => by rw [outsAt0_B m c t h]; frame_out; rw [pay4_apply]; rfl)
    (le_of_eq N_0) t0_7 rfl j, zero_add]
  refine Eq.trans ?_ (v39_apply _ _ _ _ _ j).symm
  exact nw_sum m c (j 1)

end Cert.KernelDxIdeal.Value

end
-- ==== Proof.Reals.lean ====
module

public import Idealize.ShloMosaic.Lib.Claim
public import Idealize.ShloMosaic.Lib.ReduceAll
public import Idealize.ShloMosaic.Lib.KernelVsHost

@[expose] public section

noncomputable section

open Idealize.ShloMosaic Idealize.ShloMosaic.TcCoe Idealize.SL.Sem
open scoped BigOperators

namespace Cert.Reals

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} {s : Finset ι} {f : ι → EReal} (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self ..)).add (ih fun k hk => h k (Finset.mem_insert_of_mem hk))

/-- A value whose absolute value compares below the infinity is a real number. -/
theorem isReal_of_lt {x : Ideal .f32}
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hne : (x : EReal) ≠ ⊤ ∧ (x : EReal) ≠ ⊥ := by
    constructor <;> intro e <;> rw [e] at h' <;> simp [Ideal.cmp] at h'
  exact ⟨(x : EReal).toReal, (EReal.coe_toReal hne.1 hne.2).symm⟩

theorem word_1024 : Ideal.ofBits .f32 0x44800000#32 = ((1024 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_eps : ∃ e : ℝ, 0 < e ∧ Ideal.ofBits .f32 0x358637BD#32 = (e : EReal) := by
  refine ⟨_, ?_, by simp [Ideal.ofBits, Ideal.ieee, -EReal.coe_mul]; rfl⟩
  norm_num

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_real (a : ℝ) (ha : 0 < a) : Ideal.rsqrt (a : EReal) = (((√a)⁻¹ : ℝ) : EReal) := by
  rw [Ideal.rsqrt_coe, if_neg (not_lt.2 ha.le), if_neg ha.ne']

/-- A mean square of real numbers plus the small constant is a positive real number. -/
theorem mean_sq {n : Nat} {f : Fin n → EReal} (h : ∀ k, IsReal (f k)) :
    ∃ a : ℝ, 0 < a ∧ Ideal.div (Ideal.ofBits .f32 0x00000000#32 + ∑ k, f k * f k) (Ideal.ofBits .f32 0x44800000#32)
      + Ideal.ofBits .f32 0x358637BD#32 = (a : EReal) := by
  choose g hg using h
  obtain ⟨e, he, hw⟩ := word_eps
  refine ⟨(∑ k, g k * g k) / 1024 + e, by
    have := Finset.sum_nonneg (s := Finset.univ) fun k _ => mul_self_nonneg (g k)
    positivity, ?_⟩
  rw [hw, word_1024, show Ideal.ofBits .f32 0x00000000#32 = 0 by simp [Ideal.ofBits, Ideal.ieee], zero_add]
  simp only [hg, ← EReal.coe_mul]
  rw [coe_sum, div_real _ _ (by norm_num), EReal.coe_add]

/-- The gradient of `x / √(mean x² + ε)`, in the two forms it is written in. -/
theorem norm_grad (a : ℝ) (ha : 0 < a) (q x S : EReal) (hx : IsReal x) (hS : IsReal S) :
    q - x * (Ideal.rsqrt a * Ideal.rsqrt a * Ideal.rsqrt a * Ideal.div S (Ideal.ofBits .f32 0x44800000#32))
      = q + x * Ideal.div (S * (Ideal.ofBits .f32 0xBF000000#32 * Ideal.div (Ideal.rsqrt a) a)) (Ideal.ofBits .f32 0x44800000#32)
          + Ideal.div (S * (Ideal.ofBits .f32 0xBF000000#32 * Ideal.div (Ideal.rsqrt a) a)) (Ideal.ofBits .f32 0x44800000#32) * x := by
  obtain ⟨x, rfl⟩ := hx
  obtain ⟨S, rfl⟩ := hS
  rw [rsqrt_real a ha, word_1024, word_neg_half, div_real _ _ ha.ne', div_real _ _ (by norm_num : (1024 : ℝ) ≠ 0)]
  simp only [← EReal.coe_mul]
  rw [div_real _ _ (by norm_num : (1024 : ℝ) ≠ 0)]
  simp only [← EReal.coe_mul]
  rw [sub_eq_add_neg, ← EReal.coe_neg, add_assoc, ← EReal.coe_add]
  congr 2
  have hs : √a * √a = a := Real.mul_self_sqrt ha.le
  have h0 : √a ≠ 0 := (Real.sqrt_pos.2 ha).ne'
  generalize √a = s at hs h0
  subst hs
  field_simp
  ring

end Cert.Reals

end
-- ==== Proof.DxGx.lean ====
module

public import proofs.«01_k».proof.Proof.DxNw
public import proofs.«01_k».proof.Proof.Reals

@[expose] public section

set_option maxRecDepth 16384

noncomputable section

open Idealize.ShloMosaic Idealize.ShloMosaic.TcCoe Idealize.SL.Sem
open Idealize.ShloMosaic.Pipeline (Dat)
open scoped BigOperators

namespace Cert.KernelDxIdeal.Value

open Cert.KernelDxIdeal Cert.KernelDxIdeal.Gen

variable (m : (ℓ : Loc nD τ sig) → Buf (Elt Ideal) ℓ)
open Cert.ReferenceDxIdeal.Read Cert.Reals

/-- One entry of a block's gradient of the residual stream, from the gradient of the normalised rows. -/
def gxBlk (dh x : Vec Ideal S256x1024 .f32) (r : Vec Ideal S256x1 .f32) (w : Vec Ideal S1x1024 .f32) (e : Vec Ideal S256x1024 .f32)
    (p : Fin 256) (d : Fin 1024) : EReal :=
  (e (ix2 p d) + r (ix2 p 0) * (dh (ix2 p d) * w (ix2 0 d)))
    - x (ix2 p d) * (r (ix2 p 0) * r (ix2 p 0) * r (ix2 p 0)
        * Ideal.div (∑ k : Fin 1024, dh (ix2 p k) * w (ix2 0 k) * x (ix2 p k)) (Ideal.ofBits .f32 0x44800000#32))

theorem pay3_apply (v56 v62 : FVec Ideal S256x1024 .f32) (v64 : Vec Ideal S256x1024 .f32) (v65 : Vec Ideal S256x1 .f32)
    (v67 : Vec Ideal S1x1024 .f32) (v70 : Vec Ideal S256x1024 .f32) (p : Fin 256) (d : Fin 1024) :
    k0_pay3 v56 v62 v64 v65 v67 v70 (ix2 p d) = gxBlk (k0_pay1 v56 v62) v64 v65 v67 v70 p d := by
  pointwise [gxBlk, k0_pay3, k0_pay2]

theorem v23_apply (x4 : Vec Ideal Cert.ReferenceDxIdeal.S2048x1024 .f32) (i : Fin 2048) :
    val_main_v23 (F := Ideal) x4 (ix2 i 0) = Ideal.div (Ideal.ofBits .f32 0x00000000#32 + ∑ k : Fin 1024, x4 (ix2 i k) * x4 (ix2 i k)) (Ideal.ofBits .f32 0x44800000#32)
      + Ideal.ofBits .f32 0x358637BD#32 := by
  pointwise [val_main_v23, val_main_v22, val_main_v21, val_main_v20, val_main_v19, val_main_v18, val_main_v17, val_main_cst, val_main_cst_0, val_main_cst_1]

theorem v24_apply (x4 : Vec Ideal Cert.ReferenceDxIdeal.S2048x1024 .f32) (i : Fin 2048) :
    val_main_v24 (F := Ideal) x4 (ix2 i 0) = Ideal.rsqrt (val_main_v23 (F := Ideal) x4 (ix2 i 0)) := rfl

/-- The sum over a row of the products of the row with the gradient of the unweighted rows. -/
def rowDot (x0 : Vec Ideal Cert.ReferenceDxIdeal.S8x2048x512 .f32) (x1 : Vec Ideal Cert.ReferenceDxIdeal.S2048x128 .f32)
    (x2 : Vec Ideal Cert.ReferenceDxIdeal.S1024x4096 .f32) (x3 : Vec Ideal Cert.ReferenceDxIdeal.S1024x128 .f32)
    (x4 : Vec Ideal Cert.ReferenceDxIdeal.S2048x1024 .f32) (x6 : Vec Ideal Cert.ReferenceDxIdeal.S1x1024 .f32) (i : Fin 2048) : EReal :=
  ∑ k : Fin 1024, x4 (ix2 i k) * (val_main_v36 (F := Ideal) x0 x1 x2 x3 (ix2 i k) * x6 (ix2 0 k))

theorem v56_apply (x0 : Vec Ideal Cert.ReferenceDxIdeal.S8x2048x512 .f32) (x1 : Vec Ideal Cert.ReferenceDxIdeal.S2048x128 .f32)
    (x2 : Vec Ideal Cert.ReferenceDxIdeal.S1024x4096 .f32) (x3 : Vec Ideal Cert.ReferenceDxIdeal.S1024x128 .f32)
    (x4 x5 : Vec Ideal Cert.ReferenceDxIdeal.S2048x1024 .f32) (x6 : Vec Ideal Cert.ReferenceDxIdeal.S1x1024 .f32) (i : Fin 2048) (d : Fin 1024) :
    val_main_v56 (F := Ideal) x0 x1 x2 x3 x4 x5 x6 (ix2 i d)
      = (x5 (ix2 i d) + val_main_v36 (F := Ideal) x0 x1 x2 x3 (ix2 i d) * x6 (ix2 0 d) * val_main_v24 (F := Ideal) x4 (ix2 i 0))
        + x4 (ix2 i d) * Ideal.div (rowDot x0 x1 x2 x3 x4 x6 i * (Ideal.ofBits .f32 0xBF000000#32 * Ideal.div (val_main_v24 (F := Ideal) x4 (ix2 i 0)) (val_main_v23 (F := Ideal) x4 (ix2 i 0)))) (Ideal.ofBits .f32 0x44800000#32)
        + Ideal.div (rowDot x0 x1 x2 x3 x4 x6 i * (Ideal.ofBits .f32 0xBF000000#32 * Ideal.div (val_main_v24 (F := Ideal) x4 (ix2 i 0)) (val_main_v23 (F := Ideal) x4 (ix2 i 0)))) (Ideal.ofBits .f32 0x44800000#32) * x4 (ix2 i d) := by
  pointwise [rowDot, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v27, val_main_v26, val_main_v25, val_main_cst_2, val_main_cst_4, val_main_cst_5, val_main_cst_6]
  simp only [Fin.sum_univ_one]

theorem v36_real {x0 : Vec Ideal Cert.ReferenceDxIdeal.S8x2048x512 .f32} {x1 : Vec Ideal Cert.ReferenceDxIdeal.S2048x128 .f32}
    {x2 : Vec Ideal Cert.ReferenceDxIdeal.S1024x4096 .f32} {x3 : Vec Ideal Cert.ReferenceDxIdeal.S1024x128 .f32}
    (h0 : ∀ i, IsReal (x0 i)) (h1 : ∀ i, IsReal (x1 i)) (h2 : ∀ i, IsReal (x2 i)) (h3 : ∀ i, IsReal (x3 i)) (i : Fin 2048) (d : Fin 1024) :
    IsReal (val_main_v36 (F := Ideal) x0 x1 x2 x3 (ix2 i d)) := by
  rw [v36_apply]
  refine .add (.sum fun k _ => (h1 _).mul (h3 _)) (.sum fun o _ => .sum fun l _ => (h0 _).mul (h2 _))

/-- A row in the kernel's form is the row in the reference's. -/
theorem gx_row {x0 : Vec Ideal Cert.ReferenceDxIdeal.S8x2048x512 .f32} {x1 : Vec Ideal Cert.ReferenceDxIdeal.S2048x128 .f32}
    {x2 : Vec Ideal Cert.ReferenceDxIdeal.S1024x4096 .f32} {x3 : Vec Ideal Cert.ReferenceDxIdeal.S1024x128 .f32}
    {x4 : Vec Ideal Cert.ReferenceDxIdeal.S2048x1024 .f32} (x5 : Vec Ideal Cert.ReferenceDxIdeal.S2048x1024 .f32)
    {x6 : Vec Ideal Cert.ReferenceDxIdeal.S1x1024 .f32}
    (h0 : ∀ i, IsReal (x0 i)) (h1 : ∀ i, IsReal (x1 i)) (h2 : ∀ i, IsReal (x2 i)) (h3 : ∀ i, IsReal (x3 i))
    (h4 : ∀ i, IsReal (x4 i)) (h6 : ∀ i, IsReal (x6 i))
    {dh x : Vec Ideal S256x1024 .f32} {r : Vec Ideal S256x1 .f32} {w : Vec Ideal S1x1024 .f32} {e : Vec Ideal S256x1024 .f32}
    (i : Fin 2048) (p : Fin 256)
    (gh : ∀ d, dh (ix2 p d) = val_main_v36 (F := Ideal) x0 x1 x2 x3 (ix2 i d)) (gx : ∀ d, x (ix2 p d) = x4 (ix2 i d))
    (gr : r (ix2 p 0) = val_main_v24 (F := Ideal) x4 (ix2 i 0)) (gw : ∀ d, w (ix2 0 d) = x6 (ix2 0 d))
    (ge : ∀ d, e (ix2 p d) = x5 (ix2 i d)) (d : Fin 1024) :
    gxBlk dh x r w e p d = val_main_v56 (F := Ideal) x0 x1 x2 x3 x4 x5 x6 (ix2 i d) := by
  rw [v56_apply]
  unfold gxBlk
  have hS : ∑ k : Fin 1024, dh (ix2 p k) * w (ix2 0 k) * x (ix2 p k) = rowDot x0 x1 x2 x3 x4 x6 i :=
    Finset.sum_congr rfl fun k _ => by rw [gh, gx, gw, mul_comm]
  rw [hS, gh, gx, gr, gw, ge, v24_apply]
  obtain ⟨a, ha, e⟩ := mean_sq (f := fun k => x4 (ix2 i k)) fun k => h4 _
  rw [v23_apply, e, mul_comm (Ideal.rsqrt _) (_ * x6 _)]
  exact norm_grad a ha _ _ _ (h4 _) (.sum fun k _ => (h4 _).mul ((v36_real h0 h1 h2 h3 i k).mul (h6 _)))

theorem w_eq (c : Dev nD) (t : Fin cfg0.N) (d : Fin 1024) :
    (iblk m c 7 t : Vec Ideal S1x1024 .f32) (ix2 0 d) = m ((c : Thread nD τ).loc main_arg6) (ix2 0 d) := by
  blk_point [iblk, V, idx_val t]

theorem e_eq (c : Dev nD) (t : Fin cfg0.N) (p : Fin 256) (d : Fin 1024) :
    (iblk m c 6 t : Vec Ideal S256x1024 .f32) (ix2 p d) = m ((c : Thread nD τ).loc main_arg5) (ix2 (row t p) d) := by
  blk_point [iblk, V, idx_val t]

/-- The arguments the gradient is taken at are real numbers. -/
structure RealArgs (c : Dev nD) : Prop where
  h0 : ∀ i, IsReal (m ((c : Thread nD τ).loc main_arg0) i)
  h1 : ∀ i, IsReal (m ((c : Thread nD τ).loc main_arg1) i)
  h2 : ∀ i, IsReal (m ((c : Thread nD τ).loc main_arg2) i)
  h3 : ∀ i, IsReal (m ((c : Thread nD τ).loc main_arg3) i)
  h4 : ∀ i, IsReal (m ((c : Thread nD τ).loc main_arg4) i)
  h6 : ∀ i, IsReal (m ((c : Thread nD τ).loc main_arg6) i)

theorem gx_eq (c : Dev nD) (H : RealArgs m c) (t : Fin cfg0.N) (p : Fin 256) (d : Fin 1024) :
    gxBlk (dhBlk (iblk m c 0 t) (iblk m c 1 t) (iblk m c 2 t) (iblk m c 3 t)) (iblk m c 4 t) (iblk m c 5 t) (iblk m c 7 t) (iblk m c 6 t) p d
      = val_main_v56 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 (row t p) d) :=
  gx_row _ H.h0 H.h1 H.h2 H.h3 H.h4 H.h6 (row t p) p (dh_eq m c t p) (x_eq m c t p) (r_eq m c t p) (w_eq m c t) (e_eq m c t p) d

theorem emb_8 (t : Fin cfg0.N) (y : S256x1024.Idx) : (((cfg0.win 8).blk t).view.emb y : S2048x1024.Idx) = ix2 (row t (y 0)) (y 1) := by
  blk_ext [idx_val t]

theorem final_8 (c : Dev nD) (H : RealArgs m c) : (dats m 0 c).arrAt 8 (cfgs 0).N
    = val_main_v56 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 8 _ (by decide +kernel) fun t hf y => ?_
  have hy : (y : S256x1024.Idx) = ix2 (y 0) (y 1) := by funext a; match a with | ⟨0, _⟩ => rfl | ⟨1, _⟩ => rfl
  refine Eq.trans ?_ ((gx_eq m c H t (y 0) (y 1)).trans (congrArg _ (emb_8 t y).symm))
  blk_simp; rw [after0_8]
  by_cases h : t.val % 8 = 0
  · rw [outsAt0_A m c t h]; dsimp only; frame_out; exact (congrArg _ hy).trans (pay3_apply _ _ _ _ _ _ (y 0) (y 1))
  · rw [outsAt0_B m c t h]; dsimp only; frame_out; exact (congrArg _ hy).trans (pay3_apply _ _ _ _ _ _ (y 0) (y 1))

end Cert.KernelDxIdeal.Value

end
-- ==== Proof.DxPre.lean ====
module

public import proofs.«01_k».proof.Proof.DxGx
public import proofs.«01_k».proof.Proof.Gen.Pre_finite_dx
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelDxIdeal.Value

open Cert.KernelDxIdeal Cert.KernelDxIdeal.Gen

variable (m : (ℓ : Loc nD τ sig) → Buf (Elt Ideal) ℓ)
open Cert.Reals

theorem and_one {s : Shape} {a b : IVec s 1} (h : andi a b = fun _ => 1#1) : a = (fun _ => 1#1) ∧ b = fun _ => 1#1 := by
  constructor <;> funext i <;> have hi := congrFun h i
  · exact (IntOp.andi_eq_one.1 hi).1
  · exact (IntOp.andi_eq_one.1 hi).2

theorem all_real {s t u : Shape} [Subsingleton t.Idx] {axes : List (Fin s.rank)} {x : FVec Ideal s .f32} {y : FVec Ideal s .f32}
    {init : IVec u 1} {h : s.ReducesTo axes t} {hu : 0 < u.numel} (j : t.Idx)
    (hy : ∀ i, y i = FloatOps.ofBits (F := Ideal) .f32 0x7F800000#32)
    (e : Host.reduce IntOp.andi (cmpf .olt (Host.absf x) y) init h hu = fun _ => 1#1) (i : s.Idx) : IsReal (x i) := by
  have := Host.reduce_andi_all _ _ _ _ j (congrFun e j) i
  refine isReal_of_lt ?_
  rw [← hy i]
  exact this

instance : Subsingleton Cert.Pre_finite_dx.S_.Idx := ⟨fun a b => funext fun d => d.elim0⟩

theorem realArgs (h : Cert.Pre_KernelDxIdeal_finite_dx m) (c : Dev nD) : RealArgs m c := by
  have h := h c
  unfold Cert.Pre_finite_dx.fn Cert.Pre_finite_dx.fn_part1 at h
  dsimp only at h
  obtain ⟨h, e6⟩ := and_one h
  obtain ⟨h, e4⟩ := and_one h
  obtain ⟨h, e3⟩ := and_one h
  obtain ⟨h, e2⟩ := and_one h
  obtain ⟨e0, e1⟩ := and_one h
  exact ⟨all_real ix0 (fun _ => rfl) e0, all_real ix0 (fun _ => rfl) e1, all_real ix0 (fun _ => rfl) e2, all_real ix0 (fun _ => rfl) e3,
    all_real ix0 (fun _ => rfl) e4, all_real ix0 (fun _ => rfl) e6⟩

end Cert.KernelDxIdeal.Value

end
-- ==== Proof.DxClaim.lean ====
module

public import proofs.«01_k».proof.Defs
public import proofs.«01_k».proof.Proof.DxPre
public import proofs.«01_k».proof.Proof.Gen.ReferenceDxIdeal.Run

@[expose] public section

set_option maxRecDepth 16384

noncomputable section

open Idealize.ShloMosaic Idealize.ShloMosaic.TcCoe Idealize.SL.Sem
open Idealize.ShloMosaic.Pipeline (Dat)
open scoped BigOperators

namespace Cert.KernelDxIdeal.Value

open Cert.KernelDxIdeal Cert.KernelDxIdeal.Gen

/-- The reference's run leaves its arguments as they were, and every counter at zero. -/
theorem reference_frame : Cert.quiescent_ReferenceDxIdeal := fun m g _ =>
  (θ_run (Cert.ReferenceDxIdeal.defs (F := Ideal)) _ _).mono (fun r h => And.intro (fun c => (h c).2.2)
      (Idealize.ShloMosaic.sem_eq_zero_of_no_sems (by decide) r.2))
    (Cert.ReferenceDxIdeal.Value.run (F := Ideal) m g)

/-- The kernel and the reference end at the same arrays. -/
theorem algebraic : Cert.algebraic_KernelDxIdeal_ReferenceDxIdeal_pre_finite_dx := by
  intro m g m' g' hpre hagree
  refine ⟨fun c => Cert.ReferenceDxIdeal.Read.val_main_v56 (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)), fun c => Cert.ReferenceDxIdeal.Read.val_main_v39 (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)), ?_, ?_⟩
  · exact (θ_run _ _ _).mono (fun r h c => ⟨(h c).1.trans (final_8 m c (realArgs m hpre c)), (h c).2.1.trans (final_9 m c), (h c).2.2⟩) (run_blocks m g)
  · refine (θ_run _ _ _).mono (fun r h c => ⟨(h c).1.trans ?_, (h c).2.1.trans ?_, (h c).2.2⟩) (Cert.ReferenceDxIdeal.Value.run (F := Ideal) m' g')
    · obtain ⟨e0, e1, e2, e3, e4, e5, e6⟩ := hagree c
      refine (Cert.ReferenceDxIdeal.Read.val_main_v56_eq m' c).trans ?_
      rw [e0, e1, e2, e3, e4, e5, e6]
    · obtain ⟨e0, e1, e2, e3, e4, e5, e6⟩ := hagree c
      refine (Cert.ReferenceDxIdeal.Read.val_main_v39_eq _ _ _ _ _ ).trans ?_
      rw [e0, e1, e2, e3, e4]

end Cert.KernelDxIdeal.Value

end
-- ==== Proof.InBase.lean ====
module

public import proofs.«01_k».proof.Proof.Gen.KernelInIdeal.Value
public import proofs.«01_k».proof.Proof.Gen.KernelInIdeal.Frame
public import proofs.«01_k».proof.Proof.Gen.ReferenceInIdeal.Read
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, t.val, 0]
    ∧ win0_6.index t = ![t.val, 0]
    ∧ win0_7.index t = ![t.val, 0]
    ∧ win0_8.index t = ![0, t.val]
    ∧ win0_9.index t = ![0, t.val]
    ∧ win0_10.index t = ![t.val, 0] :=
  (by decide +kernel : ∀ t : Fin grid0.N, _)

end Cert.KernelInIdeal.Value

end
-- ==== Proof.In5.lean ====
module

public import proofs.«01_k».proof.Proof.InBase

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen

variable (m : (ℓ : Loc nD τ sig) → Buf (Elt Ideal) ℓ)

set_option maxHeartbeats 3200000 in
/-- What the body stores at an index of its block is the reference at the place of that index in the array. -/
theorem point_5 (c : Dev nD) (t : Fin cfg0.N) (y) :
    out0_5 (iblk m c 0 t) (iblk m c 1 t) (iblk m c 2 t) (iblk m c 3 t) (iblk m c 4 t) y
      = Cert.ReferenceInIdeal.Read.val_main_v29 (m ((c : Thread nD τ).loc main_arg0)) (m ((c : Thread nD τ).loc main_arg1)) (m ((c : Thread nD τ).loc
        main_arg2)) (((cfg0.win 5).blk t).view.emb y) := by
  have he0 : (((View.whole main_v4_0).slice ((win0 5).rect t)).emb y 0).val = (y 0).val := by
    blk_simp [idx_val t]
  have he2 : (((View.whole main_v4_0).slice ((win0 5).rect t)).emb y 2).val = (y 2).val := by
    blk_simp [idx_val t]
  canon_tiles x h; all_goals (open_payloads; pointwise [k0_pay1, k0_pay2, k0_pay3, Cert.ReferenceInIdeal.Read.val_main_v29, Cert.ReferenceInIdeal.Read.val_main_v28, Cert.ReferenceInIdeal.Read.val_main_v24, Cert.ReferenceInIdeal.Read.val_main_v22, Cert.ReferenceInIdeal.Read.val_main_v20, Cert.ReferenceInIdeal.Read.val_main_v19, Cert.ReferenceInIdeal.Read.val_main_v17, Cert.ReferenceInIdeal.Read.val_main_v16, Cert.ReferenceInIdeal.Read.val_main_v15, Cert.ReferenceInIdeal.Read.val_main_v14, Cert.ReferenceInIdeal.Read.val_main_v12, Cert.ReferenceInIdeal.Read.val_main_v10, Cert.ReferenceInIdeal.Read.val_main_v9, Cert.ReferenceInIdeal.Read.val_main_v8, Cert.ReferenceInIdeal.Read.val_main_cst_2, Cert.ReferenceInIdeal.Read.val_main_v11, Cert.ReferenceInIdeal.Read.val_main_cst_3, Cert.ReferenceInIdeal.Read.val_main_v13, Cert.ReferenceInIdeal.Read.val_main_cst_4, Cert.ReferenceInIdeal.Read.val_main_v18, Cert.ReferenceInIdeal.Read.val_main_v23]; blk_point [iblk, V, idx_val t] <;> omega)

theorem final_5 (c : Dev nD) : (dats m 0 c).arrAt 5 (cfgs 0).N = Cert.ReferenceInIdeal.Read.val_main_v29 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  exact point_5 m c t y

end Cert.KernelInIdeal.Value

end
-- ==== Proof.In6.lean ====
module

public import proofs.«01_k».proof.Proof.InBase

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen

variable (m : (ℓ : Loc nD τ sig) → Buf (Elt Ideal) ℓ)

set_option maxHeartbeats 1600000 in
/-- What the body stores at an index of its block is the reference at the place of that index in the array. -/
theorem point_6 (c : Dev nD) (t : Fin cfg0.N) (y) :
    out0_6 (iblk m c 0 t) (iblk m c 1 t) (iblk m c 2 t) (iblk m c 3 t) (iblk m c 4 t) y
      = Cert.ReferenceInIdeal.Read.val_main_v27 (m ((c : Thread nD τ).loc main_arg0)) (m ((c : Thread nD τ).loc main_arg1)) (m ((c : Thread nD τ).loc
        main_arg2)) (((cfg0.win 6).blk t).view.emb y) := by
  have he : (((View.whole main_v4_1).slice ((win0 6).rect t)).emb y 1).val = (y 1).val := by
    blk_simp [idx_val t]
  canon_tiles x h; all_goals (open_payloads; pointwise [k0_pay1, k0_pay2, k0_pay3, Cert.ReferenceInIdeal.Read.val_main_v27, Cert.ReferenceInIdeal.Read.val_main_v25, Cert.ReferenceInIdeal.Read.val_main_v20, Cert.ReferenceInIdeal.Read.val_main_v19, Cert.ReferenceInIdeal.Read.val_main_v17, Cert.ReferenceInIdeal.Read.val_main_v16, Cert.ReferenceInIdeal.Read.val_main_v15, Cert.ReferenceInIdeal.Read.val_main_v14, Cert.ReferenceInIdeal.Read.val_main_v12, Cert.ReferenceInIdeal.Read.val_main_v10, Cert.ReferenceInIdeal.Read.val_main_v9, Cert.ReferenceInIdeal.Read.val_main_v8, Cert.ReferenceInIdeal.Read.val_main_cst_2, Cert.ReferenceInIdeal.Read.val_main_v11, Cert.ReferenceInIdeal.Read.val_main_cst_3, Cert.ReferenceInIdeal.Read.val_main_v13, Cert.ReferenceInIdeal.Read.val_main_cst_4, Cert.ReferenceInIdeal.Read.val_main_v18, Cert.ReferenceInIdeal.Read.val_main_v26]; blk_point [iblk, V, idx_val t] <;> omega)

theorem final_6 (c : Dev nD) : (dats m 0 c).arrAt 6 (cfgs 0).N = Cert.ReferenceInIdeal.Read.val_main_v27 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]
  exact point_6 m c t y

end Cert.KernelInIdeal.Value

end
-- ==== Proof.In7.lean ====
module

public import proofs.«01_k».proof.Proof.InBase

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen

variable (m : (ℓ : Loc nD τ sig) → Buf (Elt Ideal) ℓ)

/-- What the body stores at an index of its block is the reference at the place of that index in the array. -/
theorem point_7 (c : Dev nD) (t : Fin cfg0.N) (y) :
    k0_pay38 (k0_pay41 (iblk m c 0 t) (iblk m c 1 t) (iblk m c 2 t) (iblk m c 3 t) (iblk m c 4 t)) (iblk m c 3 t) y
      = Cert.ReferenceInIdeal.Read.val_main_v21 (m ((c : Thread nD τ).loc main_arg0)) (m ((c : Thread nD τ).loc main_arg1)) (m ((c : Thread nD τ).loc
        main_arg3)) (((cfg0.win 7).blk t).view.emb y) := by
  pointwise [k0_pay38, k0_pay1, k0_pay2, k0_pay3, k0_pay41, Cert.ReferenceInIdeal.Read.val_main_v21, Cert.ReferenceInIdeal.Read.val_main_v19, Cert.ReferenceInIdeal.Read.val_main_v17, Cert.ReferenceInIdeal.Read.val_main_v16, Cert.ReferenceInIdeal.Read.val_main_v15, Cert.ReferenceInIdeal.Read.val_main_v14, Cert.ReferenceInIdeal.Read.val_main_v12, Cert.ReferenceInIdeal.Read.val_main_v10, Cert.ReferenceInIdeal.Read.val_main_v9, Cert.ReferenceInIdeal.Read.val_main_v8, Cert.ReferenceInIdeal.Read.val_main_cst_2, Cert.ReferenceInIdeal.Read.val_main_v11, Cert.ReferenceInIdeal.Read.val_main_cst_3, Cert.ReferenceInIdeal.Read.val_main_v13, Cert.ReferenceInIdeal.Read.val_main_cst_4, Cert.ReferenceInIdeal.Read.val_main_v18]; blk_point [iblk, V, idx_val t]

/-- The result array after the run. -/
theorem final_7 (c : Dev nD) : (dats m 0 c).arrAt 7 (cfgs 0).N = Cert.ReferenceInIdeal.Read.val_main_v21 (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp; rw [after0_7]; frame_out
  exact point_7 m c t y

end Cert.KernelInIdeal.Value

end
-- ==== Proof.In8.lean ====
module

public import proofs.«01_k».proof.Proof.InBase

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen

variable (m : (ℓ : Loc nD τ sig) → Buf (Elt Ideal) ℓ)

/-- The product with the transposed weights, with the factors in the reference's order. -/
theorem pay39_apply (a : FVec Ideal S256x1024 .bf16) (w : Vec Ideal S8x1024 .bf16) (y : S8x256.Idx) :
    k0_pay39 a w y = ∑ k : Fin 1024, a (ix2 (y 1) k) * w (ix2 (y 0) k) := by
  refine Eq.trans (b := ∑ k : Fin 1024, w (ix2 (y 0) k) * a (ix2 (y 1) k)) ?_ (Finset.sum_congr rfl fun _ _ => mul_comm _ _)
  pointwise [k0_pay39]

/-- What the body stores at an index of its block is the reference at the place of that index in the array. -/
theorem point_8 (c : Dev nD) (t : Fin cfg0.N) (y) :
    k0_pay39 (k0_pay41 (iblk m c 0 t) (iblk m c 1 t) (iblk m c 2 t) (iblk m c 3 t) (iblk m c 4 t)) (iblk m c 4 t) y
      = Cert.ReferenceInIdeal.Read.val_main_v31 (m ((c : Thread nD τ).loc main_arg0)) (m ((c : Thread nD τ).loc main_arg1)) (m ((c : Thread nD τ).loc
        main_arg3)) (((cfg0.win 8).blk t).view.emb y) := by
  rw [pay39_apply]
  pointwise [k0_pay1, k0_pay2, k0_pay3, k0_pay41, Cert.ReferenceInIdeal.Read.val_main_v31, Cert.ReferenceInIdeal.Read.val_main_v30, Cert.ReferenceInIdeal.Read.val_main_v21, Cert.ReferenceInIdeal.Read.val_main_v19, Cert.ReferenceInIdeal.Read.val_main_v17, Cert.ReferenceInIdeal.Read.val_main_v16, Cert.ReferenceInIdeal.Read.val_main_v15, Cert.ReferenceInIdeal.Read.val_main_v14, Cert.ReferenceInIdeal.Read.val_main_v12, Cert.ReferenceInIdeal.Read.val_main_v10, Cert.ReferenceInIdeal.Read.val_main_v9, Cert.ReferenceInIdeal.Read.val_main_v8, Cert.ReferenceInIdeal.Read.val_main_cst_2, Cert.ReferenceInIdeal.Read.val_main_v11, Cert.ReferenceInIdeal.Read.val_main_cst_3, Cert.ReferenceInIdeal.Read.val_main_v13, Cert.ReferenceInIdeal.Read.val_main_cst_4, Cert.ReferenceInIdeal.Read.val_main_v18]; blk_point [iblk, V, idx_val t]

/-- The result array after the run. -/
theorem final_8 (c : Dev nD) : (dats m 0 c).arrAt 8 (cfgs 0).N = Cert.ReferenceInIdeal.Read.val_main_v31 (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp; rw [after0_8]; frame_out
  exact point_8 m c t y

end Cert.KernelInIdeal.Value

end
-- ==== Proof.In9.lean ====
module

public import proofs.«01_k».proof.Proof.InBase

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen

variable (m : (ℓ : Loc nD τ sig) → Buf (Elt Ideal) ℓ)

/-- What the body stores at an index of its block is the reference at the place of that index in the array. -/
theorem point_9 (c : Dev nD) (t : Fin cfg0.N) (y) :
    k0_pay40 (k0_pay2 (iblk m c 0 t) (iblk m c 1 t)) y
      = Cert.ReferenceInIdeal.Read.val_main_v33 (m ((c : Thread nD τ).loc main_arg0)) (m ((c : Thread nD τ).loc main_arg1)) (((cfg0.win 9).blk
        t).view.emb y) := by
  pointwise [k0_pay1, k0_pay2, k0_pay3, k0_pay40, k0_pay2, Cert.ReferenceInIdeal.Read.val_main_v33, Cert.ReferenceInIdeal.Read.val_main_v32, Cert.ReferenceInIdeal.Read.val_main_v19, Cert.ReferenceInIdeal.Read.val_main_v17, Cert.ReferenceInIdeal.Read.val_main_v16, Cert.ReferenceInIdeal.Read.val_main_v15, Cert.ReferenceInIdeal.Read.val_main_v14, Cert.ReferenceInIdeal.Read.val_main_v12, Cert.ReferenceInIdeal.Read.val_main_v10, Cert.ReferenceInIdeal.Read.val_main_v9, Cert.ReferenceInIdeal.Read.val_main_v8, Cert.ReferenceInIdeal.Read.val_main_cst_2, Cert.ReferenceInIdeal.Read.val_main_v11, Cert.ReferenceInIdeal.Read.val_main_cst_3, Cert.ReferenceInIdeal.Read.val_main_v13, Cert.ReferenceInIdeal.Read.val_main_cst_4, Cert.ReferenceInIdeal.Read.val_main_v18]; blk_point [iblk, V, idx_val t]

/-- The result array after the run. -/
theorem final_9 (c : Dev nD) : (dats m 0 c).arrAt 9 (cfgs 0).N = Cert.ReferenceInIdeal.Read.val_main_v33 (m ((c : Thread nD τ).loc main_arg0)) (m ((c : Thread nD τ).loc main_arg1)) := by
  refine (dats m 0 c).arrAt_eq_of_covers 9 _ (by decide +kernel) fun t hf y => ?_
  blk_simp; rw [after0_9]; frame_out
  exact point_9 m c t y

end Cert.KernelInIdeal.Value

end
-- ==== Proof.In10.lean ====
module

public import proofs.«01_k».proof.Proof.InBase

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen

variable (m : (ℓ : Loc nD τ sig) → Buf (Elt Ideal) ℓ)

/-- What the body stores at an index of its block is the reference at the place of that index in the array. -/
theorem point_10 (c : Dev nD) (t : Fin cfg0.N) (y) :
    k0_pay1 (iblk m c 0 t) y
      = Cert.ReferenceInIdeal.Read.val_main_v7 (m ((c : Thread nD τ).loc main_arg0)) (((cfg0.win 10).blk t).view.emb y) := by
  pointwise [k0_pay1, Cert.ReferenceInIdeal.Read.val_main_v7, Cert.ReferenceInIdeal.Read.val_main_v6, Cert.ReferenceInIdeal.Read.val_main_v4, Cert.ReferenceInIdeal.Read.val_main_v2, Cert.ReferenceInIdeal.Read.val_main_v1, Cert.ReferenceInIdeal.Read.val_main_v0, Cert.ReferenceInIdeal.Read.val_main_cst, Cert.ReferenceInIdeal.Read.val_main_v3, Cert.ReferenceInIdeal.Read.val_main_cst_0, Cert.ReferenceInIdeal.Read.val_main_v5, Cert.ReferenceInIdeal.Read.val_main_cst_1]; blk_point [iblk, V, idx_val t]

/-- The result array after the run. -/
theorem final_10 (c : Dev nD) : (dats m 0 c).arrAt 10 (cfgs 0).N = Cert.ReferenceInIdeal.Read.val_main_v7 (m ((c : Thread nD τ).loc main_arg0)) := by
  refine (dats m 0 c).arrAt_eq_of_covers 10 _ (by decide +kernel) fun t hf y => ?_
  blk_simp; rw [after0_10]; frame_out
  exact point_10 m c t y

end Cert.KernelInIdeal.Value

end
-- ==== Proof.InClaim.lean ====
module

public import proofs.«01_k».proof.Defs
public import proofs.«01_k».proof.Proof.In5
public import proofs.«01_k».proof.Proof.In6
public import proofs.«01_k».proof.Proof.In7
public import proofs.«01_k».proof.Proof.In8
public import proofs.«01_k».proof.Proof.In9
public import proofs.«01_k».proof.Proof.In10
public import proofs.«01_k».proof.Proof.Gen.ReferenceInIdeal.Run

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen

/-- The reference's run leaves its arguments as they were, and every counter at zero. -/
theorem reference_frame : Cert.quiescent_ReferenceInIdeal := fun m g _ =>
  (θ_run (Cert.ReferenceInIdeal.defs (F := Ideal)) _ _).mono (fun r h => And.intro (fun c => (h c).2.2.2.2.2.2)
      (Idealize.ShloMosaic.sem_eq_zero_of_no_sems (by decide) r.2))
    (Cert.ReferenceInIdeal.Value.run (F := Ideal) m g)

/-- The kernel and the reference end at the same arrays. -/
theorem algebraic : Cert.algebraic_KernelInIdeal_ReferenceInIdeal := by
  intro m g m' g' hpre hagree
  refine ⟨fun c => Cert.ReferenceInIdeal.Read.val_main_v29 (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)), fun c => Cert.ReferenceInIdeal.Read.val_main_v27 (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)), fun c => Cert.ReferenceInIdeal.Read.val_main_v21 (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg3)), fun c => Cert.ReferenceInIdeal.Read.val_main_v31 (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg3)), fun c => Cert.ReferenceInIdeal.Read.val_main_v33 (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)), fun c => Cert.ReferenceInIdeal.Read.val_main_v7 (F := Ideal) (m ((c.tc : Thread Cert.KernelInIdeal.nD Cert.KernelInIdeal.τ).loc Cert.KernelInIdeal.main_arg0)), ?_, ?_⟩
  · exact (θ_run _ _ _).mono (fun r h c => ⟨(h c).1.trans (final_5 m c), (h c).2.1.trans (final_6 m c), (h c).2.2.1.trans (final_7 m c), (h c).2.2.2.1.trans (final_8 m c), (h c).2.2.2.2.1.trans (final_9 m c), (h c).2.2.2.2.2.1.trans (final_10 m c), (h c).2.2.2.2.2.2⟩) (run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.ReferenceInIdeal.Value.run (F := Ideal) m' g')
    · obtain ⟨e0, e1, e2, e3⟩ := hagree c
      refine (Cert.ReferenceInIdeal.Read.val_main_v29_eq _ _ _ ).trans ?_
      rw [e0, e1, e2]
    · obtain ⟨e0, e1, e2, e3⟩ := hagree c
      refine (Cert.ReferenceInIdeal.Read.val_main_v27_eq _ _ _ ).trans ?_
      rw [e0, e1, e2]
    · obtain ⟨e0, e1, e2, e3⟩ := hagree c
      refine (Cert.ReferenceInIdeal.Read.val_main_v21_eq _ _ _ ).trans ?_
      rw [e0, e1, e3]
    · obtain ⟨e0, e1, e2, e3⟩ := hagree c
      refine (Cert.ReferenceInIdeal.Read.val_main_v31_eq _ _ _ ).trans ?_
      rw [e0, e1, e3]
    · obtain ⟨e0, e1, e2, e3⟩ := hagree c
      refine (Cert.ReferenceInIdeal.Read.val_main_v33_eq _ _ ).trans ?_
      rw [e0, e1]
    · obtain ⟨e0, e1, e2, e3⟩ := hagree c
      refine (Cert.ReferenceInIdeal.Read.val_main_v7_eq _ ).trans ?_
      rw [e0]

end Cert.KernelInIdeal.Value

end
-- ==== Proof.GwVal.lean ====
module

public import proofs.«01_k».proof.Proof.Pieces
public import proofs.«01_k».proof.Proof.Gen.KernelGwIdeal.Value
public import proofs.«01_k».proof.Proof.Gen.KernelGwIdeal.Frame
public import proofs.«01_k».proof.Proof.Gen.ReferenceGwIdeal.Read
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelGwIdeal.Value

open Cert.KernelGwIdeal Cert.KernelGwIdeal.Gen

variable (m : (ℓ : Loc nD τ sig) → Buf (Elt Ideal) ℓ)
open Cert.ReferenceGwIdeal.Read Cert.Pieces

/-- The piece of the projection's columns that a slot of the kernel's stack holds. -/
def piece : Fin 8 → Fin 8 := ![0, 1, 2, 4, 5, 6, 3, 7]

theorem slot_piece : ∀ s : Fin 8, slot (piece s) = s := by decide

/-- Every window's block index at every grid point. -/
theorem idx_val : ∀ t : Fin cfg0.N, win0_0.index t = ![0, 0]
    ∧ win0_1.index t = ![t.val, 0, 0]
    ∧ win0_2.index t = ![0, (piece ⟨t.val, t.isLt.trans_eq N_0⟩).val] :=
  (by decide +kernel : ∀ t : Fin grid0.N, _)

/-- The gradient of the weight, one entry: a sum over the rows. -/
def gwSum (x2 : Vec Ideal Cert.ReferenceGwIdeal.S8x2048x512 .f32) (h : Vec Ideal Cert.ReferenceGwIdeal.S2048x1024 .f32) (d : Fin 1024) (s : Fin 8) (l : Fin 512) : EReal :=
  ∑ i : Fin 2048, h (ix2 i d) * x2 (ix3 s i l)

theorem v16_open (x2 : Vec Ideal Cert.ReferenceGwIdeal.S8x2048x512 .f32) (i : Fin 2048) (q : Fin 4096) :
    val_main_v16 (F := Ideal) x2 (ix2 i q) = pick (fun s l => x2 (ix3 s i l)) q.val q.isLt := by
  pointwise [pick, val_main_v16, val_main_v0, val_main_v1, val_main_v2, val_main_v3, val_main_v4, val_main_v5, val_main_v6, val_main_v7, val_main_v8, val_main_v9, val_main_v10, val_main_v11, val_main_v12, val_main_v13, val_main_v14, val_main_v15]

theorem v32_apply (x0 : Vec Ideal Cert.ReferenceGwIdeal.S2048x1024 .f32) (x1 : Vec Ideal Cert.ReferenceGwIdeal.S1x1024 .f32)
    (x2 : Vec Ideal Cert.ReferenceGwIdeal.S8x2048x512 .f32) (d : Fin 1024) (o : Fin 8) (l : Fin 512) :
    val_main_v32 (F := Ideal) x0 x1 x2 (ix2 d (⟨512 * o.val + l.val, by omega⟩ : Fin 4096)) = gwSum x2 (val_main_v29 (F := Ideal) x0 x1) d (slot o) l := by
  have h : ∀ q : Fin 4096, val_main_v32 (F := Ideal) x0 x1 x2 (ix2 d q)
      = ∑ i : Fin 2048, val_main_v16 (F := Ideal) x2 (ix2 i q) * val_main_v29 (F := Ideal) x0 x1 (ix2 i d) := by
    intro q
    pointwise [val_main_v32, val_main_v31]
  rw [h]
  refine Finset.sum_congr rfl fun i _ => ?_
  rw [v16_open, pick_apply, mul_comm]

/-- One block of the product. -/
theorem pay1_apply (h : Vec Ideal S1024x2048 .bf16) (x : Vec Ideal S1x2048x512 .f32) (y : S1024x512.Idx) :
    k0_pay1 h x y = ∑ i : Fin 2048, h (ix2 (y 0) i) * x (ix3 0 i (y 1)) := by
  pointwise [k0_pay1]

theorem h_eq (c : Dev nD) (t : Fin cfg0.N) (d : Fin 1024) (i : Fin 2048) :
    (iblk m c 0 t : Vec Ideal S1024x2048 .bf16) (ix2 d i)
      = val_main_v29 (F := Ideal) (m ((c : Thread nD τ).loc main_arg0)) (m ((c : Thread nD τ).loc main_arg1)) (ix2 i d) := by
  blk_simp [iblk, V, idx_val t]
  entry_read
  pointwise [val_main_v29, val_main_v28, val_main_v27, val_main_v26, val_main_v25, val_main_v24, val_main_v23, val_main_v22, val_main_v21, val_main_v20, val_main_v19, val_main_v18, val_main_cst_0, val_main_cst_1, val_main_cst_2]
  blk_point [iblk, V, idx_val t]

theorem x_eq (c : Dev nD) (t : Fin cfg0.N) (i : Fin 2048) (l : Fin 512) :
    (iblk m c 1 t : Vec Ideal S1x2048x512 .f32) (ix3 0 i l) = m ((c : Thread nD τ).loc main_arg2) (ix3 ⟨t.val, t.isLt.trans_eq N_0⟩ i l) := by
  blk_point [iblk, V, idx_val t]

theorem emb_2 (t : Fin cfg0.N) (y : S1024x512.Idx) : (((cfg0.win 2).blk t).view.emb y : S1024x4096.Idx)
    = ix2 (y 0) (⟨512 * (piece ⟨t.val, t.isLt.trans_eq N_0⟩).val + (y 1).val, by have : (y 1).val < 512 := (y 1).isLt; omega⟩ : Fin 4096) := by
  blk_ext [idx_val t]

theorem sum_eq (c : Dev nD) (t : Fin cfg0.N) (d : Fin 1024) (l : Fin 512) :
    k0_pay1 (iblk m c 0 t) (iblk m c 1 t) (ix2 d l)
      = gwSum (m ((c : Thread nD τ).loc main_arg2)) (val_main_v29 (F := Ideal) (m ((c : Thread nD τ).loc main_arg0)) (m ((c : Thread nD τ).loc main_arg1)))
          d ⟨t.val, t.isLt.trans_eq N_0⟩ l := by
  refine (pay1_apply _ _ _).trans (Finset.sum_congr rfl fun i _ => congrArg₂ (· * ·) (h_eq m c t d i) (x_eq m c t i l))

theorem final_2 (c : Dev nD) : (dats m 0 c).arrAt 2 (cfgs 0).N
    = val_main_v32 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  have hy : (y : S1024x512.Idx) = ix2 (y 0) (y 1) := by funext a; match a with | ⟨0, _⟩ => rfl | ⟨1, _⟩ => rfl
  refine Eq.trans ?_ (congrArg _ (emb_2 t y).symm)
  refine Eq.trans ?_ (v32_apply _ _ _ (y 0) (piece ⟨t.val, t.isLt.trans_eq N_0⟩) (y 1)).symm
  rw [slot_piece]
  refine Eq.trans ?_ (sum_eq m c t (y 0) (y 1))
  blk_simp; rw [after0_2]; frame_out
  exact congrArg _ hy

end Cert.KernelGwIdeal.Value

end
-- ==== Proof.GwClaim.lean ====
module

public import proofs.«01_k».proof.Defs
public import proofs.«01_k».proof.Proof.GwVal
public import proofs.«01_k».proof.Proof.Gen.ReferenceGwIdeal.Run

@[expose] public section

set_option maxRecDepth 16384

noncomputable section

open Idealize.ShloMosaic Idealize.ShloMosaic.TcCoe Idealize.SL.Sem
open Idealize.ShloMosaic.Pipeline (Dat)
open scoped BigOperators

namespace Cert.KernelGwIdeal.Value

open Cert.KernelGwIdeal Cert.KernelGwIdeal.Gen

/-- The reference's run leaves its arguments as they were, and every counter at zero. -/
theorem reference_frame : Cert.quiescent_ReferenceGwIdeal := fun m g _ =>
  (θ_run (Cert.ReferenceGwIdeal.defs (F := Ideal)) _ _).mono (fun r h => And.intro (fun c => (h c).2)
      (Idealize.ShloMosaic.sem_eq_zero_of_no_sems (by decide) r.2))
    (Cert.ReferenceGwIdeal.Value.run (F := Ideal) m g)

/-- The kernel and the reference end at the same arrays. -/
theorem algebraic : Cert.algebraic_KernelGwIdeal_ReferenceGwIdeal := by
  intro m g m' g' hpre hagree
  refine ⟨fun c => Cert.ReferenceGwIdeal.Read.val_main_v32 (F := Ideal) (m ((c.tc : Thread Cert.KernelGwIdeal.nD Cert.KernelGwIdeal.τ).loc Cert.KernelGwIdeal.main_arg0)) (m ((c.tc : Thread Cert.KernelGwIdeal.nD Cert.KernelGwIdeal.τ).loc Cert.KernelGwIdeal.main_arg1)) (m ((c.tc : Thread Cert.KernelGwIdeal.nD Cert.KernelGwIdeal.τ).loc Cert.KernelGwIdeal.main_arg2)), ?_, ?_⟩
  · exact (θ_run _ _ _).mono (fun r h c => ⟨(h c).1.trans (final_2 m c), (h c).2⟩) (run_blocks m g)
  · refine (θ_run _ _ _).mono (fun r h c => ⟨(h c).1.trans ?_, (h c).2⟩) (Cert.ReferenceGwIdeal.Value.run (F := Ideal) m' g')
    · obtain ⟨e0, e1, e2⟩ := hagree c
      refine (Cert.ReferenceGwIdeal.Read.val_main_v32_eq _ _ _ ).trans ?_
      rw [e0, e1, e2]

end Cert.KernelGwIdeal.Value

end
-- ==== Proof.PoSem.lean ====
module

public import proofs.«01_k».proof.Proof.Reals
public import Idealize.ShloMosaic.Lib.Pointwise

@[expose] public section

noncomputable section

open Idealize.ShloMosaic Idealize.ShloMosaic.TcCoe Idealize.SL.Sem
open scoped BigOperators

/-! The step's last forward part and its gradient, row by row, over the real numbers. -/

namespace Cert.Post

open Cert.Reals

/-- The small constant of the normalisations. -/
def eps : ℝ := word_eps.choose
theorem eps_pos : 0 < eps := word_eps.choose_spec.1
theorem eps_word : Ideal.ofBits .f32 0x358637BD#32 = (eps : EReal) := word_eps.choose_spec.2

theorem w0 : Ideal.ofBits .f32 0x00000000#32 = ((0 : ℝ) : EReal) := by simp [Ideal.ofBits, Ideal.ieee]
theorem w1 : Ideal.ofBits .f32 0x3F800000#32 = ((1 : ℝ) : EReal) := by
  simp [Ideal.ofBits, Ideal.ieee, -EReal.coe_mul]; norm_num
theorem w2 : Ideal.ofBits .f32 0x40000000#32 = ((2 : ℝ) : EReal) := by
  simp [Ideal.ofBits, Ideal.ieee, -EReal.coe_mul]; norm_num
theorem wh : Ideal.ofBits .f32 0x3F000000#32 = ((1 / 2 : ℝ) : EReal) := by
  simp [Ideal.ofBits, Ideal.ieee, -EReal.coe_mul]; norm_num
theorem w64 : Ideal.ofBits .f32 0x42800000#32 = ((64 : ℝ) : EReal) := by
  simp [Ideal.ofBits, Ideal.ieee, -EReal.coe_mul]; norm_num
theorem w128 : Ideal.ofBits .f32 0x43000000#32 = ((128 : ℝ) : EReal) := by
  simp [Ideal.ofBits, Ideal.ieee, -EReal.coe_mul]; norm_num
theorem wi64 : Ideal.ofBits .f32 0x3C800000#32 = ((1 / 64 : ℝ) : EReal) := by
  simp [Ideal.ofBits, Ideal.ieee, -EReal.coe_mul]; norm_num
theorem wi128 : Ideal.ofBits .f32 0x3C000000#32 = ((1 / 128 : ℝ) : EReal) := by
  simp [Ideal.ofBits, Ideal.ieee, -EReal.coe_mul]; norm_num
theorem wi1024 : Ideal.ofBits .f32 0x3A800000#32 = ((1 / 1024 : ℝ) : EReal) := by
  simp [Ideal.ofBits, Ideal.ieee, -EReal.coe_mul]; norm_num

/-- The arguments of one row. -/
structure Row where
  o : Fin 512 → ℝ
  d : Fin 512 → ℝ
  zs : Fin 512 → ℝ
  zg : Fin 512 → ℝ
  x : Fin 1024 → ℝ
  t : Fin 1024 → ℝ
  w : Fin 1024 → Fin 1024 → ℝ
  a : Fin 512 → ℝ
  b : Fin 512 → ℝ
  f : Fin 1024 → ℝ

/-- The sums over a group of `64` and over a group of `128` lanes. -/
def g64 (f : Fin 512 → ℝ) (g : Fin 8) : ℝ := ∑ k : Fin 64, f ⟨64 * g.val + k.val, by omega⟩
def g128 (f : Fin 512 → ℝ) (g : Fin 4) : ℝ := ∑ k : Fin 128, f ⟨128 * g.val + k.val, by omega⟩

/-- The group a lane lies in. -/
abbrev q64 (l : Fin 512) : Fin 8 := ⟨l.val / 64, by omega⟩
abbrev q128 (l : Fin 512) : Fin 4 := ⟨l.val / 128, by omega⟩

/-- The reciprocal root. -/
def rt (a : ℝ) : ℝ := (√a)⁻¹

/-- The logistic function and `z · σ(z)`. -/
def sg (z : ℝ) : ℝ := 1 / (1 + Real.exp (-z))
def act (z : ℝ) : ℝ := z * sg z
def dact (z : ℝ) : ℝ := sg z * (1 + z * (1 - sg z))

namespace Row
variable (R : Row)

def us (g : Fin 8) : ℝ := g64 (fun l => R.o l * R.o l) g / 64 + eps
def ud (g : Fin 4) : ℝ := g128 (fun l => R.d l * R.d l) g / 128 + eps
def rs (g : Fin 8) : ℝ := rt (R.us g)
def rd (g : Fin 4) : ℝ := rt (R.ud g)
def ns (l : Fin 512) : ℝ := R.o l * R.rs (q64 l) * R.a l
def nd (l : Fin 512) : ℝ := R.d l * R.rd (q128 l) * R.b l
def ms (l : Fin 512) : ℝ := R.ns l * act (R.zs l)
def md (l : Fin 512) : ℝ := R.nd l * act (R.zg l)
def mix (j : Fin 1024) : ℝ := if h : j.val < 512 then R.ms ⟨j.val, h⟩ else R.md ⟨j.val - 512, by omega⟩
def x2 (j : Fin 1024) : ℝ := R.x j + ∑ l, R.mix l * R.w l j
def u2 : ℝ := (∑ j, R.x2 j * R.x2 j) / 1024 + eps
def r2 : ℝ := rt R.u2
def err (j : Fin 1024) : ℝ := R.x2 j * R.r2 * R.f j - R.t j
def le : ℝ := (∑ j, R.err j * R.err j) / 1024
def dy (j : Fin 1024) : ℝ := R.err j * (1 / 1024)
def sx : ℝ := ∑ j, R.dy j * R.f j * R.x2 j
def dx (j : Fin 1024) : ℝ := R.r2 * (R.dy j * R.f j) - R.x2 j * (R.r2 * R.r2 * R.r2 * (R.sx / 1024))
def dm (l : Fin 1024) : ℝ := ∑ j, R.dx j * R.w l j
def es (l : Fin 512) : ℝ := R.dm ⟨l.val, by omega⟩
def ed (l : Fin 512) : ℝ := R.dm ⟨512 + l.val, by omega⟩
def dns (l : Fin 512) : ℝ := R.es l * act (R.zs l)
def dnd (l : Fin 512) : ℝ := R.ed l * act (R.zg l)
def dzs (l : Fin 512) : ℝ := R.es l * R.ns l * dact (R.zs l)
def dzg (l : Fin 512) : ℝ := R.ed l * R.nd l * dact (R.zg l)
def ss (g : Fin 8) : ℝ := g64 (fun l => R.dns l * R.a l * R.o l) g
def sd (g : Fin 4) : ℝ := g128 (fun l => R.dnd l * R.b l * R.d l) g
def dos (l : Fin 512) : ℝ :=
  R.rs (q64 l) * (R.dns l * R.a l) - R.o l * (R.rs (q64 l) * R.rs (q64 l) * R.rs (q64 l)) * (R.ss (q64 l) * (1 / 64))
def dod (l : Fin 512) : ℝ :=
  R.rd (q128 l) * (R.dnd l * R.b l) - R.d l * (R.rd (q128 l) * R.rd (q128 l) * R.rd (q128 l)) * (R.sd (q128 l) * (1 / 128))
def gf (j : Fin 1024) : ℝ := R.dy j * R.x2 j * R.r2
def gs (l : Fin 512) : ℝ := R.dns l * R.o l * R.rs (q64 l)
def gd (l : Fin 512) : ℝ := R.dnd l * R.d l * R.rd (q128 l)
def gw (l j : Fin 1024) : ℝ := R.mix l * R.dx j

theorem us_pos (g : Fin 8) : 0 < R.us g := by
  have := Finset.sum_nonneg (s := Finset.univ) fun (k : Fin 64) _ => mul_self_nonneg (R.o ⟨64 * g.val + k.val, by omega⟩)
  have := eps_pos
  unfold us g64; positivity
theorem ud_pos (g : Fin 4) : 0 < R.ud g := by
  have := Finset.sum_nonneg (s := Finset.univ) fun (k : Fin 128) _ => mul_self_nonneg (R.d ⟨128 * g.val + k.val, by omega⟩)
  have := eps_pos
  unfold ud g128; positivity
theorem u2_pos : 0 < R.u2 := by
  have := Finset.sum_nonneg (s := Finset.univ) fun (k : Fin 1024) _ => mul_self_nonneg (R.x2 k)
  have := eps_pos
  unfold u2; positivity

end Row

/-- The arguments of the whole computation. -/
structure Inp where
  o : Fin 4 → Fin 2048 → Fin 128 → ℝ
  d : Fin 2048 → Fin 512 → ℝ
  z : Fin 2048 → Fin 1024 → ℝ
  x : Fin 2048 → Fin 1024 → ℝ
  t : Fin 2048 → Fin 1024 → ℝ
  w : Fin 1024 → Fin 1024 → ℝ
  a : Fin 512 → ℝ
  b : Fin 512 → ℝ
  f : Fin 1024 → ℝ

/-- The arguments of row `i`. -/
def Inp.row (A : Inp) (i : Fin 2048) : Row where
  o l := A.o ⟨l.val / 128, by omega⟩ i ⟨l.val % 128, by omega⟩
  d := A.d i
  zs l := A.z i ⟨l.val, by omega⟩
  zg l := A.z i ⟨512 + l.val, by omega⟩
  x := A.x i
  t := A.t i
  w := A.w
  a := A.a
  b := A.b
  f := A.f

theorem rsqrt_rt {a : ℝ} (h : 0 < a) : Ideal.rsqrt (a : EReal) = (rt a : EReal) := rsqrt_real a h

/-- The logistic function in the kernel's form. -/
theorem sg_form (z : ℝ) : Ideal.div ((1 : ℝ) : EReal) (((1 : ℝ) : EReal) + ((Real.exp (-z) : ℝ) : EReal)) = (sg z : EReal) := by
  rw [← EReal.coe_add, div_real _ _ (by positivity)]; rfl

/-- The gradient of `x / √(mean x² + ε)` in the reference's form. -/
theorem norm_form {u : ℝ} (hu : 0 < u) (q x S n : ℝ) :
    q + x * (S * (-(1 / 2) * (rt u / u)) / n) + S * (-(1 / 2) * (rt u / u)) / n * x
      = q - x * (rt u * rt u * rt u) * (S * (1 / n)) := by
  have hs : √u * √u = u := Real.mul_self_sqrt hu.le
  have h0 : √u ≠ 0 := (Real.sqrt_pos.2 hu).ne'
  unfold rt
  generalize √u = s at hs h0
  subst hs
  by_cases hn : n = 0
  · subst hn; simp
  field_simp
  ring

end Cert.Post

end
-- ==== Proof.PoKer.lean ====
module

public import proofs.«01_k».proof.Proof.PoSem
public import proofs.«01_k».proof.Proof.Gen.KernelPostIdeal.Skeleton
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals

/-! One block's steps up to the normalised, gated rows, at one entry, as real numbers. -/

theorem lt64 : ∀ k : Fin 128, IntOp.cmpi .slt (BitVec.ofNat 32 k.val) 64#32 = if k.val < 64 then 1#1 else 0#1 := by decide

/-- The lanes' test, as the kernel writes it. -/
abbrev lo (k : Fin 128) : BitVec 1 := IntOp.cmpi .slt (BitVec.ofNat 32 k.val) 64#32

theorem sel_lo {α : Type} (k : Fin 128) (x y : α) : Scalar.select (lo k) x y = if k.val < 64 then x else y := by
  unfold lo; rw [lt64]; split <;> rfl

theorem sum_lo (F : Fin 128 → EReal) : ∑ x : Fin 128, Scalar.select (lo x) (F x) 0 = ∑ k : Fin 64, F ⟨k.val, by omega⟩ := by
  simp only [sel_lo]
  rw [Fin.sum_univ_add (a := 64) (b := 64) (f := fun x : Fin 128 => if x.val < 64 then F x else 0)]
  simp
  rfl

theorem sum_hi (F : Fin 128 → EReal) : ∑ x : Fin 128, Scalar.select (lo x) 0 (F x) = ∑ k : Fin 64, F ⟨64 + k.val, by omega⟩ := by
  simp only [sel_lo]
  rw [Fin.sum_univ_add (a := 64) (b := 64) (f := fun x : Fin 128 => if x.val < 64 then 0 else F x)]
  simp
  rfl

/-- The masked sums of the four pieces of a row are its groups' sums. -/
theorem grp (f : Fin 512 → ℝ) (b : Fin 4) (F : Fin 128 → EReal) (hF : ∀ x, F x = (f ⟨128 * b.val + x.val, by omega⟩ : EReal)) (k : Fin 128) :
    Scalar.select (lo k) (∑ x : Fin 128, Scalar.select (lo x) (F x) 0) (∑ x : Fin 128, Scalar.select (lo x) 0 (F x))
      = (g64 f (q64 ⟨128 * b.val + k.val, by omega⟩) : EReal) := by
  rw [sum_lo, sum_hi, sel_lo]
  simp only [hF, coe_sum]
  unfold g64
  split
  · exact congrArg _ (Finset.sum_congr rfl fun x _ => congrArg f (Fin.ext (by dsimp only; omega)))
  · exact congrArg _ (Finset.sum_congr rfl fun x _ => congrArg f (Fin.ext (by dsimp only; omega)))

/-- Four pieces of a row side by side. -/
theorem quad (f : Fin 512 → ℝ) (F0 F1 F2 F3 : Fin 128 → EReal)
    (h0 : ∀ x : Fin 128, F0 x = (f ⟨x.val, by omega⟩ : EReal)) (h1 : ∀ x : Fin 128, F1 x = (f ⟨128 + x.val, by omega⟩ : EReal))
    (h2 : ∀ x : Fin 128, F2 x = (f ⟨256 + x.val, by omega⟩ : EReal)) (h3 : ∀ x : Fin 128, F3 x = (f ⟨384 + x.val, by omega⟩ : EReal)) (l : Fin 512) :
    (if h : l.val < 128 then F0 ⟨l.val, h⟩ else if h : l.val - 128 < 128 then F1 ⟨l.val - 128, h⟩
      else if h : l.val - 128 - 128 < 128 then F2 ⟨l.val - 128 - 128, h⟩ else F3 ⟨l.val - 128 - 128 - 128, by omega⟩) = (f l : EReal) := by
  split
  · rw [h0]
  · split
    · rw [h1]; exact congrArg _ (congrArg f (Fin.ext (by dsimp only; omega)))
    · split
      · rw [h2]; exact congrArg _ (congrArg f (Fin.ext (by dsimp only; omega)))
      · rw [h3]; exact congrArg _ (congrArg f (Fin.ext (by dsimp only; omega)))

variable {p : Fin 256} {R : Row}

theorem p12 {v3 v5 v7 v9 : Vec Ideal S1x256x128 .f32}
    (h0 : ∀ x : Fin 128, v3 (ix3 0 p x) = (R.o ⟨x.val, by omega⟩ : EReal)) (h1 : ∀ x : Fin 128, v5 (ix3 0 p x) = (R.o ⟨128 + x.val, by omega⟩ : EReal))
    (h2 : ∀ x : Fin 128, v7 (ix3 0 p x) = (R.o ⟨256 + x.val, by omega⟩ : EReal)) (h3 : ∀ x : Fin 128, v9 (ix3 0 p x) = (R.o ⟨384 + x.val, by omega⟩ : EReal)) (l : Fin 512) :
    k0_pay12 v3 v5 v7 v9 (ix2 p l) = (R.o l : EReal) := by
  refine Eq.trans ?_ (quad R.o (fun x => v3 (ix3 0 p x)) (fun x => v5 (ix3 0 p x)) (fun x => v7 (ix3 0 p x)) (fun x => v9 (ix3 0 p x)) h0 h1 h2 h3 l)
  pointwise [k0_pay12]

theorem p13 {v3 v5 v7 v9 : Vec Ideal S1x256x128 .f32} (h : ∀ l, k0_pay12 v3 v5 v7 v9 (ix2 p l) = (R.o l : EReal)) (l : Fin 512) :
    k0_pay13 v3 v5 v7 v9 (ix2 p l) = ((R.o l * R.o l : ℝ) : EReal) := by
  refine Eq.trans (b := k0_pay12 v3 v5 v7 v9 (ix2 p l) * k0_pay12 v3 v5 v7 v9 (ix2 p l)) (by pointwise [k0_pay13]) ?_
  rw [h, EReal.coe_mul]

theorem p14 (v3 v5 v7 v9 : Vec Ideal S1x256x128 .f32) (k : Fin 128) :
    k0_pay14 v3 v5 v7 v9 (ix2 p k) = k0_pay13 v3 v5 v7 v9 (ix2 p (⟨k.val, by omega⟩ : Fin 512)) := by
  pointwise [k0_pay14]

theorem p15 (v3 v5 v7 v9 : Vec Ideal S1x256x128 .f32) :
    k0_pay15 v3 v5 v7 v9 (ix2 p 0) = ∑ x : Fin 128, Scalar.select (lo x) (k0_pay13 v3 v5 v7 v9 (ix2 p (⟨x.val, by omega⟩ : Fin 512))) 0 := by
  pointwise [k0_pay15, k0_pay14]

theorem p16 (k : Fin 128) : k0_pay16 (ix2 0 k) = lo k := by
  pointwise [k0_pay16]

variable {f : Fin 512 → ℝ}

theorem p17 {v18 : IVec S1x128 32} {v29 : IVec S1x128 1} (h18 : ∀ k, v18 (ix2 0 k) = BitVec.ofNat 32 k.val) (h29 : ∀ k, v29 (ix2 0 k) = lo k)
    {v19 : FVec Ideal S256x128 .f32} {v27 : FVec Ideal S256x1 .f32}
    (h19 : ∀ x : Fin 128, v19 (ix2 p x) = (f ⟨x.val, by omega⟩ : EReal))
    (h27 : v27 (ix2 p 0) = ∑ x : Fin 128, Scalar.select (lo x) (f ⟨x.val, by omega⟩ : EReal) 0) (k : Fin 128) :
    k0_pay17 v18 v19 v27 v29 (ix2 p k) = (g64 f (q64 ⟨k.val, by omega⟩) : EReal) := by
  refine Eq.trans (b := Scalar.select (IntOp.cmpi .slt (v18 (ix2 0 k)) 64#32) (v27 (ix2 p 0))
      (∑ x, Scalar.select (v29 (ix2 0 x)) 0 (v19 (ix2 p x)))) (by pointwise [k0_pay17]) ?_
  rw [h18, h27]
  simp only [h29, h19]
  refine (grp f 0 _ (fun x => ?_) k).trans ?_
  · exact congrArg _ (congrArg f (Fin.ext (by simp)))
  · exact congrArg _ (congrArg _ (congrArg _ (Fin.ext (by simp))))

theorem p18 {v18 : IVec S1x128 32} (h18 : ∀ k, v18 (ix2 0 k) = BitVec.ofNat 32 k.val)
    {v17 : FVec Ideal S256x512 .f32} (h17 : ∀ l, v17 (ix2 p l) = (f l : EReal)) (k : Fin 128) :
    k0_pay18 v17 v18 (ix2 p k) = (g64 f (q64 ⟨128 + k.val, by omega⟩) : EReal) := by
  refine Eq.trans (b := Scalar.select (IntOp.cmpi .slt (v18 (ix2 0 k)) 64#32)
      (∑ x : Fin 128, Scalar.select (IntOp.cmpi .slt (v18 (ix2 0 x)) 64#32) (v17 (ix2 p (⟨128 + x.val, by omega⟩ : Fin 512))) 0)
      (∑ x : Fin 128, Scalar.select (IntOp.cmpi .slt (v18 (ix2 0 x)) 64#32) 0 (v17 (ix2 p (⟨128 + x.val, by omega⟩ : Fin 512))))) (by pointwise [k0_pay18]) ?_
  simp only [h18, h17]
  exact grp f 1 _ (fun x => rfl) k

theorem p19 (v17 : FVec Ideal S256x512 .f32) (k : Fin 128) : k0_pay19 v17 (ix2 p k) = v17 (ix2 p (⟨256 + k.val, by omega⟩ : Fin 512)) := by
  pointwise [k0_pay19]

theorem p20 (v17 : FVec Ideal S256x512 .f32) (v18 : IVec S1x128 32) (k : Fin 128) :
    k0_pay20 v17 v18 (ix2 p k) = Scalar.select (IntOp.cmpi .slt (v18 (ix2 0 k)) 64#32) (v17 (ix2 p (⟨256 + k.val, by omega⟩ : Fin 512))) 0 := by
  pointwise [k0_pay20, k0_pay19]

theorem p21 {v18 : IVec S1x128 32} (h18 : ∀ k, v18 (ix2 0 k) = BitVec.ofNat 32 k.val)
    {v17 : FVec Ideal S256x512 .f32} (h17 : ∀ l, v17 (ix2 p l) = (f l : EReal))
    {v44 v70 : FVec Ideal S256x128 .f32} (h44 : ∀ k : Fin 128, v44 (ix2 p k) = (g64 f (q64 ⟨k.val, by omega⟩) : EReal))
    (h70 : ∀ k : Fin 128, v70 (ix2 p k) = (g64 f (q64 ⟨128 + k.val, by omega⟩) : EReal)) (l : Fin 512) :
    k0_pay21 v17 v18 v44 v70 (k0_pay19 v17) (k0_pay20 v17 v18) (ix2 p l) = (g64 f (q64 l) : EReal) := by
  refine Eq.trans ?_ (quad (fun l => g64 f (q64 l)) (fun x => v44 (ix2 p x)) (fun x => v70 (ix2 p x))
    (fun k => Scalar.select (IntOp.cmpi .slt (v18 (ix2 0 k)) 64#32)
      (∑ x : Fin 128, k0_pay20 v17 v18 (ix2 p x))
      (∑ x : Fin 128, Scalar.select (IntOp.cmpi .slt (v18 (ix2 0 x)) 64#32) 0 (k0_pay19 v17 (ix2 p x))))
    (fun k => Scalar.select (IntOp.cmpi .slt (v18 (ix2 0 k)) 64#32)
      (∑ x : Fin 128, Scalar.select (IntOp.cmpi .slt (v18 (ix2 0 x)) 64#32) (v17 (ix2 p (⟨384 + x.val, by omega⟩ : Fin 512))) 0)
      (∑ x : Fin 128, Scalar.select (IntOp.cmpi .slt (v18 (ix2 0 x)) 64#32) 0 (v17 (ix2 p (⟨384 + x.val, by omega⟩ : Fin 512)))))
    h44 h70 ?_ ?_ l)
  · pointwise [k0_pay21]
  · intro k; simp only [p19, p20, h18, h17]; exact grp f 2 _ (fun x => rfl) k
  · intro k; simp only [h18, h17]; exact grp f 3 _ (fun x => rfl) k

theorem p22 (l : Fin 512) : k0_pay22 (F := Ideal) (ix2 p l) = ((1 / 64 : ℝ) : EReal) := by
  refine Eq.trans (b := Ideal.ofBits .f32 0x3C800000#32) (by pointwise [k0_pay22]) wi64

theorem p23 {v123 v124 : FVec Ideal S256x512 .f32} {l : Fin 512} (h : v123 (ix2 p l) = (g64 (fun l => R.o l * R.o l) (q64 l) : EReal))
    (h' : v124 (ix2 p l) = ((1 / 64 : ℝ) : EReal)) : k0_pay23 v123 v124 (ix2 p l) = (R.rs (q64 l) : EReal) := by
  refine Eq.trans (b := Ideal.rsqrt (v123 (ix2 p l) * v124 (ix2 p l) + Ideal.ofBits .f32 0x358637BD#32)) (by pointwise [k0_pay23]) ?_
  rw [h, h', eps_word, ← EReal.coe_mul, ← EReal.coe_add,
    show g64 (fun l => R.o l * R.o l) (q64 l) * (1 / 64) + eps = R.us (q64 l) by unfold Row.us; ring, rsqrt_rt (R.us_pos _)]
  rfl

theorem p24 {v11 v123 v124 : FVec Ideal S256x512 .f32} {v15 : Vec Ideal S1x512 .f32} {l : Fin 512} (h : v11 (ix2 p l) = (R.o l : EReal))
    (h' : k0_pay23 v123 v124 (ix2 p l) = (R.rs (q64 l) : EReal)) (h'' : v15 (ix2 0 l) = (R.a l : EReal)) :
    k0_pay24 v11 v15 v123 v124 (ix2 p l) = (R.ns l : EReal) := by
  refine Eq.trans (b := v11 (ix2 p l) * k0_pay23 v123 v124 (ix2 p l) * v15 (ix2 0 l)) (by pointwise [k0_pay24]) ?_
  rw [h, h', h'', ← EReal.coe_mul, ← EReal.coe_mul]
  rfl

theorem sg_eq (z : ℝ) : Ideal.div 1 (1 + Ideal.exp (0 - (z : EReal))) = (sg z : EReal) := by
  rw [zero_sub, ← EReal.coe_neg, Ideal.exp_coe]
  exact sg_form z

theorem p25 {v13 : Vec Ideal S256x512 .f32} {l : Fin 512} (h : v13 (ix2 p l) = (R.zs l : EReal)) :
    k0_pay25 v13 (ix2 p l) = (sg (R.zs l) : EReal) := by
  refine Eq.trans (b := Ideal.div 1 (1 + Ideal.exp (0 - v13 (ix2 p l)))) (by pointwise [k0_pay25]) ?_
  rw [h]
  exact sg_eq _

theorem p26 {v11 v123 v124 : FVec Ideal S256x512 .f32} {v13 : Vec Ideal S256x512 .f32} {v15 : Vec Ideal S1x512 .f32} {l : Fin 512}
    (h : v13 (ix2 p l) = (R.zs l : EReal)) (h' : k0_pay24 v11 v15 v123 v124 (ix2 p l) = (R.ns l : EReal)) :
    k0_pay26 v11 v13 v15 v123 v124 (ix2 p l) = (R.ms l : EReal) := by
  refine Eq.trans (b := k0_pay24 v11 v15 v123 v124 (ix2 p l) * (v13 (ix2 p l) * k0_pay25 v13 (ix2 p l))) (by pointwise [k0_pay26]) ?_
  rw [p25 h, h', h, ← EReal.coe_mul, ← EReal.coe_mul]
  rfl

/-- A piece's sum is its group's. -/
theorem g128_piece (f : Fin 512 → ℝ) (b : Fin 4) (F : Fin 128 → EReal) (hF : ∀ x, F x = (f ⟨128 * b.val + x.val, by omega⟩ : EReal)) (k : Fin 128) :
    ∑ x : Fin 128, F x = (g128 f (q128 ⟨128 * b.val + k.val, by omega⟩) : EReal) := by
  simp only [hF, coe_sum]
  unfold g128
  exact congrArg _ (Finset.sum_congr rfl fun x _ => congrArg f (Fin.ext (by dsimp only; omega)))

/-- The four pieces' sums, each at its own lanes. -/
theorem quad_sum (f : Fin 512 → ℝ) (F : Fin 512 → EReal) (hF : ∀ l, F l = (f l : EReal)) (l : Fin 512) :
    (if _h : l.val < 128 then ∑ x : Fin 128, F ⟨x.val, by omega⟩ else if _h : l.val - 128 < 128 then ∑ x : Fin 128, F ⟨128 + x.val, by omega⟩
      else if _h : l.val - 128 - 128 < 128 then ∑ x : Fin 128, F ⟨256 + x.val, by omega⟩ else ∑ x : Fin 128, F ⟨384 + x.val, by omega⟩) = (g128 f (q128 l) : EReal) := by
  simp only [hF]
  refine Eq.trans ?_ (quad (fun l => g128 f (q128 l)) (fun _ => ∑ x : Fin 128, (f ⟨x.val, by omega⟩ : EReal)) (fun _ => ∑ x : Fin 128, (f ⟨128 + x.val, by omega⟩ : EReal))
    (fun _ => ∑ x : Fin 128, (f ⟨256 + x.val, by omega⟩ : EReal)) (fun _ => ∑ x : Fin 128, (f ⟨384 + x.val, by omega⟩ : EReal)) (fun k => ?_) (fun k => ?_) (fun k => ?_) (fun k => ?_) l)
  · split
    · rfl
    · split
      · rfl
      · split <;> rfl
  · refine (g128_piece f 0 _ (fun x => ?_) k).trans ?_
    · exact congrArg _ (congrArg f (Fin.ext (by simp)))
    · exact congrArg _ (congrArg _ (congrArg _ (Fin.ext (by simp))))
  · exact g128_piece f 1 _ (fun x => rfl) k
  · exact g128_piece f 2 _ (fun x => rfl) k
  · exact g128_piece f 3 _ (fun x => rfl) k

/-- The groups' sums of squares, as the kernel lays them out. -/
def sq128 (v12 : Vec Ideal S256x512 .f32) (p : Fin 256) (l : Fin 512) : EReal :=
  if _h : l.val < 128 then ∑ x : Fin 128, v12 (ix2 p (⟨x.val, by omega⟩ : Fin 512)) * v12 (ix2 p (⟨x.val, by omega⟩ : Fin 512))
  else if _h : l.val - 128 < 128 then ∑ x : Fin 128, v12 (ix2 p (⟨128 + x.val, by omega⟩ : Fin 512)) * v12 (ix2 p (⟨128 + x.val, by omega⟩ : Fin 512))
  else if _h : l.val - 128 - 128 < 128 then ∑ x : Fin 128, v12 (ix2 p (⟨256 + x.val, by omega⟩ : Fin 512)) * v12 (ix2 p (⟨256 + x.val, by omega⟩ : Fin 512))
  else ∑ x : Fin 128, v12 (ix2 p (⟨384 + x.val, by omega⟩ : Fin 512)) * v12 (ix2 p (⟨384 + x.val, by omega⟩ : Fin 512))

theorem p27_open (v12 : Vec Ideal S256x512 .f32) (p : Fin 256) (l : Fin 512) :
    k0_pay27 v12 (ix2 p l) = Ideal.rsqrt (sq128 v12 p l * Ideal.ofBits .f32 0x3C000000#32 + Ideal.ofBits .f32 0x358637BD#32) := by
  pointwise [k0_pay27, sq128]

theorem p27 {v12 : Vec Ideal S256x512 .f32} (h : ∀ l, v12 (ix2 p l) = (R.d l : EReal)) (l : Fin 512) :
    k0_pay27 v12 (ix2 p l) = (R.rd (q128 l) : EReal) := by
  rw [p27_open, show sq128 v12 p l = (g128 (fun l => R.d l * R.d l) (q128 l) : EReal) from
    quad_sum _ (fun l => v12 (ix2 p l) * v12 (ix2 p l)) (fun l => by rw [h, EReal.coe_mul]) l, wi128, eps_word,
    ← EReal.coe_mul, ← EReal.coe_add,
    show g128 (fun l => R.d l * R.d l) (q128 l) * (1 / 128) + eps = R.ud (q128 l) by unfold Row.ud; ring, rsqrt_rt (R.ud_pos _)]
  rfl

theorem p28 {v12 : Vec Ideal S256x512 .f32} {v16 : Vec Ideal S1x512 .f32} (h : ∀ l, v12 (ix2 p l) = (R.d l : EReal))
    (h' : ∀ l, v16 (ix2 0 l) = (R.b l : EReal)) (l : Fin 512) :
    k0_pay28 v12 v16 (ix2 p l) = (R.nd l : EReal) := by
  refine Eq.trans (b := v12 (ix2 p l) * k0_pay27 v12 (ix2 p l) * v16 (ix2 0 l)) (by pointwise [k0_pay28]) ?_
  rw [p27 h, h, h', ← EReal.coe_mul, ← EReal.coe_mul]
  rfl

theorem p30 {v14 : Vec Ideal S256x512 .f32} {l : Fin 512} (h : v14 (ix2 p l) = (R.zg l : EReal)) :
    k0_pay30 (k0_pay29 v14) (ix2 p l) = (sg (R.zg l) : EReal) := by
  refine Eq.trans (b := Ideal.div 1 (1 + Ideal.exp (0 - v14 (ix2 p l)))) (by pointwise [k0_pay30, k0_pay29]) ?_
  rw [h]
  exact sg_eq _

theorem p31 {v14 : Vec Ideal S256x512 .f32} {v140 v170 : FVec Ideal S256x512 .f32} (h : ∀ l, v14 (ix2 p l) = (R.zg l : EReal))
    (h140 : ∀ l, v140 (ix2 p l) = (R.ms l : EReal)) (h170 : ∀ l, v170 (ix2 p l) = (R.nd l : EReal)) (j : Fin 1024) :
    k0_pay31 v14 v140 v170 (k0_pay29 v14) (ix2 p j) = (R.mix j : EReal) := by
  refine Eq.trans (b := if h : j.val < 512 then v140 (ix2 p (⟨j.val, h⟩ : Fin 512))
    else v170 (ix2 p (⟨j.val - 512, by omega⟩ : Fin 512)) * (v14 (ix2 p (⟨j.val - 512, by omega⟩ : Fin 512)) * k0_pay30 (k0_pay29 v14) (ix2 p (⟨j.val - 512, by omega⟩ : Fin 512))))
    (by pointwise [k0_pay31]) ?_
  unfold Row.mix
  split
  · exact h140 _
  · rw [p30 (h _), h, h170, ← EReal.coe_mul, ← EReal.coe_mul]
    rfl

end Cert.KernelPostIdeal.Value

end
-- ==== Proof.PoKer2.lean ====
module

public import proofs.«01_k».proof.Proof.PoKer

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals

/-! One block's residual rows, loss and gradient, at one entry, as real numbers. -/

variable {p : Fin 256} {R : Row}

section fwd
variable {v14 : Vec Ideal S256x512 .f32} {v140 v170 v173 : FVec Ideal S256x512 .f32} {v182 : Vec Ideal S1024x1024 .bf16}
  {v184 v200 : Vec Ideal S256x1024 .f32} {v195 : Vec Ideal S1x1024 .f32}

theorem p33 (hm : ∀ l, k0_pay31 v14 v140 v170 v173 (ix2 p l) = (R.mix l : EReal)) (hw : ∀ l j, v182 (ix2 l j) = (R.w l j : EReal))
    (hx : ∀ j, v184 (ix2 p j) = (R.x j : EReal)) (j : Fin 1024) :
    k0_pay33 v14 v140 v170 v173 v182 v184 (ix2 p j) = (R.x2 j : EReal) := by
  refine Eq.trans (b := v184 (ix2 p j) + ∑ l : Fin 1024, k0_pay31 v14 v140 v170 v173 (ix2 p l) * v182 (ix2 l j)) (by pointwise [k0_pay33, k0_pay32]) ?_
  simp only [hm, hw, hx, ← EReal.coe_mul]
  rw [coe_sum, ← EReal.coe_add]
  rfl

theorem p34 (h : ∀ j, k0_pay33 v14 v140 v170 v173 v182 v184 (ix2 p j) = (R.x2 j : EReal)) :
    k0_pay34 v14 v140 v170 v173 v182 v184 (ix2 p 0) = (R.r2 : EReal) := by
  refine Eq.trans (b := Ideal.rsqrt (Ideal.div (∑ j : Fin 1024, k0_pay33 v14 v140 v170 v173 v182 v184 (ix2 p j) * k0_pay33 v14 v140 v170 v173 v182 v184 (ix2 p j))
    (Ideal.ofBits .f32 0x44800000#32) + Ideal.ofBits .f32 0x358637BD#32)) (by pointwise [k0_pay34]) ?_
  simp only [h, ← EReal.coe_mul]
  rw [coe_sum, word_1024, eps_word, div_real _ _ (by norm_num), ← EReal.coe_add]
  exact rsqrt_rt R.u2_pos

theorem p35 (h : ∀ j, k0_pay33 v14 v140 v170 v173 v182 v184 (ix2 p j) = (R.x2 j : EReal))
    (h' : k0_pay34 v14 v140 v170 v173 v182 v184 (ix2 p 0) = (R.r2 : EReal)) (hf : ∀ j, v195 (ix2 0 j) = (R.f j : EReal))
    (ht : ∀ j, v200 (ix2 p j) = (R.t j : EReal)) (j : Fin 1024) :
    k0_pay35 v14 v140 v170 v173 v182 v184 v195 v200 (ix2 p j) = (R.err j : EReal) := by
  refine Eq.trans (b := k0_pay33 v14 v140 v170 v173 v182 v184 (ix2 p j) * k0_pay34 v14 v140 v170 v173 v182 v184 (ix2 p 0) * v195 (ix2 0 j) - v200 (ix2 p j))
    (by pointwise [k0_pay35]) ?_
  rw [h, h', hf, ht, ← EReal.coe_mul, ← EReal.coe_mul, ← EReal.coe_sub]
  rfl

theorem p37 {Q : Fin 256 → Row} (h : ∀ p j, k0_pay35 v14 v140 v170 v173 v182 v184 v195 v200 (ix2 p j) = ((Q p).err j : EReal)) :
    k0_pay37 v14 v140 v170 v173 v182 v184 v195 v200 = ((1 / 2 * ∑ p, (Q p).le : ℝ) : EReal) := by
  refine Eq.trans (b := Ideal.ofBits .f32 0x3F000000#32 * ∑ p : Fin 256, (∑ j : Fin 1024, k0_pay35 v14 v140 v170 v173 v182 v184 v195 v200 (ix2 p j)
    * k0_pay35 v14 v140 v170 v173 v182 v184 v195 v200 (ix2 p j)) * Ideal.ofBits .f32 0x3A800000#32) (by pointwise [k0_pay37]; simp only [Fin.sum_univ_one]) ?_
  simp only [h, ← EReal.coe_mul, coe_sum, wi1024, wh]
  refine congrArg _ (congrArg _ (Finset.sum_congr rfl fun p _ => ?_))
  unfold Row.le
  ring

end fwd

theorem p38 (v202 : Vec Ideal S1x128 .f32) (v213 : Ideal .f32) (k : Fin 128) : k0_pay38 (k0_pay36 v202) v213 (ix2 0 k) = (v202 (ix2 0 k) : EReal) + v213 := by
  pointwise [k0_pay38, k0_pay36]

section bwd
variable {v186 v201 : FVec Ideal S256x1024 .f32} {v194 : FVec Ideal S256x1 .f32} {v195 : Vec Ideal S1x1024 .f32}

theorem p39 {j : Fin 1024} (h : v201 (ix2 p j) = (R.err j : EReal)) : k0_pay39 v201 (ix2 p j) = (R.dy j : EReal) := by
  refine Eq.trans (b := v201 (ix2 p j) * Ideal.ofBits .f32 0x3A800000#32) (by pointwise [k0_pay39]) ?_
  rw [h, wi1024, ← EReal.coe_mul]
  rfl

theorem p40 (hx : ∀ j, v186 (ix2 p j) = (R.x2 j : EReal)) (hr : v194 (ix2 p 0) = (R.r2 : EReal)) (hf : ∀ j, v195 (ix2 0 j) = (R.f j : EReal))
    (he : ∀ j, v201 (ix2 p j) = (R.err j : EReal)) (j : Fin 1024) : k0_pay40 v186 v194 v195 v201 (ix2 p j) = (R.dx j : EReal) := by
  refine Eq.trans (b := v194 (ix2 p 0) * (k0_pay39 v201 (ix2 p j) * v195 (ix2 0 j)) - v186 (ix2 p j) * (v194 (ix2 p 0) * v194 (ix2 p 0) * v194 (ix2 p 0)
    * Ideal.div (∑ k : Fin 1024, k0_pay39 v201 (ix2 p k) * v195 (ix2 0 k) * v186 (ix2 p k)) (Ideal.ofBits .f32 0x44800000#32))) (by pointwise [k0_pay40]) ?_
  simp only [p39 (he _), hx, hr, hf, ← EReal.coe_mul, coe_sum]
  rw [word_1024, div_real _ _ (by norm_num)]
  simp only [← EReal.coe_mul, ← EReal.coe_sub]
  rfl

theorem p41 {Q : Fin 256 → Row} (hx : ∀ p j, v186 (ix2 p j) = ((Q p).x2 j : EReal)) (hr : ∀ p, v194 (ix2 p 0) = ((Q p).r2 : EReal))
    (he : ∀ p j, v201 (ix2 p j) = ((Q p).err j : EReal)) (v234 : Vec Ideal S1x1024 .f32) (j : Fin 1024) :
    k0_pay41 v186 v194 v201 v234 (ix2 0 j) = (v234 (ix2 0 j) : EReal) + ((∑ p, (Q p).gf j : ℝ) : EReal) := by
  refine Eq.trans (b := v234 (ix2 0 j) + ∑ p : Fin 256, k0_pay39 v201 (ix2 p j) * v186 (ix2 p j) * v194 (ix2 p 0)) (by pointwise [k0_pay41]) ?_
  simp only [fun p j => p39 (he p j), hx, hr, ← EReal.coe_mul, coe_sum]
  rfl

theorem p42 (p : Fin 256) (j : Fin 1024) : k0_pay42 v186 v194 v195 v201 (ix2 p j) = (k0_pay40 v186 v194 v195 v201 (ix2 p j) : EReal) := by
  pointwise [k0_pay42]

theorem p43 {v182 : Vec Ideal S1024x1024 .bf16} (hd : ∀ j, k0_pay40 v186 v194 v195 v201 (ix2 p j) = (R.dx j : EReal))
    (hw : ∀ l j, v182 (ix2 l j) = (R.w l j : EReal)) (l : Fin 1024) :
    k0_pay43 (k0_pay32 v182) v186 v194 v195 v201 (ix2 p l) = (R.dm l : EReal) := by
  refine Eq.trans (b := ∑ j : Fin 1024, k0_pay42 v186 v194 v195 v201 (ix2 p j) * v182 (ix2 l j)) (by pointwise [k0_pay43, k0_pay32]) ?_
  simp only [p42, hd, hw, ← EReal.coe_mul, coe_sum]
  rfl

theorem p44 {Q : Fin 256 → Row} {v181 : FVec Ideal S256x1024 .bf16} (hm : ∀ p l, v181 (ix2 p l) = ((Q p).mix l : EReal))
    (hd : ∀ p j, k0_pay40 v186 v194 v195 v201 (ix2 p j) = ((Q p).dx j : EReal)) (v246 : Vec Ideal S1024x1024 .f32) (l j : Fin 1024) :
    k0_pay44 v181 v186 v194 v195 v201 v246 (ix2 l j) = (v246 (ix2 l j) : EReal) + ((∑ p, (Q p).gw l j : ℝ) : EReal) := by
  refine Eq.trans (b := v246 (ix2 l j) + ∑ p : Fin 256, v181 (ix2 p l) * k0_pay42 v186 v194 v195 v201 (ix2 p j)) (by pointwise [k0_pay44]) ?_
  simp only [p42, hd, hm, ← EReal.coe_mul, coe_sum]
  rfl

theorem p45 {v183 : FVec Ideal S1024x1024 .bf16} (h : ∀ l, k0_pay43 v183 v186 v194 v195 v201 (ix2 p l) = (R.dm l : EReal)) (l : Fin 512) :
    k0_pay45 v183 v186 v194 v195 v201 (ix2 p l) = (R.es l : EReal) := by
  refine Eq.trans (b := k0_pay43 v183 v186 v194 v195 v201 (ix2 p (⟨l.val, by omega⟩ : Fin 1024))) (by pointwise [k0_pay45]) ?_
  rw [h]; rfl

end bwd

section heads
variable {v13 v14 : Vec Ideal S256x512 .f32} {v11 v131 v128 v138 v251 v170 v177 v167 : FVec Ideal S256x512 .f32} {v15 v16 : Vec Ideal S1x512 .f32}

theorem p46 {l : Fin 512} (hz : v13 (ix2 p l) = (R.zs l : EReal)) (hs : v138 (ix2 p l) = (sg (R.zs l) : EReal)) (he : v251 (ix2 p l) = (R.es l : EReal)) :
    k0_pay46 v13 v138 v251 (ix2 p l) = (R.dns l : EReal) := by
  refine Eq.trans (b := v251 (ix2 p l) * (v13 (ix2 p l) * v138 (ix2 p l))) (by pointwise [k0_pay46]) ?_
  rw [hz, hs, he, ← EReal.coe_mul, ← EReal.coe_mul]
  rfl

theorem p47 {l : Fin 512} (hz : v13 (ix2 p l) = (R.zs l : EReal)) (hn : v131 (ix2 p l) = (R.ns l : EReal)) (hs : v138 (ix2 p l) = (sg (R.zs l) : EReal))
    (he : v251 (ix2 p l) = (R.es l : EReal)) : k0_pay47 v13 v131 v138 v251 (ix2 p l) = (R.dzs l : EReal) := by
  refine Eq.trans (b := v251 (ix2 p l) * v131 (ix2 p l) * (v138 (ix2 p l) * (1 + v13 (ix2 p l) * (1 - v138 (ix2 p l))))) (by pointwise [k0_pay47]) ?_
  rw [hz, hn, hs, he, ← EReal.coe_one]
  simp only [← EReal.coe_mul, ← EReal.coe_sub, ← EReal.coe_add]
  rfl

theorem p48 {l : Fin 512} (h : k0_pay46 v13 v138 v251 (ix2 p l) = (R.dns l : EReal)) (ha : v15 (ix2 0 l) = (R.a l : EReal)) :
    k0_pay48 v13 v15 v138 v251 (ix2 p l) = ((R.dns l * R.a l : ℝ) : EReal) := by
  refine Eq.trans (b := k0_pay46 v13 v138 v251 (ix2 p l) * v15 (ix2 0 l)) (by pointwise [k0_pay48]) ?_
  rw [h, ha, ← EReal.coe_mul]

theorem p49 {l : Fin 512} (h : k0_pay48 v13 v15 v138 v251 (ix2 p l) = ((R.dns l * R.a l : ℝ) : EReal)) (hr : v128 (ix2 p l) = (R.rs (q64 l) : EReal)) :
    k0_pay49 v13 v15 v128 v138 v251 (ix2 p l) = ((R.rs (q64 l) * (R.dns l * R.a l) : ℝ) : EReal) := by
  refine Eq.trans (b := v128 (ix2 p l) * k0_pay48 v13 v15 v138 v251 (ix2 p l)) (by pointwise [k0_pay49]) ?_
  rw [h, hr, ← EReal.coe_mul]

theorem p50 {l : Fin 512} (ho : v11 (ix2 p l) = (R.o l : EReal)) (hr : v128 (ix2 p l) = (R.rs (q64 l) : EReal)) :
    k0_pay50 v11 v128 (ix2 p l) = ((R.o l * (R.rs (q64 l) * R.rs (q64 l) * R.rs (q64 l)) : ℝ) : EReal) := by
  refine Eq.trans (b := v11 (ix2 p l) * (v128 (ix2 p l) * v128 (ix2 p l) * v128 (ix2 p l))) (by pointwise [k0_pay50]) ?_
  rw [ho, hr]
  simp only [← EReal.coe_mul]

theorem p51 {l : Fin 512} (h : k0_pay48 v13 v15 v138 v251 (ix2 p l) = ((R.dns l * R.a l : ℝ) : EReal)) (ho : v11 (ix2 p l) = (R.o l : EReal)) :
    k0_pay51 v11 v13 v15 v138 v251 (ix2 p l) = ((R.dns l * R.a l * R.o l : ℝ) : EReal) := by
  refine Eq.trans (b := k0_pay48 v13 v15 v138 v251 (ix2 p l) * v11 (ix2 p l)) (by pointwise [k0_pay51]) ?_
  rw [h, ho, ← EReal.coe_mul]

theorem p52 {f : Fin 512 → ℝ} (h : ∀ l, k0_pay51 v11 v13 v15 v138 v251 (ix2 p l) = (f l : EReal)) (k : Fin 128) :
    k0_pay52 v11 v13 v15 v138 v251 (ix2 p k) = (g64 f (q64 ⟨k.val, by omega⟩) : EReal) := by
  refine Eq.trans (b := Scalar.select (lo k) (∑ x : Fin 128, Scalar.select (lo x) (k0_pay51 v11 v13 v15 v138 v251 (ix2 p (⟨x.val, by omega⟩ : Fin 512))) 0)
      (∑ x : Fin 128, Scalar.select (lo x) 0 (k0_pay51 v11 v13 v15 v138 v251 (ix2 p (⟨x.val, by omega⟩ : Fin 512))))) (by pointwise [k0_pay52]) ?_
  simp only [h]
  refine (grp f 0 _ (fun x => ?_) k).trans ?_
  · exact congrArg _ (congrArg f (Fin.ext (by simp)))
  · exact congrArg _ (congrArg _ (congrArg _ (Fin.ext (by simp))))

theorem p53 (k : Fin 128) : k0_pay53 v11 v13 v15 v138 v251 (ix2 p k) = k0_pay51 v11 v13 v15 v138 v251 (ix2 p (⟨128 + k.val, by omega⟩ : Fin 512)) := by
  pointwise [k0_pay53]

theorem p54 (p : Fin 256) (k : Fin 128) : k0_pay54 (ix2 p k) = lo k := by
  pointwise [k0_pay54]

variable {f : Fin 512 → ℝ} {v269 : IVec S1x128 32}

theorem p55 (h18 : ∀ k, v269 (ix2 0 k) = BitVec.ofNat 32 k.val) {v296 : FVec Ideal S256x128 .f32} (h : ∀ k : Fin 128, v296 (ix2 p k) = (f ⟨128 + k.val, by omega⟩ : EReal))
    {z : Ideal .f32} (hz : (z : EReal) = 0) (k : Fin 128) :
    k0_pay55 v269 v296 z k0_pay54 (ix2 p k) = (g64 f (q64 ⟨128 + k.val, by omega⟩) : EReal) := by
  refine Eq.trans (b := Scalar.select (IntOp.cmpi .slt (v269 (ix2 0 k)) 64#32) (∑ x : Fin 128, Scalar.select (k0_pay54 (ix2 p x)) (v296 (ix2 p x)) z)
      (∑ x : Fin 128, Scalar.select (IntOp.cmpi .slt (v269 (ix2 0 x)) 64#32) 0 (v296 (ix2 p x)))) (by pointwise [k0_pay55]) ?_
  simp only [h, h18, p54, hz]
  exact grp f 1 _ (fun x => rfl) k

theorem p56 (h18 : ∀ k, v269 (ix2 0 k) = BitVec.ofNat 32 k.val) {v268 : FVec Ideal S256x512 .f32} (h : ∀ l, v268 (ix2 p l) = (f l : EReal)) (k : Fin 128) :
    k0_pay56 v268 v269 (ix2 p k) = (g64 f (q64 ⟨256 + k.val, by omega⟩) : EReal) := by
  refine Eq.trans (b := Scalar.select (IntOp.cmpi .slt (v269 (ix2 0 k)) 64#32)
      (∑ x : Fin 128, Scalar.select (IntOp.cmpi .slt (v269 (ix2 0 x)) 64#32) (v268 (ix2 p (⟨256 + x.val, by omega⟩ : Fin 512))) 0)
      (∑ x : Fin 128, Scalar.select (IntOp.cmpi .slt (v269 (ix2 0 x)) 64#32) 0 (v268 (ix2 p (⟨256 + x.val, by omega⟩ : Fin 512))))) (by pointwise [k0_pay56]) ?_
  simp only [h18, h]
  exact grp f 2 _ (fun x => rfl) k

theorem p57 {v268 : FVec Ideal S256x512 .f32} (k : Fin 128) : k0_pay57 v268 (ix2 p k) = v268 (ix2 p (⟨384 + k.val, by omega⟩ : Fin 512)) := by
  pointwise [k0_pay57]

theorem p58 (h18 : ∀ k, v269 (ix2 0 k) = BitVec.ofNat 32 k.val) {v264 v267 v268 : FVec Ideal S256x512 .f32} {v295 v321 v347 : FVec Ideal S256x128 .f32}
    (h : ∀ l, v268 (ix2 p l) = (f l : EReal))
    (h0 : ∀ k : Fin 128, v295 (ix2 p k) = (g64 f (q64 ⟨k.val, by omega⟩) : EReal)) (h1 : ∀ k : Fin 128, v321 (ix2 p k) = (g64 f (q64 ⟨128 + k.val, by omega⟩) : EReal))
    (h2 : ∀ k : Fin 128, v347 (ix2 p k) = (g64 f (q64 ⟨256 + k.val, by omega⟩) : EReal)) {l : Fin 512} {a b : ℝ}
    (ha : v264 (ix2 p l) = (a : EReal)) (hb : v267 (ix2 p l) = (b : EReal)) :
    k0_pay58 v264 v267 v269 v295 v321 v347 (k0_pay57 v268) (ix2 p l) = ((a - b * (g64 f (q64 l) * (1 / 64)) : ℝ) : EReal) := by
  refine Eq.trans (b := v264 (ix2 p l) - v267 (ix2 p l) * ((if h : l.val < 128 then v295 (ix2 p (⟨l.val, h⟩ : Fin 128)) else if h : l.val - 128 < 128 then v321 (ix2 p (⟨l.val - 128, h⟩ : Fin 128))
      else if h : l.val - 128 - 128 < 128 then v347 (ix2 p (⟨l.val - 128 - 128, h⟩ : Fin 128)) else
      Scalar.select (IntOp.cmpi .slt (v269 (ix2 0 (⟨l.val - 128 - 128 - 128, by omega⟩ : Fin 128))) 64#32)
      (∑ x : Fin 128, Scalar.select (IntOp.cmpi .slt (v269 (ix2 0 x)) 64#32) (k0_pay57 v268 (ix2 p x)) 0)
      (∑ x : Fin 128, Scalar.select (IntOp.cmpi .slt (v269 (ix2 0 x)) 64#32) 0 (k0_pay57 v268 (ix2 p x)))) * Ideal.ofBits .f32 0x3C800000#32)) (by pointwise [k0_pay58]) ?_
  refine (congrArg (fun z : EReal => v264 (ix2 p l) - v267 (ix2 p l) * (z * Ideal.ofBits .f32 0x3C800000#32)) (quad (fun l => g64 f (q64 l)) (fun x => v295 (ix2 p x)) (fun x => v321 (ix2 p x)) (fun x => v347 (ix2 p x))
    (fun k => Scalar.select (IntOp.cmpi .slt (v269 (ix2 0 k)) 64#32)
      (∑ x : Fin 128, Scalar.select (IntOp.cmpi .slt (v269 (ix2 0 x)) 64#32) (k0_pay57 v268 (ix2 p x)) 0)
      (∑ x : Fin 128, Scalar.select (IntOp.cmpi .slt (v269 (ix2 0 x)) 64#32) 0 (k0_pay57 v268 (ix2 p x)))) h0 h1 h2 ?_ l)).trans ?_
  · intro k; simp only [h18, p57, h]; exact grp f 3 _ (fun x => rfl) k
  · rw [ha, hb, wi64]
    simp only [← EReal.coe_mul, ← EReal.coe_sub]

theorem p59 {Q : Fin 256 → Row} {v253 : FVec Ideal S256x512 .f32} (hn : ∀ p l, v253 (ix2 p l) = ((Q p).dns l : EReal)) (ho : ∀ p l, v11 (ix2 p l) = ((Q p).o l : EReal))
    (hr : ∀ p l, v128 (ix2 p l) = ((Q p).rs (q64 l) : EReal)) (l : Fin 512) :
    k0_pay59 v11 v128 v253 (ix2 0 l) = ((∑ p, (Q p).gs l : ℝ) : EReal) := by
  refine Eq.trans (b := ∑ p : Fin 256, v253 (ix2 p l) * v11 (ix2 p l) * v128 (ix2 p l)) (by pointwise [k0_pay59]) ?_
  simp only [hn, ho, hr, ← EReal.coe_mul, coe_sum]
  rfl

variable {v245 : FVec Ideal S256x1024 .f32} {v12 : Vec Ideal S256x512 .f32}

theorem p60 (h : ∀ l, v245 (ix2 p l) = (R.dm l : EReal)) (l : Fin 512) : k0_pay60 v245 (ix2 p l) = (R.ed l : EReal) := by
  refine Eq.trans (b := v245 (ix2 p (⟨512 + l.val, by omega⟩ : Fin 1024))) (by pointwise [k0_pay60]) ?_
  rw [h]; rfl

theorem p61 (hd : ∀ l, v245 (ix2 p l) = (R.dm l : EReal)) {l : Fin 512} (hz : v14 (ix2 p l) = (R.zg l : EReal)) (hs : v177 (ix2 p l) = (sg (R.zg l) : EReal)) :
    k0_pay61 v14 v177 v245 (ix2 p l) = (R.dnd l : EReal) := by
  refine Eq.trans (b := k0_pay60 v245 (ix2 p l) * (v14 (ix2 p l) * v177 (ix2 p l))) (by pointwise [k0_pay61]) ?_
  rw [hz, hs, p60 hd, ← EReal.coe_mul, ← EReal.coe_mul]
  rfl

theorem p62 (hd : ∀ l, v245 (ix2 p l) = (R.dm l : EReal)) {l : Fin 512} (hz : v14 (ix2 p l) = (R.zg l : EReal)) (hn : v170 (ix2 p l) = (R.nd l : EReal))
    (hs : v177 (ix2 p l) = (sg (R.zg l) : EReal)) : k0_pay62 v14 v170 v177 v245 (ix2 p l) = (R.dzg l : EReal) := by
  refine Eq.trans (b := k0_pay60 v245 (ix2 p l) * v170 (ix2 p l) * (v177 (ix2 p l) * (1 + v14 (ix2 p l) * (1 - v177 (ix2 p l))))) (by pointwise [k0_pay62]) ?_
  rw [hz, hn, hs, p60 hd, ← EReal.coe_one]
  simp only [← EReal.coe_mul, ← EReal.coe_sub, ← EReal.coe_add]
  rfl

theorem p63 {l : Fin 512} (h : k0_pay61 v14 v177 v245 (ix2 p l) = (R.dnd l : EReal)) (hb : v16 (ix2 0 l) = (R.b l : EReal)) :
    k0_pay63 v14 v16 v177 v245 (ix2 p l) = ((R.dnd l * R.b l : ℝ) : EReal) := by
  refine Eq.trans (b := k0_pay61 v14 v177 v245 (ix2 p l) * v16 (ix2 0 l)) (by pointwise [k0_pay63]) ?_
  rw [h, hb, ← EReal.coe_mul]

theorem p64 {l : Fin 512} (h : k0_pay63 v14 v16 v177 v245 (ix2 p l) = ((R.dnd l * R.b l : ℝ) : EReal)) (hr : v167 (ix2 p l) = (R.rd (q128 l) : EReal)) :
    k0_pay64 v14 v16 v167 v177 v245 (ix2 p l) = ((R.rd (q128 l) * (R.dnd l * R.b l) : ℝ) : EReal) := by
  refine Eq.trans (b := v167 (ix2 p l) * k0_pay63 v14 v16 v177 v245 (ix2 p l)) (by pointwise [k0_pay64]) ?_
  rw [h, hr, ← EReal.coe_mul]

/-- The groups' sums of the products, as the kernel lays them out. -/
def sp128 (v395 v12 : Vec Ideal S256x512 .f32) (p : Fin 256) (l : Fin 512) : EReal :=
  if _h : l.val < 128 then ∑ x : Fin 128, v395 (ix2 p (⟨x.val, by omega⟩ : Fin 512)) * v12 (ix2 p (⟨x.val, by omega⟩ : Fin 512))
  else if _h : l.val - 128 < 128 then ∑ x : Fin 128, v395 (ix2 p (⟨128 + x.val, by omega⟩ : Fin 512)) * v12 (ix2 p (⟨128 + x.val, by omega⟩ : Fin 512))
  else if _h : l.val - 128 - 128 < 128 then ∑ x : Fin 128, v395 (ix2 p (⟨256 + x.val, by omega⟩ : Fin 512)) * v12 (ix2 p (⟨256 + x.val, by omega⟩ : Fin 512))
  else ∑ x : Fin 128, v395 (ix2 p (⟨384 + x.val, by omega⟩ : Fin 512)) * v12 (ix2 p (⟨384 + x.val, by omega⟩ : Fin 512))

theorem p66_open (v12 : Vec Ideal S256x512 .f32) (v167 v395 v396 : FVec Ideal S256x512 .f32) (p : Fin 256) (l : Fin 512) :
    k0_pay66 v12 v167 v395 v396 (k0_pay65 v167) (ix2 p l)
      = v396 (ix2 p l) - v12 (ix2 p l) * (v167 (ix2 p l) * v167 (ix2 p l) * v167 (ix2 p l)) * (sp128 v395 v12 p l * Ideal.ofBits .f32 0x3C000000#32) := by
  pointwise [k0_pay66, k0_pay65, sp128]

theorem p66 {v395 v396 : FVec Ideal S256x512 .f32} (ho : ∀ l, v12 (ix2 p l) = (R.d l : EReal)) (hn : ∀ l, v395 (ix2 p l) = ((R.dnd l * R.b l : ℝ) : EReal)) {l : Fin 512}
    (hr : v167 (ix2 p l) = (R.rd (q128 l) : EReal)) (h : v396 (ix2 p l) = ((R.rd (q128 l) * (R.dnd l * R.b l) : ℝ) : EReal)) :
    k0_pay66 v12 v167 v395 v396 (k0_pay65 v167) (ix2 p l) = (R.dod l : EReal) := by
  rw [p66_open, show sp128 v395 v12 p l = (R.sd (q128 l) : EReal) from
    quad_sum (fun l => R.dnd l * R.b l * R.d l) (fun l => v395 (ix2 p l) * v12 (ix2 p l)) (fun l => by rw [hn, ho, ← EReal.coe_mul]) l, wi128, hr, h, ho]
  simp only [← EReal.coe_mul, ← EReal.coe_sub]
  rfl

theorem p67 {Q : Fin 256 → Row} {v385 : FVec Ideal S256x512 .f32} (hn : ∀ p l, v385 (ix2 p l) = ((Q p).dnd l : EReal)) (ho : ∀ p l, v12 (ix2 p l) = ((Q p).d l : EReal))
    (hr : ∀ p l, v167 (ix2 p l) = ((Q p).rd (q128 l) : EReal)) (l : Fin 512) :
    k0_pay67 v12 v167 v385 (ix2 0 l) = ((∑ p, (Q p).gd l : ℝ) : EReal) := by
  refine Eq.trans (b := ∑ p : Fin 256, v385 (ix2 p l) * v12 (ix2 p l) * v167 (ix2 p l)) (by pointwise [k0_pay67]) ?_
  simp only [hn, ho, hr, ← EReal.coe_mul, coe_sum]
  rfl

end heads

end Cert.KernelPostIdeal.Value

end
-- ==== Proof.PoBlk.lean ====
module

public import proofs.«01_k».proof.Proof.PoKer2

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals

/-! The values of one block, from the windows' blocks. -/

section defs
variable (x0 : Vec Ideal S4x256x128 .f32) (x1 x2 x3 : Vec Ideal S256x512 .f32) (x4 x5 : Vec Ideal S256x1024 .f32)
  (x6 : Vec Ideal S1024x1024 .bf16) (x7 x8 : Vec Ideal S1x512 .f32) (x9 : Vec Ideal S1x1024 .f32)

abbrev ld0 : Vec Ideal S1x256x128 .f32 := View.ld x0 (Rect.unit ![0, 0, 0] ![1, 256, 128] inb_S4x256x128_S1x256x128_0_0_0)
abbrev ld1 : Vec Ideal S1x256x128 .f32 := View.ld x0 (Rect.unit ![1, 0, 0] ![1, 256, 128] inb_S4x256x128_S1x256x128_1_0_0)
abbrev ld2 : Vec Ideal S1x256x128 .f32 := View.ld x0 (Rect.unit ![2, 0, 0] ![1, 256, 128] inb_S4x256x128_S1x256x128_2_0_0)
abbrev ld3 : Vec Ideal S1x256x128 .f32 := View.ld x0 (Rect.unit ![3, 0, 0] ![1, 256, 128] inb_S4x256x128_S1x256x128_3_0_0)
abbrev lanes : IVec S1x128 32 := iota Kind.tc S1x128 32 [1] iota_S1x128_d1_w32

def oB : FVec Ideal S256x512 .f32 := k0_pay12 (ld0 x0) (ld1 x0) (ld2 x0) (ld3 x0)
def qB : FVec Ideal S256x512 .f32 := k0_pay13 (ld0 x0) (ld1 x0) (ld2 x0) (ld3 x0)
def gB : FVec Ideal S256x512 .f32 :=
  k0_pay21 (qB x0) lanes (k0_pay17 lanes (k0_pay14 (ld0 x0) (ld1 x0) (ld2 x0) (ld3 x0)) (k0_pay15 (ld0 x0) (ld1 x0) (ld2 x0) (ld3 x0)) k0_pay16)
    (k0_pay18 (qB x0) lanes) (k0_pay19 (qB x0)) (k0_pay20 (qB x0) lanes)
def rB : FVec Ideal S256x512 .f32 := k0_pay23 (gB x0) k0_pay22
def nB : FVec Ideal S256x512 .f32 := k0_pay24 (oB x0) x7 (gB x0) k0_pay22
def sB : FVec Ideal S256x512 .f32 := k0_pay25 x2
def mB : FVec Ideal S256x512 .f32 := k0_pay26 (oB x0) x2 x7 (gB x0) k0_pay22
def rdB : FVec Ideal S256x512 .f32 := k0_pay27 x1
def ndB : FVec Ideal S256x512 .f32 := k0_pay28 x1 x8
def sdB : FVec Ideal S256x512 .f32 := k0_pay30 (k0_pay29 x3)
def mixB : FVec Ideal S256x1024 .bf16 := k0_pay31 x3 (mB x0 x2 x7) (ndB x1 x8) (k0_pay29 x3)
def x2B : FVec Ideal S256x1024 .f32 := k0_pay33 x3 (mB x0 x2 x7) (ndB x1 x8) (k0_pay29 x3) x6 x4
def r2B : FVec Ideal S256x1 .f32 := k0_pay34 x3 (mB x0 x2 x7) (ndB x1 x8) (k0_pay29 x3) x6 x4
def errB : FVec Ideal S256x1024 .f32 := k0_pay35 x3 (mB x0 x2 x7) (ndB x1 x8) (k0_pay29 x3) x6 x4 x9 x5
def lossB : Ideal .f32 := k0_pay37 x3 (mB x0 x2 x7) (ndB x1 x8) (k0_pay29 x3) x6 x4 x9 x5
def dxB : FVec Ideal S256x1024 .f32 :=
  k0_pay40 (x2B x0 x1 x2 x3 x4 x6 x7 x8) (r2B x0 x1 x2 x3 x4 x6 x7 x8) x9 (errB x0 x1 x2 x3 x4 x5 x6 x7 x8 x9)
def gfB (v : Vec Ideal S1x1024 .f32) : FVec Ideal S1x1024 .f32 :=
  k0_pay41 (x2B x0 x1 x2 x3 x4 x6 x7 x8) (r2B x0 x1 x2 x3 x4 x6 x7 x8) (errB x0 x1 x2 x3 x4 x5 x6 x7 x8 x9) v
def dmB : FVec Ideal S256x1024 .f32 :=
  k0_pay43 (k0_pay32 x6) (x2B x0 x1 x2 x3 x4 x6 x7 x8) (r2B x0 x1 x2 x3 x4 x6 x7 x8) x9 (errB x0 x1 x2 x3 x4 x5 x6 x7 x8 x9)
def gwB (v : Vec Ideal S1024x1024 .f32) : FVec Ideal S1024x1024 .f32 :=
  k0_pay44 (mixB x0 x1 x2 x3 x7 x8) (x2B x0 x1 x2 x3 x4 x6 x7 x8) (r2B x0 x1 x2 x3 x4 x6 x7 x8) x9 (errB x0 x1 x2 x3 x4 x5 x6 x7 x8 x9) v
def esB : FVec Ideal S256x512 .f32 :=
  k0_pay45 (k0_pay32 x6) (x2B x0 x1 x2 x3 x4 x6 x7 x8) (r2B x0 x1 x2 x3 x4 x6 x7 x8) x9 (errB x0 x1 x2 x3 x4 x5 x6 x7 x8 x9)
def dnsB : FVec Ideal S256x512 .f32 := k0_pay46 x2 (sB x2) (esB x0 x1 x2 x3 x4 x5 x6 x7 x8 x9)
def dzsB : FVec Ideal S256x512 .f32 := k0_pay47 x2 (nB x0 x7) (sB x2) (esB x0 x1 x2 x3 x4 x5 x6 x7 x8 x9)
def dpB : FVec Ideal S256x512 .f32 := k0_pay51 (oB x0) x2 x7 (sB x2) (esB x0 x1 x2 x3 x4 x5 x6 x7 x8 x9)
def dosB : FVec Ideal S256x512 .f32 :=
  k0_pay58 (k0_pay49 x2 x7 (rB x0) (sB x2) (esB x0 x1 x2 x3 x4 x5 x6 x7 x8 x9)) (k0_pay50 (oB x0) (rB x0)) lanes
    (k0_pay52 (oB x0) x2 x7 (sB x2) (esB x0 x1 x2 x3 x4 x5 x6 x7 x8 x9))
    (k0_pay55 lanes (k0_pay53 (oB x0) x2 x7 (sB x2) (esB x0 x1 x2 x3 x4 x5 x6 x7 x8 x9)) (Scalar.ofBits .f32 0x00000000#32) k0_pay54)
    (k0_pay56 (dpB x0 x1 x2 x3 x4 x5 x6 x7 x8 x9) lanes) (k0_pay57 (dpB x0 x1 x2 x3 x4 x5 x6 x7 x8 x9))
def gsB : FVec Ideal S1x512 .f32 := k0_pay59 (oB x0) (rB x0) (dnsB x0 x1 x2 x3 x4 x5 x6 x7 x8 x9)
def dndB : FVec Ideal S256x512 .f32 := k0_pay61 x3 (sdB x3) (dmB x0 x1 x2 x3 x4 x5 x6 x7 x8 x9)
def dzgB : FVec Ideal S256x512 .f32 := k0_pay62 x3 (ndB x1 x8) (sdB x3) (dmB x0 x1 x2 x3 x4 x5 x6 x7 x8 x9)
def dodB : FVec Ideal S256x512 .f32 :=
  k0_pay66 x1 (rdB x1) (k0_pay63 x3 x8 (sdB x3) (dmB x0 x1 x2 x3 x4 x5 x6 x7 x8 x9))
    (k0_pay64 x3 x8 (rdB x1) (sdB x3) (dmB x0 x1 x2 x3 x4 x5 x6 x7 x8 x9)) (k0_pay65 (rdB x1))
def gdB : FVec Ideal S1x512 .f32 := k0_pay67 x1 (rdB x1) (dndB x0 x1 x2 x3 x4 x5 x6 x7 x8 x9)

/-- The windows' blocks are the real numbers of the rows `Q`. -/
structure BIs (Q : Fin 256 → Row) : Prop where
  o : ∀ h p k, x0 (ix3 h p k) = ((Q p).o ⟨128 * h.val + k.val, by omega⟩ : EReal)
  d : ∀ p l, x1 (ix2 p l) = ((Q p).d l : EReal)
  zs : ∀ p l, x2 (ix2 p l) = ((Q p).zs l : EReal)
  zg : ∀ p l, x3 (ix2 p l) = ((Q p).zg l : EReal)
  x : ∀ p j, x4 (ix2 p j) = ((Q p).x j : EReal)
  t : ∀ p j, x5 (ix2 p j) = ((Q p).t j : EReal)
  w : ∀ p l j, x6 (ix2 l j) = ((Q p).w l j : EReal)
  a : ∀ p l, x7 (ix2 0 l) = ((Q p).a l : EReal)
  b : ∀ p l, x8 (ix2 0 l) = ((Q p).b l : EReal)
  f : ∀ p j, x9 (ix2 0 j) = ((Q p).f j : EReal)

end defs

theorem ld_0 (x0 : Vec Ideal S4x256x128 .f32) (p : Fin 256) (k : Fin 128) : ld0 x0 (ix3 0 p k) = x0 (ix3 0 p k) := by pointwise [ld0]
theorem ld_1 (x0 : Vec Ideal S4x256x128 .f32) (p : Fin 256) (k : Fin 128) : ld1 x0 (ix3 0 p k) = x0 (ix3 1 p k) := by pointwise [ld1]
theorem ld_2 (x0 : Vec Ideal S4x256x128 .f32) (p : Fin 256) (k : Fin 128) : ld2 x0 (ix3 0 p k) = x0 (ix3 2 p k) := by pointwise [ld2]
theorem ld_3 (x0 : Vec Ideal S4x256x128 .f32) (p : Fin 256) (k : Fin 128) : ld3 x0 (ix3 0 p k) = x0 (ix3 3 p k) := by pointwise [ld3]
theorem lanes_apply (k : Fin 128) : lanes (ix2 0 k) = BitVec.ofNat 32 k.val := by pointwise []

variable {x0 : Vec Ideal S4x256x128 .f32} {x1 x2 x3 : Vec Ideal S256x512 .f32} {x4 x5 : Vec Ideal S256x1024 .f32}
  {x6 : Vec Ideal S1024x1024 .bf16} {x7 x8 : Vec Ideal S1x512 .f32} {x9 : Vec Ideal S1x1024 .f32} {Q : Fin 256 → Row}
  (h : BIs x0 x1 x2 x3 x4 x5 x6 x7 x8 x9 Q)
include h

theorem oB_eq (p : Fin 256) (l : Fin 512) : oB x0 (ix2 p l) = ((Q p).o l : EReal) := by
  refine p12 (R := Q p) (fun x => ?_) (fun x => ?_) (fun x => ?_) (fun x => ?_) l
  · rw [ld_0, h.o]; exact congrArg _ (congrArg _ (Fin.ext (by simp)))
  · rw [ld_1, h.o]; rfl
  · rw [ld_2, h.o]; rfl
  · rw [ld_3, h.o]; rfl
theorem qB_eq (p : Fin 256) (l : Fin 512) : qB x0 (ix2 p l) = (((fun l => (Q p).o l * (Q p).o l) l : ℝ) : EReal) := p13 (oB_eq h p) l
theorem gB_eq (p : Fin 256) (l : Fin 512) : gB x0 (ix2 p l) = (g64 (fun l => (Q p).o l * (Q p).o l) (q64 l) : EReal) :=
  p21 lanes_apply (qB_eq h p)
    (p17 lanes_apply p16 (fun x => (p14 _ _ _ _ x).trans (qB_eq h p _))
      ((p15 _ _ _ _).trans (Finset.sum_congr rfl fun x _ => congrArg (fun z : EReal => Scalar.select (lo x) z 0) (qB_eq h p _))))
    (p18 lanes_apply (qB_eq h p)) l
theorem rB_eq (p : Fin 256) (l : Fin 512) : rB x0 (ix2 p l) = ((Q p).rs (q64 l) : EReal) := p23 (gB_eq h p l) (p22 l)
theorem nB_eq (p : Fin 256) (l : Fin 512) : nB x0 x7 (ix2 p l) = ((Q p).ns l : EReal) := p24 (oB_eq h p l) (rB_eq h p l) (h.a p l)
theorem sB_eq (p : Fin 256) (l : Fin 512) : sB x2 (ix2 p l) = (sg ((Q p).zs l) : EReal) := p25 (h.zs p l)
theorem mB_eq (p : Fin 256) (l : Fin 512) : mB x0 x2 x7 (ix2 p l) = ((Q p).ms l : EReal) := p26 (h.zs p l) (nB_eq h p l)
theorem rdB_eq (p : Fin 256) (l : Fin 512) : rdB x1 (ix2 p l) = ((Q p).rd (q128 l) : EReal) := p27 (h.d p) l
theorem ndB_eq (p : Fin 256) (l : Fin 512) : ndB x1 x8 (ix2 p l) = ((Q p).nd l : EReal) := p28 (h.d p) (h.b p) l
theorem sdB_eq (p : Fin 256) (l : Fin 512) : sdB x3 (ix2 p l) = (sg ((Q p).zg l) : EReal) := p30 (h.zg p l)
theorem mixB_eq (p : Fin 256) (j : Fin 1024) : mixB x0 x1 x2 x3 x7 x8 (ix2 p j) = ((Q p).mix j : EReal) := p31 (h.zg p) (mB_eq h p) (ndB_eq h p) j
theorem x2B_eq (p : Fin 256) (j : Fin 1024) : x2B x0 x1 x2 x3 x4 x6 x7 x8 (ix2 p j) = ((Q p).x2 j : EReal) := p33 (mixB_eq h p) (h.w p) (h.x p) j
theorem r2B_eq (p : Fin 256) : r2B x0 x1 x2 x3 x4 x6 x7 x8 (ix2 p 0) = ((Q p).r2 : EReal) := p34 (x2B_eq h p)
theorem errB_eq (p : Fin 256) (j : Fin 1024) : errB x0 x1 x2 x3 x4 x5 x6 x7 x8 x9 (ix2 p j) = ((Q p).err j : EReal) :=
  p35 (x2B_eq h p) (r2B_eq h p) (h.f p) (h.t p) j
theorem lossB_eq : lossB x0 x1 x2 x3 x4 x5 x6 x7 x8 x9 = ((1 / 2 * ∑ p, (Q p).le : ℝ) : EReal) := p37 (errB_eq h)
theorem dxB_eq (p : Fin 256) (j : Fin 1024) : dxB x0 x1 x2 x3 x4 x5 x6 x7 x8 x9 (ix2 p j) = ((Q p).dx j : EReal) :=
  p40 (x2B_eq h p) (r2B_eq h p) (h.f p) (errB_eq h p) j
theorem gfB_eq (v : Vec Ideal S1x1024 .f32) (j : Fin 1024) :
    gfB x0 x1 x2 x3 x4 x5 x6 x7 x8 x9 v (ix2 0 j) = (v (ix2 0 j) : EReal) + ((∑ p, (Q p).gf j : ℝ) : EReal) :=
  p41 (x2B_eq h) (r2B_eq h) (errB_eq h) v j
theorem dmB_eq (p : Fin 256) (l : Fin 1024) : dmB x0 x1 x2 x3 x4 x5 x6 x7 x8 x9 (ix2 p l) = ((Q p).dm l : EReal) := p43 (dxB_eq h p) (h.w p) l
theorem gwB_eq (v : Vec Ideal S1024x1024 .f32) (l j : Fin 1024) :
    gwB x0 x1 x2 x3 x4 x5 x6 x7 x8 x9 v (ix2 l j) = (v (ix2 l j) : EReal) + ((∑ p, (Q p).gw l j : ℝ) : EReal) :=
  p44 (mixB_eq h) (dxB_eq h) v l j
theorem esB_eq (p : Fin 256) (l : Fin 512) : esB x0 x1 x2 x3 x4 x5 x6 x7 x8 x9 (ix2 p l) = ((Q p).es l : EReal) := p45 (dmB_eq h p) l
theorem dnsB_eq (p : Fin 256) (l : Fin 512) : dnsB x0 x1 x2 x3 x4 x5 x6 x7 x8 x9 (ix2 p l) = ((Q p).dns l : EReal) :=
  p46 (h.zs p l) (sB_eq h p l) (esB_eq h p l)
theorem dzsB_eq (p : Fin 256) (l : Fin 512) : dzsB x0 x1 x2 x3 x4 x5 x6 x7 x8 x9 (ix2 p l) = ((Q p).dzs l : EReal) :=
  p47 (h.zs p l) (nB_eq h p l) (sB_eq h p l) (esB_eq h p l)
theorem dwB_eq (p : Fin 256) (l : Fin 512) : k0_pay48 x2 x7 (sB x2) (esB x0 x1 x2 x3 x4 x5 x6 x7 x8 x9) (ix2 p l) = (((Q p).dns l * (Q p).a l : ℝ) : EReal) :=
  p48 (dnsB_eq h p l) (h.a p l)
theorem dpB_eq (p : Fin 256) (l : Fin 512) :
    dpB x0 x1 x2 x3 x4 x5 x6 x7 x8 x9 (ix2 p l) = (((fun l => (Q p).dns l * (Q p).a l * (Q p).o l) l : ℝ) : EReal) := p51 (dwB_eq h p l) (oB_eq h p l)
theorem dosB_eq (p : Fin 256) (l : Fin 512) : dosB x0 x1 x2 x3 x4 x5 x6 x7 x8 x9 (ix2 p l) = ((Q p).dos l : EReal) :=
  p58 (f := fun l => (Q p).dns l * (Q p).a l * (Q p).o l) lanes_apply (dpB_eq h p) (p52 (dpB_eq h p))
    (p55 (f := fun l => (Q p).dns l * (Q p).a l * (Q p).o l) lanes_apply (fun k => (p53 k).trans (dpB_eq h p _)) (w0.trans EReal.coe_zero))
    (p56 lanes_apply (dpB_eq h p)) (p49 (dwB_eq h p l) (rB_eq h p l)) (p50 (oB_eq h p l) (rB_eq h p l))
theorem gsB_eq (l : Fin 512) : gsB x0 x1 x2 x3 x4 x5 x6 x7 x8 x9 (ix2 0 l) = ((∑ p, (Q p).gs l : ℝ) : EReal) := p59 (dnsB_eq h) (oB_eq h) (rB_eq h) l
theorem dndB_eq (p : Fin 256) (l : Fin 512) : dndB x0 x1 x2 x3 x4 x5 x6 x7 x8 x9 (ix2 p l) = ((Q p).dnd l : EReal) :=
  p61 (dmB_eq h p) (h.zg p l) (sdB_eq h p l)
theorem dzgB_eq (p : Fin 256) (l : Fin 512) : dzgB x0 x1 x2 x3 x4 x5 x6 x7 x8 x9 (ix2 p l) = ((Q p).dzg l : EReal) :=
  p62 (dmB_eq h p) (h.zg p l) (ndB_eq h p l) (sdB_eq h p l)
theorem dodB_eq (p : Fin 256) (l : Fin 512) : dodB x0 x1 x2 x3 x4 x5 x6 x7 x8 x9 (ix2 p l) = ((Q p).dod l : EReal) :=
  p66 (h.d p) (fun l => p63 (dndB_eq h p l) (h.b p l)) (rdB_eq h p l) (p64 (p63 (dndB_eq h p l) (h.b p l)) (rdB_eq h p l))
theorem gdB_eq (l : Fin 512) : gdB x0 x1 x2 x3 x4 x5 x6 x7 x8 x9 (ix2 0 l) = ((∑ p, (Q p).gd l : ℝ) : EReal) := p67 (dndB_eq h) (h.d) (rdB_eq h) l

end Cert.KernelPostIdeal.Value

end
-- ==== Proof.PoBase.lean ====
module

public import proofs.«01_k».proof.Proof.PoSem
public import proofs.«01_k».proof.Proof.Gen.KernelPostIdeal.Value
public import proofs.«01_k».proof.Proof.Gen.KernelPostIdeal.Frame
public import proofs.«01_k».proof.Proof.Gen.ReferencePostIdeal.Read
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals

/-- Every window's block index at every grid point. -/
theorem idx_val : ∀ t : Fin cfg0.N, win0_0.index t = ![0, t.val, 0]
    ∧ win0_1.index t = ![t.val, 0]
    ∧ win0_2.index t = ![t.val, 0]
    ∧ win0_3.index t = ![t.val, 1]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![0, t.val, 0]
    ∧ win0_12.index t = ![t.val, 0]
    ∧ win0_13.index t = ![3, t.val, 0]
    ∧ win0_14.index t = ![0, 0]
    ∧ win0_15.index t = ![0, 0]
    ∧ win0_16.index t = ![0, 0]
    ∧ win0_17.index t = ![0, 0]
    ∧ win0_18.index t = ![0, 0] :=
  (by decide +kernel : ∀ t : Fin grid0.N, _)

/-- The row of the whole array at which row `p` of block `t` lies. -/
abbrev row (t : Fin cfg0.N) (p : Fin 256) : Fin 2048 := ⟨256 * t.val + p.val, by have := t.isLt; have : cfg0.N = 8 := N_0; omega⟩

/-- The arguments are the real numbers of `A`. -/
structure Is (A : Inp) (x0 : Vec Ideal S4x2048x128 .f32) (x1 : Vec Ideal S2048x512 .f32) (x2 x3 x4 : Vec Ideal S2048x1024 .f32)
    (x5 : Vec Ideal S1024x1024 .f32) (x6 x7 : Vec Ideal S1x512 .f32) (x8 : Vec Ideal S1x1024 .f32) : Prop where
  o : ∀ h i k, x0 (ix3 h i k) = (A.o h i k : EReal)
  d : ∀ i l, x1 (ix2 i l) = (A.d i l : EReal)
  z : ∀ i j, x2 (ix2 i j) = (A.z i j : EReal)
  x : ∀ i j, x3 (ix2 i j) = (A.x i j : EReal)
  t : ∀ i j, x4 (ix2 i j) = (A.t i j : EReal)
  w : ∀ i j, x5 (ix2 i j) = (A.w i j : EReal)
  a : ∀ l, x6 (ix2 0 l) = (A.a l : EReal)
  b : ∀ l, x7 (ix2 0 l) = (A.b l : EReal)
  f : ∀ j, x8 (ix2 0 j) = (A.f j : EReal)

variable {A : Inp} {c : Dev nD} (H : Is A (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)))
include H

theorem b0 (t : Fin cfg0.N) (h : Fin 4) (p : Fin 256) (k : Fin 128) : (iblk m c 0 t : Vec Ideal S4x256x128 .f32) (ix3 h p k) = (A.o h (row t p) k : EReal) := by
  refine Eq.trans ?_ (H.o h (row t p) k)
  blk_point [iblk, V, idx_val t]
theorem b1 (t : Fin cfg0.N) (p : Fin 256) (l : Fin 512) : (iblk m c 1 t : Vec Ideal S256x512 .f32) (ix2 p l) = ((A.row (row t p)).d l : EReal) := by
  refine Eq.trans ?_ (H.d (row t p) l)
  blk_point [iblk, V, idx_val t]
theorem b2 (t : Fin cfg0.N) (p : Fin 256) (l : Fin 512) : (iblk m c 2 t : Vec Ideal S256x512 .f32) (ix2 p l) = ((A.row (row t p)).zs l : EReal) := by
  refine Eq.trans ?_ (H.z (row t p) ⟨l.val, by omega⟩)
  blk_point [iblk, V, idx_val t]
theorem b3 (t : Fin cfg0.N) (p : Fin 256) (l : Fin 512) : (iblk m c 3 t : Vec Ideal S256x512 .f32) (ix2 p l) = ((A.row (row t p)).zg l : EReal) := by
  refine Eq.trans ?_ (H.z (row t p) ⟨512 + l.val, by omega⟩)
  blk_point [iblk, V, idx_val t]
theorem b4 (t : Fin cfg0.N) (p : Fin 256) (j : Fin 1024) : (iblk m c 4 t : Vec Ideal S256x1024 .f32) (ix2 p j) = ((A.row (row t p)).x j : EReal) := by
  refine Eq.trans ?_ (H.x (row t p) j)
  blk_point [iblk, V, idx_val t]
theorem b5 (t : Fin cfg0.N) (p : Fin 256) (j : Fin 1024) : (iblk m c 5 t : Vec Ideal S256x1024 .f32) (ix2 p j) = ((A.row (row t p)).t j : EReal) := by
  refine Eq.trans ?_ (H.t (row t p) j)
  blk_point [iblk, V, idx_val t]
theorem b6 (t : Fin cfg0.N) (l j : Fin 1024) : (iblk m c 6 t : Vec Ideal S1024x1024 .bf16) (ix2 l j) = (A.w l j : EReal) := by
  refine Eq.trans ?_ (H.w l j)
  blk_simp [iblk, V, idx_val t]
  entry_read
  pointwise []
  blk_point [iblk, V, idx_val t]
theorem b7 (t : Fin cfg0.N) (l : Fin 512) : (iblk m c 7 t : Vec Ideal S1x512 .f32) (ix2 0 l) = (A.a l : EReal) := by
  refine Eq.trans ?_ (H.a l)
  blk_point [iblk, V, idx_val t]
theorem b8 (t : Fin cfg0.N) (l : Fin 512) : (iblk m c 8 t : Vec Ideal S1x512 .f32) (ix2 0 l) = (A.b l : EReal) := by
  refine Eq.trans ?_ (H.b l)
  blk_point [iblk, V, idx_val t]
theorem b9 (t : Fin cfg0.N) (j : Fin 1024) : (iblk m c 9 t : Vec Ideal S1x1024 .f32) (ix2 0 j) = (A.f j : EReal) := by
  refine Eq.trans ?_ (H.f j)
  blk_point [iblk, V, idx_val t]

end Cert.KernelPostIdeal.Value

end
-- ==== Proof.PoRef.lean ====
module

public import proofs.«01_k».proof.Proof.PoKer
public import proofs.«01_k».proof.Proof.PoBase

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals Cert.ReferencePostIdeal.Read

/-! The reference's values, at one entry, as real numbers. -/

variable {A : Inp} {x0 : Vec Ideal Cert.ReferencePostIdeal.S4x2048x128 .f32} {x1 : Vec Ideal Cert.ReferencePostIdeal.S2048x512 .f32}
  {x2 x3 x4 : Vec Ideal Cert.ReferencePostIdeal.S2048x1024 .f32} {x5 : Vec Ideal Cert.ReferencePostIdeal.S1024x1024 .f32}
  {x6 x7 : Vec Ideal Cert.ReferencePostIdeal.S1x512 .f32} {x8 : Vec Ideal Cert.ReferencePostIdeal.S1x1024 .f32}
  (H : Is A x0 x1 x2 x3 x4 x5 x6 x7 x8)
include H

/-! ### The normalised, gated rows of the first branch -/

theorem sin (i : Fin 2048) (g : Fin 8) (k : Fin 64) :
    val_main_v4 (F := Ideal) x0 (ix3 i g k) = ((A.row i).o ⟨64 * g.val + k.val, by omega⟩ : EReal) := by
  refine Eq.trans ?_ (H.o ⟨(64 * g.val + k.val) / 128, by omega⟩ i ⟨(64 * g.val + k.val) % 128, by omega⟩)
  pointwise [val_main_v4, val_main_v1, val_main_v0]
  simp only [Nat.mul_comm g.val 64]

theorem sgain (g : Fin 8) (k : Fin 64) : val_main_v5 (F := Ideal) x6 (ix2 g k) = (A.a ⟨64 * g.val + k.val, by omega⟩ : EReal) := by
  refine Eq.trans ?_ (H.a ⟨64 * g.val + k.val, by omega⟩)
  pointwise [val_main_v5]
  simp only [Nat.mul_comm g.val 64]

theorem su (i : Fin 2048) (g : Fin 8) : val_main_v12 (F := Ideal) x0 (ix3 i g 0) = ((A.row i).us g : EReal) := by
  refine Eq.trans (b := Ideal.div (∑ k : Fin 64, val_main_v4 (F := Ideal) x0 (ix3 i g k) * val_main_v4 (F := Ideal) x0 (ix3 i g k)) (Ideal.ofBits .f32 0x42800000#32)
    + Ideal.ofBits .f32 0x358637BD#32) (by pointwise [val_main_v12, val_main_v11, val_main_v10, val_main_v9, val_main_v8, val_main_v7, val_main_v6, val_main_cst, val_main_cst_0, val_main_cst_1]) ?_
  simp only [sin H, ← EReal.coe_mul]
  rw [coe_sum, w64, eps_word, div_real _ _ (by norm_num), ← EReal.coe_add]
  rfl

theorem sr (i : Fin 2048) (g : Fin 8) : val_main_v13 (F := Ideal) x0 (ix3 i g 0) = ((A.row i).rs g : EReal) := by
  refine Eq.trans (b := Ideal.rsqrt (val_main_v12 (F := Ideal) x0 (ix3 i g 0))) (by pointwise [val_main_v13]) ?_
  rw [su H]
  exact rsqrt_rt ((A.row i).us_pos g)

theorem sc (i : Fin 2048) (g : Fin 8) :
    val_main_v16 (F := Ideal) x0 (ix3 i g 0) = ((-(1 / 2) * (rt ((A.row i).us g) / (A.row i).us g) : ℝ) : EReal) := by
  refine Eq.trans (b := Ideal.ofBits .f32 0xBF000000#32 * Ideal.div (val_main_v13 (F := Ideal) x0 (ix3 i g 0)) (val_main_v12 (F := Ideal) x0 (ix3 i g 0)))
    (by pointwise [val_main_v16, val_main_v15, val_main_v14, val_main_cst_2]) ?_
  rw [sr H, su H, word_neg_half, div_real _ _ ((A.row i).us_pos g).ne', ← EReal.coe_mul]
  rfl

theorem sunit (i : Fin 2048) (g : Fin 8) (k : Fin 64) :
    val_main_v18 (F := Ideal) x0 (ix3 i g k) = (((A.row i).o ⟨64 * g.val + k.val, by omega⟩ * (A.row i).rs g : ℝ) : EReal) := by
  refine Eq.trans (b := val_main_v4 (F := Ideal) x0 (ix3 i g k) * val_main_v13 (F := Ideal) x0 (ix3 i g 0)) (by pointwise [val_main_v18, val_main_v17]) ?_
  rw [sin H, sr H, ← EReal.coe_mul]

theorem sn (i : Fin 2048) (l : Fin 512) : val_main_v22 (F := Ideal) x0 x6 (ix2 i l) = ((A.row i).ns l : EReal) := by
  refine Eq.trans (b := val_main_v18 (F := Ideal) x0 (ix3 i (⟨l.val / 64, by omega⟩ : Fin 8) (⟨l.val % 64, by omega⟩ : Fin 64))
    * val_main_v5 (F := Ideal) x6 (ix2 (⟨l.val / 64, by omega⟩ : Fin 8) (⟨l.val % 64, by omega⟩ : Fin 64))) (by pointwise [val_main_v22, val_main_v21, val_main_v20, val_main_v19]) ?_
  rw [sunit H, sgain H, ← EReal.coe_mul]
  simp only [Nat.div_add_mod]
  rfl

theorem sz (i : Fin 2048) (l : Fin 512) : val_main_v2 (F := Ideal) x2 (ix2 i l) = ((A.row i).zs l : EReal) := by
  refine Eq.trans ?_ (H.z i ⟨l.val, by omega⟩)
  pointwise [val_main_v2]

theorem ssg (i : Fin 2048) (l : Fin 512) : val_main_v23_2 (F := Ideal) x2 (ix2 i l) = (sg ((A.row i).zs l) : EReal) := by
  refine Eq.trans (b := Ideal.div 1 (1 + Ideal.exp (-(val_main_v2 (F := Ideal) x2 (ix2 i l))))) (by pointwise [val_main_v23_2, val_main_call0_v4, val_main_call0_v3, val_main_call0_v2, val_main_call0_v1, val_main_call0_v0, val_main_call0_cst, val_main_call0_cst_0]) ?_
  rw [sz H]
  rw [← zero_sub]
  exact sg_eq _

theorem ssg1 (i : Fin 2048) (l : Fin 512) :
    val_main_v23_1 (F := Ideal) x2 (ix2 i l) = ((sg ((A.row i).zs l) * (1 - sg ((A.row i).zs l)) : ℝ) : EReal) := by
  refine Eq.trans (b := val_main_v23_2 (F := Ideal) x2 (ix2 i l) * (1 - val_main_v23_2 (F := Ideal) x2 (ix2 i l))) (by pointwise [val_main_v23_1, val_main_call0_v7, val_main_call0_v6, val_main_call0_cst_1]) ?_
  rw [ssg H, ← EReal.coe_one, ← EReal.coe_sub, ← EReal.coe_mul]

theorem sact (i : Fin 2048) (l : Fin 512) : val_main_v23_0 (F := Ideal) x2 (ix2 i l) = (act ((A.row i).zs l) : EReal) := by
  refine Eq.trans (b := val_main_v2 (F := Ideal) x2 (ix2 i l) * val_main_v23_2 (F := Ideal) x2 (ix2 i l)) (by pointwise [val_main_v23_0]) ?_
  rw [sz H, ssg H, ← EReal.coe_mul]
  rfl

theorem sm (i : Fin 2048) (l : Fin 512) : val_main_v24 (F := Ideal) x0 x2 x6 (ix2 i l) = ((A.row i).ms l : EReal) := by
  refine Eq.trans (b := val_main_v22 (F := Ideal) x0 x6 (ix2 i l) * val_main_v23_0 (F := Ideal) x2 (ix2 i l)) (by pointwise [val_main_v24]) ?_
  rw [sn H, sact H, ← EReal.coe_mul]
  rfl

/-! ### The normalised, gated rows of the second branch -/

theorem din (i : Fin 2048) (g : Fin 4) (k : Fin 128) :
    val_main_v25 (F := Ideal) x1 (ix3 i g k) = ((A.row i).d ⟨128 * g.val + k.val, by omega⟩ : EReal) := by
  refine Eq.trans ?_ (H.d i ⟨128 * g.val + k.val, by omega⟩)
  pointwise [val_main_v25]
  simp only [Nat.mul_comm g.val 128]

theorem dgain (g : Fin 4) (k : Fin 128) : val_main_v26 (F := Ideal) x7 (ix2 g k) = (A.b ⟨128 * g.val + k.val, by omega⟩ : EReal) := by
  refine Eq.trans ?_ (H.b ⟨128 * g.val + k.val, by omega⟩)
  pointwise [val_main_v26]
  simp only [Nat.mul_comm g.val 128]

theorem du (i : Fin 2048) (g : Fin 4) : val_main_v33 (F := Ideal) x1 (ix3 i g 0) = ((A.row i).ud g : EReal) := by
  refine Eq.trans (b := Ideal.div (∑ k : Fin 128, val_main_v25 (F := Ideal) x1 (ix3 i g k) * val_main_v25 (F := Ideal) x1 (ix3 i g k)) (Ideal.ofBits .f32 0x43000000#32)
    + Ideal.ofBits .f32 0x358637BD#32) (by pointwise [val_main_v33, val_main_v32, val_main_v31, val_main_v30, val_main_v29, val_main_v28, val_main_v27, val_main_cst_3, val_main_cst_4, val_main_cst_5]) ?_
  simp only [din H, ← EReal.coe_mul]
  rw [coe_sum, w128, eps_word, div_real _ _ (by norm_num), ← EReal.coe_add]
  rfl

theorem dr (i : Fin 2048) (g : Fin 4) : val_main_v34 (F := Ideal) x1 (ix3 i g 0) = ((A.row i).rd g : EReal) := by
  refine Eq.trans (b := Ideal.rsqrt (val_main_v33 (F := Ideal) x1 (ix3 i g 0))) (by pointwise [val_main_v34]) ?_
  rw [du H]
  exact rsqrt_rt ((A.row i).ud_pos g)

theorem dc (i : Fin 2048) (g : Fin 4) :
    val_main_v37 (F := Ideal) x1 (ix3 i g 0) = ((-(1 / 2) * (rt ((A.row i).ud g) / (A.row i).ud g) : ℝ) : EReal) := by
  refine Eq.trans (b := Ideal.ofBits .f32 0xBF000000#32 * Ideal.div (val_main_v34 (F := Ideal) x1 (ix3 i g 0)) (val_main_v33 (F := Ideal) x1 (ix3 i g 0)))
    (by pointwise [val_main_v37, val_main_v36, val_main_v35, val_main_cst_6]) ?_
  rw [dr H, du H, word_neg_half, div_real _ _ ((A.row i).ud_pos g).ne', ← EReal.coe_mul]
  rfl

theorem dunit (i : Fin 2048) (g : Fin 4) (k : Fin 128) :
    val_main_v39 (F := Ideal) x1 (ix3 i g k) = (((A.row i).d ⟨128 * g.val + k.val, by omega⟩ * (A.row i).rd g : ℝ) : EReal) := by
  refine Eq.trans (b := val_main_v25 (F := Ideal) x1 (ix3 i g k) * val_main_v34 (F := Ideal) x1 (ix3 i g 0)) (by pointwise [val_main_v39, val_main_v38]) ?_
  rw [din H, dr H, ← EReal.coe_mul]

theorem dn (i : Fin 2048) (l : Fin 512) : val_main_v43 (F := Ideal) x1 x7 (ix2 i l) = ((A.row i).nd l : EReal) := by
  refine Eq.trans (b := val_main_v39 (F := Ideal) x1 (ix3 i (⟨l.val / 128, by omega⟩ : Fin 4) (⟨l.val % 128, by omega⟩ : Fin 128))
    * val_main_v26 (F := Ideal) x7 (ix2 (⟨l.val / 128, by omega⟩ : Fin 4) (⟨l.val % 128, by omega⟩ : Fin 128))) (by pointwise [val_main_v43, val_main_v42, val_main_v41, val_main_v40]) ?_
  rw [dunit H, dgain H, ← EReal.coe_mul]
  simp only [Nat.div_add_mod]
  rfl

theorem dz (i : Fin 2048) (l : Fin 512) : val_main_v3 (F := Ideal) x2 (ix2 i l) = ((A.row i).zg l : EReal) := by
  refine Eq.trans ?_ (H.z i ⟨512 + l.val, by omega⟩)
  pointwise [val_main_v3]

theorem dsg (i : Fin 2048) (l : Fin 512) : val_main_v44_2 (F := Ideal) x2 (ix2 i l) = (sg ((A.row i).zg l) : EReal) := by
  refine Eq.trans (b := Ideal.div 1 (1 + Ideal.exp (-(val_main_v3 (F := Ideal) x2 (ix2 i l))))) (by pointwise [val_main_v44_2, val_main_call1_v4, val_main_call1_v3, val_main_call1_v2, val_main_call1_v1, val_main_call1_v0, val_main_call1_cst, val_main_call1_cst_0]) ?_
  rw [dz H]
  rw [← zero_sub]
  exact sg_eq _

theorem dsg1 (i : Fin 2048) (l : Fin 512) :
    val_main_v44_1 (F := Ideal) x2 (ix2 i l) = ((sg ((A.row i).zg l) * (1 - sg ((A.row i).zg l)) : ℝ) : EReal) := by
  refine Eq.trans (b := val_main_v44_2 (F := Ideal) x2 (ix2 i l) * (1 - val_main_v44_2 (F := Ideal) x2 (ix2 i l))) (by pointwise [val_main_v44_1, val_main_call1_v7, val_main_call1_v6, val_main_call1_cst_1]) ?_
  rw [dsg H, ← EReal.coe_one, ← EReal.coe_sub, ← EReal.coe_mul]

theorem dact (i : Fin 2048) (l : Fin 512) : val_main_v44_0 (F := Ideal) x2 (ix2 i l) = (act ((A.row i).zg l) : EReal) := by
  refine Eq.trans (b := val_main_v3 (F := Ideal) x2 (ix2 i l) * val_main_v44_2 (F := Ideal) x2 (ix2 i l)) (by pointwise [val_main_v44_0]) ?_
  rw [dz H, dsg H, ← EReal.coe_mul]
  rfl

theorem dm (i : Fin 2048) (l : Fin 512) : val_main_v45 (F := Ideal) x1 x2 x7 (ix2 i l) = ((A.row i).md l : EReal) := by
  refine Eq.trans (b := val_main_v43 (F := Ideal) x1 x7 (ix2 i l) * val_main_v44_0 (F := Ideal) x2 (ix2 i l)) (by pointwise [val_main_v45]) ?_
  rw [dn H, dact H, ← EReal.coe_mul]
  rfl

end Cert.KernelPostIdeal.Value

end
-- ==== Proof.PoRef2.lean ====
module

public import proofs.«01_k».proof.Proof.PoRef

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals Cert.ReferencePostIdeal.Read

/-! The reference's values, at one entry, as real numbers. -/

variable {A : Inp} {x0 : Vec Ideal Cert.ReferencePostIdeal.S4x2048x128 .f32} {x1 : Vec Ideal Cert.ReferencePostIdeal.S2048x512 .f32}
  {x2 x3 x4 : Vec Ideal Cert.ReferencePostIdeal.S2048x1024 .f32} {x5 : Vec Ideal Cert.ReferencePostIdeal.S1024x1024 .f32}
  {x6 x7 : Vec Ideal Cert.ReferencePostIdeal.S1x512 .f32} {x8 : Vec Ideal Cert.ReferencePostIdeal.S1x1024 .f32}
  (H : Is A x0 x1 x2 x3 x4 x5 x6 x7 x8)
include H

/-! ### The residual rows, the loss, and the gradients that follow from it -/

theorem rmix (i : Fin 2048) (j : Fin 1024) : val_main_v46 (F := Ideal) x0 x1 x2 x6 x7 (ix2 i j) = ((A.row i).mix j : EReal) := by
  refine Eq.trans (b := if _h : j.val < 512 then val_main_v24 (F := Ideal) x0 x2 x6 (ix2 i (⟨j.val, _h⟩ : Fin 512))
    else val_main_v45 (F := Ideal) x1 x2 x7 (ix2 i (⟨j.val - 512, by omega⟩ : Fin 512))) (by pointwise [val_main_v46]) ?_
  unfold Row.mix
  split
  · exact sm H _ _
  · exact dm H _ _

theorem rx2 (i : Fin 2048) (j : Fin 1024) : val_main_v48 (F := Ideal) x0 x1 x2 x3 x5 x6 x7 (ix2 i j) = ((A.row i).x2 j : EReal) := by
  refine Eq.trans (b := x3 (ix2 i j) + ∑ l : Fin 1024, val_main_v46 (F := Ideal) x0 x1 x2 x6 x7 (ix2 i l) * x5 (ix2 l j)) (by pointwise [val_main_v48, val_main_v47]) ?_
  simp only [rmix H, H.x, H.w, ← EReal.coe_mul]
  rw [coe_sum, ← EReal.coe_add]
  rfl

theorem ru2 (i : Fin 2048) : val_main_v55 (F := Ideal) x0 x1 x2 x3 x5 x6 x7 (ix2 i 0) = ((A.row i).u2 : EReal) := by
  refine Eq.trans (b := Ideal.div (∑ j : Fin 1024, val_main_v48 (F := Ideal) x0 x1 x2 x3 x5 x6 x7 (ix2 i j) * val_main_v48 (F := Ideal) x0 x1 x2 x3 x5 x6 x7 (ix2 i j))
    (Ideal.ofBits .f32 0x44800000#32) + Ideal.ofBits .f32 0x358637BD#32) (by pointwise [val_main_v55, val_main_v54, val_main_v53, val_main_v52, val_main_v51, val_main_v50, val_main_v49, val_main_cst_7, val_main_cst_8, val_main_cst_9]) ?_
  simp only [rx2 H, ← EReal.coe_mul]
  rw [coe_sum, word_1024, eps_word, div_real _ _ (by norm_num), ← EReal.coe_add]
  rfl

theorem rr2 (i : Fin 2048) : val_main_v56 (F := Ideal) x0 x1 x2 x3 x5 x6 x7 (ix2 i 0) = ((A.row i).r2 : EReal) := by
  refine Eq.trans (b := Ideal.rsqrt (val_main_v55 (F := Ideal) x0 x1 x2 x3 x5 x6 x7 (ix2 i 0))) (by pointwise [val_main_v56]) ?_
  rw [ru2 H]
  exact rsqrt_rt (A.row i).u2_pos

theorem rc2 (i : Fin 2048) :
    val_main_v59 (F := Ideal) x0 x1 x2 x3 x5 x6 x7 (ix2 i 0) = ((-(1 / 2) * (rt (A.row i).u2 / (A.row i).u2) : ℝ) : EReal) := by
  refine Eq.trans (b := Ideal.ofBits .f32 0xBF000000#32 * Ideal.div (val_main_v56 (F := Ideal) x0 x1 x2 x3 x5 x6 x7 (ix2 i 0))
    (val_main_v55 (F := Ideal) x0 x1 x2 x3 x5 x6 x7 (ix2 i 0))) (by pointwise [val_main_v59, val_main_v58, val_main_v57, val_main_cst_10]) ?_
  rw [rr2 H, ru2 H, word_neg_half, div_real _ _ (A.row i).u2_pos.ne', ← EReal.coe_mul]
  rfl

theorem runit (i : Fin 2048) (j : Fin 1024) :
    val_main_v61 (F := Ideal) x0 x1 x2 x3 x5 x6 x7 (ix2 i j) = (((A.row i).x2 j * (A.row i).r2 : ℝ) : EReal) := by
  refine Eq.trans (b := val_main_v48 (F := Ideal) x0 x1 x2 x3 x5 x6 x7 (ix2 i j) * val_main_v56 (F := Ideal) x0 x1 x2 x3 x5 x6 x7 (ix2 i 0))
    (by pointwise [val_main_v61, val_main_v60]) ?_
  rw [rx2 H, rr2 H, ← EReal.coe_mul]

theorem rerr (i : Fin 2048) (j : Fin 1024) : val_main_v64 (F := Ideal) x0 x1 x2 x3 x4 x5 x6 x7 x8 (ix2 i j) = ((A.row i).err j : EReal) := by
  refine Eq.trans (b := val_main_v61 (F := Ideal) x0 x1 x2 x3 x5 x6 x7 (ix2 i j) * x8 (ix2 0 j) - x4 (ix2 i j))
    (by pointwise [val_main_v64, val_main_v63, val_main_v62]) ?_
  rw [runit H, H.f, H.t, ← EReal.coe_mul, ← EReal.coe_sub]
  rfl

theorem rloss (k : Fin 128) : val_main_v161 (F := Ideal) x0 x1 x2 x3 x4 x5 x6 x7 x8 (ix2 0 k) = ((1 / 2 * ∑ i, (A.row i).le : ℝ) : EReal) := by
  refine Eq.trans (b := Ideal.ofBits .f32 0x3F000000#32 * ∑ i : Fin 2048, Ideal.div (∑ j : Fin 1024, val_main_v64 (F := Ideal) x0 x1 x2 x3 x4 x5 x6 x7 x8 (ix2 i j)
    * val_main_v64 (F := Ideal) x0 x1 x2 x3 x4 x5 x6 x7 x8 (ix2 i j)) (Ideal.ofBits .f32 0x44800000#32))
    (by pointwise [val_main_v161, val_main_v72, val_main_v71, val_main_v70, val_main_v69, val_main_v68, val_main_v65, val_main_cst_12, val_main_cst_13, val_main_cst_14, val_main_cst_15]) ?_
  simp only [rerr H, ← EReal.coe_mul, coe_sum]
  simp only [word_1024, wh, div_real _ _ (by norm_num : (1024 : ℝ) ≠ 0), coe_sum]
  rw [← EReal.coe_mul]
  rfl

theorem rdy (i : Fin 2048) (j : Fin 1024) : val_main_v78 (F := Ideal) x0 x1 x2 x3 x4 x5 x6 x7 x8 (ix2 i j) = ((A.row i).dy j : EReal) := by
  refine Eq.trans (b := Ideal.div (Ideal.ofBits .f32 0x3F000000#32 * 1) (Ideal.ofBits .f32 0x44800000#32)
    * (Ideal.ofBits .f32 0x40000000#32 * val_main_v64 (F := Ideal) x0 x1 x2 x3 x4 x5 x6 x7 x8 (ix2 i j)))
    (by pointwise [val_main_v78, val_main_v77, val_main_v76, val_main_v75, val_main_v74, val_main_v73, val_main_v67, val_main_v66, val_main_cst_16, val_main_cst_17, val_main_cst_18, val_main_cst_11]) ?_
  rw [rerr H, wh, w2, word_1024, mul_one, div_real _ _ (by norm_num), ← EReal.coe_mul, ← EReal.coe_mul]
  refine congrArg _ ?_
  unfold Row.dy
  ring

theorem rgf (j : Fin 1024) : val_main_v81 (F := Ideal) x0 x1 x2 x3 x4 x5 x6 x7 x8 (ix2 0 j) = ((∑ i, (A.row i).gf j : ℝ) : EReal) := by
  refine Eq.trans (b := ∑ i : Fin 2048, val_main_v61 (F := Ideal) x0 x1 x2 x3 x5 x6 x7 (ix2 i j) * val_main_v78 (F := Ideal) x0 x1 x2 x3 x4 x5 x6 x7 x8 (ix2 i j))
    (by pointwise [val_main_v81, val_main_v80, val_main_v79, val_main_cst_19]) ?_
  simp only [runit H, rdy H, ← EReal.coe_mul, coe_sum]
  refine congrArg _ (Finset.sum_congr rfl fun i _ => ?_)
  unfold Row.gf
  ring

theorem rdu (i : Fin 2048) (j : Fin 1024) :
    val_main_v83 (F := Ideal) x0 x1 x2 x3 x4 x5 x6 x7 x8 (ix2 i j) = (((A.row i).dy j * (A.row i).f j : ℝ) : EReal) := by
  refine Eq.trans (b := val_main_v78 (F := Ideal) x0 x1 x2 x3 x4 x5 x6 x7 x8 (ix2 i j) * x8 (ix2 0 j)) (by pointwise [val_main_v83, val_main_v82]) ?_
  rw [rdy H, H.f, ← EReal.coe_mul]
  rfl

theorem rsx (i : Fin 2048) :
    val_main_v92 (F := Ideal) x0 x1 x2 x3 x4 x5 x6 x7 x8 (ix1 i) = (((A.row i).sx * (-(1 / 2) * (rt (A.row i).u2 / (A.row i).u2)) / 1024 : ℝ) : EReal) := by
  refine Eq.trans (b := Ideal.div ((∑ j : Fin 1024, val_main_v48 (F := Ideal) x0 x1 x2 x3 x5 x6 x7 (ix2 i j) * val_main_v83 (F := Ideal) x0 x1 x2 x3 x4 x5 x6 x7 x8 (ix2 i j))
    * val_main_v59 (F := Ideal) x0 x1 x2 x3 x5 x6 x7 (ix2 i 0)) (Ideal.ofBits .f32 0x44800000#32))
    (by pointwise [val_main_v92, val_main_v91, val_main_v90, val_main_v89, val_main_v86, val_main_v85, val_main_v84, val_main_cst_20, val_main_cst_21, val_main_cst_22]; simp only [Fin.sum_univ_one]) ?_
  simp only [rx2 H, rdu H, rc2 H, ← EReal.coe_mul, coe_sum]
  rw [word_1024, div_real _ _ (by norm_num)]
  refine congrArg _ (congrArg (fun s : ℝ => s * _ / 1024) (Finset.sum_congr rfl fun j _ => ?_))
  ring

theorem rdx (i : Fin 2048) (j : Fin 1024) : val_main_v97 (F := Ideal) x0 x1 x2 x3 x4 x5 x6 x7 x8 (ix2 i j) = ((A.row i).dx j : EReal) := by
  refine Eq.trans (b := (val_main_v83 (F := Ideal) x0 x1 x2 x3 x4 x5 x6 x7 x8 (ix2 i j) * val_main_v56 (F := Ideal) x0 x1 x2 x3 x5 x6 x7 (ix2 i 0)
    + val_main_v48 (F := Ideal) x0 x1 x2 x3 x5 x6 x7 (ix2 i j) * val_main_v92 (F := Ideal) x0 x1 x2 x3 x4 x5 x6 x7 x8 (ix1 i))
    + val_main_v92 (F := Ideal) x0 x1 x2 x3 x4 x5 x6 x7 x8 (ix1 i) * val_main_v48 (F := Ideal) x0 x1 x2 x3 x5 x6 x7 (ix2 i j))
    (by pointwise [val_main_v97, val_main_v96, val_main_v95, val_main_v94, val_main_v93, val_main_v88, val_main_v87]) ?_
  rw [rdu H, rr2 H, rx2 H, rsx H]
  simp only [← EReal.coe_mul, ← EReal.coe_add]
  rw [norm_form (A.row i).u2_pos]
  refine congrArg _ ?_
  unfold Row.dx Row.r2
  ring

theorem rdm (i : Fin 2048) (l : Fin 1024) : val_main_v100 (F := Ideal) x0 x1 x2 x3 x4 x5 x6 x7 x8 (ix2 i l) = ((A.row i).dm l : EReal) := by
  refine Eq.trans (b := ∑ j : Fin 1024, val_main_v97 (F := Ideal) x0 x1 x2 x3 x4 x5 x6 x7 x8 (ix2 i j) * x5 (ix2 l j)) (by pointwise [val_main_v100]) ?_
  simp only [rdx H, H.w, ← EReal.coe_mul, coe_sum]
  rfl

theorem rgw (l j : Fin 1024) : val_main_v99 (F := Ideal) x0 x1 x2 x3 x4 x5 x6 x7 x8 (ix2 l j) = ((∑ i, (A.row i).gw l j : ℝ) : EReal) := by
  refine Eq.trans (b := ∑ i : Fin 2048, val_main_v97 (F := Ideal) x0 x1 x2 x3 x4 x5 x6 x7 x8 (ix2 i j) * val_main_v46 (F := Ideal) x0 x1 x2 x6 x7 (ix2 i l))
    (by pointwise [val_main_v99, val_main_v98]) ?_
  simp only [rdx H, rmix H, ← EReal.coe_mul, coe_sum]
  refine congrArg _ (Finset.sum_congr rfl fun i _ => ?_)
  unfold Row.gw
  ring

theorem res (i : Fin 2048) (l : Fin 512) : val_main_v101 (F := Ideal) x0 x1 x2 x3 x4 x5 x6 x7 x8 (ix2 i l) = ((A.row i).es l : EReal) := by
  refine Eq.trans (b := val_main_v100 (F := Ideal) x0 x1 x2 x3 x4 x5 x6 x7 x8 (ix2 i (⟨l.val, by omega⟩ : Fin 1024))) (by pointwise [val_main_v101]) ?_
  rw [rdm H]
  rfl

theorem red (i : Fin 2048) (l : Fin 512) : val_main_v102 (F := Ideal) x0 x1 x2 x3 x4 x5 x6 x7 x8 (ix2 i l) = ((A.row i).ed l : EReal) := by
  refine Eq.trans (b := val_main_v100 (F := Ideal) x0 x1 x2 x3 x4 x5 x6 x7 x8 (ix2 i (⟨512 + l.val, by omega⟩ : Fin 1024))) (by pointwise [val_main_v102]) ?_
  rw [rdm H]
  rfl

end Cert.KernelPostIdeal.Value

end
-- ==== Proof.PoRef3.lean ====
module

public import proofs.«01_k».proof.Proof.PoRef2

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals Cert.ReferencePostIdeal.Read

/-! The reference's values, at one entry, as real numbers. -/

variable {A : Inp} {x0 : Vec Ideal Cert.ReferencePostIdeal.S4x2048x128 .f32} {x1 : Vec Ideal Cert.ReferencePostIdeal.S2048x512 .f32}
  {x2 x3 x4 : Vec Ideal Cert.ReferencePostIdeal.S2048x1024 .f32} {x5 : Vec Ideal Cert.ReferencePostIdeal.S1024x1024 .f32}
  {x6 x7 : Vec Ideal Cert.ReferencePostIdeal.S1x512 .f32} {x8 : Vec Ideal Cert.ReferencePostIdeal.S1x1024 .f32}
  (H : Is A x0 x1 x2 x3 x4 x5 x6 x7 x8)
include H

/-! ### The gradients of the first branch -/

theorem sdz (i : Fin 2048) (l : Fin 512) : val_main_v131 (F := Ideal) x0 x1 x2 x3 x4 x5 x6 x7 x8 (ix2 i l) = ((A.row i).dzs l : EReal) := by
  refine Eq.trans (b := val_main_v22 (F := Ideal) x0 x6 (ix2 i l) * val_main_v101 (F := Ideal) x0 x1 x2 x3 x4 x5 x6 x7 x8 (ix2 i l) * val_main_v23_2 (F := Ideal) x2 (ix2 i l)
    + val_main_v2 (F := Ideal) x2 (ix2 i l) * (val_main_v22 (F := Ideal) x0 x6 (ix2 i l) * val_main_v101 (F := Ideal) x0 x1 x2 x3 x4 x5 x6 x7 x8 (ix2 i l))
      * val_main_v23_1 (F := Ideal) x2 (ix2 i l)) (by pointwise [val_main_v131, val_main_call3_v2, val_main_call3_v1, val_main_call3_v0, val_main_v129]) ?_
  rw [sn H, res H, ssg H, sz H, ssg1 H]
  simp only [← EReal.coe_mul, ← EReal.coe_add]
  refine congrArg _ ?_
  unfold Row.dzs Cert.Post.dact
  ring

theorem sdn (i : Fin 2048) (l : Fin 512) : val_main_v130 (F := Ideal) x0 x1 x2 x3 x4 x5 x6 x7 x8 (ix2 i l) = ((A.row i).dns l : EReal) := by
  refine Eq.trans (b := val_main_v101 (F := Ideal) x0 x1 x2 x3 x4 x5 x6 x7 x8 (ix2 i l) * val_main_v23_0 (F := Ideal) x2 (ix2 i l)) (by pointwise [val_main_v130]) ?_
  rw [res H, sact H, ← EReal.coe_mul]
  rfl

theorem sdg (i : Fin 2048) (g : Fin 8) (k : Fin 64) :
    val_main_v132 (F := Ideal) x0 x1 x2 x3 x4 x5 x6 x7 x8 (ix3 i g k) = ((A.row i).dns ⟨64 * g.val + k.val, by omega⟩ : EReal) := by
  refine Eq.trans ?_ (sdn H i ⟨64 * g.val + k.val, by omega⟩)
  pointwise [val_main_v132]
  simp only [Nat.mul_comm g.val 64]

theorem sgg (l : Fin 512) : val_main_v153 (F := Ideal) x0 x1 x2 x3 x4 x5 x6 x7 x8 (ix2 0 l) = ((∑ i, (A.row i).gs l : ℝ) : EReal) := by
  refine Eq.trans (b := ∑ i : Fin 2048, val_main_v18 (F := Ideal) x0 (ix3 i (⟨l.val / 64, by omega⟩ : Fin 8) (⟨l.val % 64, by omega⟩ : Fin 64))
    * val_main_v132 (F := Ideal) x0 x1 x2 x3 x4 x5 x6 x7 x8 (ix3 i (⟨l.val / 64, by omega⟩ : Fin 8) (⟨l.val % 64, by omega⟩ : Fin 64)))
    (by pointwise [val_main_v153, val_main_v138, val_main_v135, val_main_v134, val_main_v133, val_main_cst_28, val_main_cst_29]; simp only [Fin.sum_univ_one]) ?_
  simp only [sunit H, sdg H, ← EReal.coe_mul, coe_sum, Nat.div_add_mod]
  refine congrArg _ (Finset.sum_congr rfl fun i _ => ?_)
  unfold Row.gs
  ring

theorem sdw (i : Fin 2048) (g : Fin 8) (k : Fin 64) : val_main_v137 (F := Ideal) x0 x1 x2 x3 x4 x5 x6 x7 x8 (ix3 i g k)
    = (((A.row i).dns ⟨64 * g.val + k.val, by omega⟩ * (A.row i).a ⟨64 * g.val + k.val, by omega⟩ : ℝ) : EReal) := by
  refine Eq.trans (b := val_main_v132 (F := Ideal) x0 x1 x2 x3 x4 x5 x6 x7 x8 (ix3 i g k) * val_main_v5 (F := Ideal) x6 (ix2 g k)) (by pointwise [val_main_v137, val_main_v136, val_main_v19]) ?_
  rw [sdg H, sgain H, ← EReal.coe_mul]
  rfl

theorem ssum (i : Fin 2048) (g : Fin 8) : val_main_v147 (F := Ideal) x0 x1 x2 x3 x4 x5 x6 x7 x8 (ix2 i g)
    = (((A.row i).ss g * (-(1 / 2) * (rt ((A.row i).us g) / (A.row i).us g)) / 64 : ℝ) : EReal) := by
  refine Eq.trans (b := Ideal.div ((∑ k : Fin 64, val_main_v4 (F := Ideal) x0 (ix3 i g k) * val_main_v137 (F := Ideal) x0 x1 x2 x3 x4 x5 x6 x7 x8 (ix3 i g k))
    * val_main_v16 (F := Ideal) x0 (ix3 i g 0)) (Ideal.ofBits .f32 0x42800000#32))
    (by pointwise [val_main_v147, val_main_v146, val_main_v145, val_main_v144, val_main_v141, val_main_v140, val_main_v139, val_main_cst_30, val_main_cst_31, val_main_cst_32]; simp only [Fin.sum_univ_one]) ?_
  simp only [sin H, sdw H, sc H, ← EReal.coe_mul, coe_sum]
  rw [w64, div_real _ _ (by norm_num)]
  refine congrArg _ (congrArg (fun s : ℝ => s * _ / 64) ?_)
  unfold Row.ss g64
  exact Finset.sum_congr rfl fun j _ => by ring

theorem sdo (i : Fin 2048) (l : Fin 512) : val_main_v154 (F := Ideal) x0 x1 x2 x3 x4 x5 x6 x7 x8 (ix2 i l) = ((A.row i).dos l : EReal) := by
  refine Eq.trans (b := val_main_v152 (F := Ideal) x0 x1 x2 x3 x4 x5 x6 x7 x8 (ix3 i (⟨l.val / 64, by omega⟩ : Fin 8) (⟨l.val % 64, by omega⟩ : Fin 64))) (by pointwise [val_main_v154]) ?_
  refine Eq.trans (b := (val_main_v137 (F := Ideal) x0 x1 x2 x3 x4 x5 x6 x7 x8 (ix3 i (⟨l.val / 64, by omega⟩ : Fin 8) (⟨l.val % 64, by omega⟩ : Fin 64))
      * val_main_v13 (F := Ideal) x0 (ix3 i (⟨l.val / 64, by omega⟩ : Fin 8) 0)
    + val_main_v4 (F := Ideal) x0 (ix3 i (⟨l.val / 64, by omega⟩ : Fin 8) (⟨l.val % 64, by omega⟩ : Fin 64))
      * val_main_v147 (F := Ideal) x0 x1 x2 x3 x4 x5 x6 x7 x8 (ix2 i (⟨l.val / 64, by omega⟩ : Fin 8)))
    + val_main_v147 (F := Ideal) x0 x1 x2 x3 x4 x5 x6 x7 x8 (ix2 i (⟨l.val / 64, by omega⟩ : Fin 8))
      * val_main_v4 (F := Ideal) x0 (ix3 i (⟨l.val / 64, by omega⟩ : Fin 8) (⟨l.val % 64, by omega⟩ : Fin 64)))
    (by pointwise [val_main_v152, val_main_v151, val_main_v150, val_main_v149, val_main_v148, val_main_v143, val_main_v142]) ?_
  rw [sdw H, sr H, sin H, ssum H]
  simp only [← EReal.coe_mul, ← EReal.coe_add]
  rw [norm_form ((A.row i).us_pos _)]
  simp only [Nat.div_add_mod]
  refine congrArg _ ?_
  unfold Row.dos Row.rs
  ring

/-! ### The gradients of the second branch -/

theorem ddz (i : Fin 2048) (l : Fin 512) : val_main_v105 (F := Ideal) x0 x1 x2 x3 x4 x5 x6 x7 x8 (ix2 i l) = ((A.row i).dzg l : EReal) := by
  refine Eq.trans (b := val_main_v43 (F := Ideal) x1 x7 (ix2 i l) * val_main_v102 (F := Ideal) x0 x1 x2 x3 x4 x5 x6 x7 x8 (ix2 i l) * val_main_v44_2 (F := Ideal) x2 (ix2 i l)
    + val_main_v3 (F := Ideal) x2 (ix2 i l) * (val_main_v43 (F := Ideal) x1 x7 (ix2 i l) * val_main_v102 (F := Ideal) x0 x1 x2 x3 x4 x5 x6 x7 x8 (ix2 i l))
      * val_main_v44_1 (F := Ideal) x2 (ix2 i l)) (by pointwise [val_main_v105, val_main_call2_v2, val_main_call2_v1, val_main_call2_v0, val_main_v103]) ?_
  rw [dn H, red H, dsg H, dz H, dsg1 H]
  simp only [← EReal.coe_mul, ← EReal.coe_add]
  refine congrArg _ ?_
  unfold Row.dzg Cert.Post.dact
  ring

theorem ddn (i : Fin 2048) (l : Fin 512) : val_main_v104 (F := Ideal) x0 x1 x2 x3 x4 x5 x6 x7 x8 (ix2 i l) = ((A.row i).dnd l : EReal) := by
  refine Eq.trans (b := val_main_v102 (F := Ideal) x0 x1 x2 x3 x4 x5 x6 x7 x8 (ix2 i l) * val_main_v44_0 (F := Ideal) x2 (ix2 i l)) (by pointwise [val_main_v104]) ?_
  rw [red H, dact H, ← EReal.coe_mul]
  rfl

theorem ddg (i : Fin 2048) (g : Fin 4) (k : Fin 128) :
    val_main_v106 (F := Ideal) x0 x1 x2 x3 x4 x5 x6 x7 x8 (ix3 i g k) = ((A.row i).dnd ⟨128 * g.val + k.val, by omega⟩ : EReal) := by
  refine Eq.trans ?_ (ddn H i ⟨128 * g.val + k.val, by omega⟩)
  pointwise [val_main_v106]
  simp only [Nat.mul_comm g.val 128]

theorem dgg (l : Fin 512) : val_main_v127 (F := Ideal) x0 x1 x2 x3 x4 x5 x6 x7 x8 (ix2 0 l) = ((∑ i, (A.row i).gd l : ℝ) : EReal) := by
  refine Eq.trans (b := ∑ i : Fin 2048, val_main_v39 (F := Ideal) x1 (ix3 i (⟨l.val / 128, by omega⟩ : Fin 4) (⟨l.val % 128, by omega⟩ : Fin 128))
    * val_main_v106 (F := Ideal) x0 x1 x2 x3 x4 x5 x6 x7 x8 (ix3 i (⟨l.val / 128, by omega⟩ : Fin 4) (⟨l.val % 128, by omega⟩ : Fin 128)))
    (by pointwise [val_main_v127, val_main_v112, val_main_v109, val_main_v108, val_main_v107, val_main_cst_23, val_main_cst_24]; simp only [Fin.sum_univ_one]) ?_
  simp only [dunit H, ddg H, ← EReal.coe_mul, coe_sum, Nat.div_add_mod]
  refine congrArg _ (Finset.sum_congr rfl fun i _ => ?_)
  unfold Row.gd
  ring

theorem ddw (i : Fin 2048) (g : Fin 4) (k : Fin 128) : val_main_v111 (F := Ideal) x0 x1 x2 x3 x4 x5 x6 x7 x8 (ix3 i g k)
    = (((A.row i).dnd ⟨128 * g.val + k.val, by omega⟩ * (A.row i).b ⟨128 * g.val + k.val, by omega⟩ : ℝ) : EReal) := by
  refine Eq.trans (b := val_main_v106 (F := Ideal) x0 x1 x2 x3 x4 x5 x6 x7 x8 (ix3 i g k) * val_main_v26 (F := Ideal) x7 (ix2 g k)) (by pointwise [val_main_v111, val_main_v110, val_main_v40]) ?_
  rw [ddg H, dgain H, ← EReal.coe_mul]
  rfl

theorem dsum (i : Fin 2048) (g : Fin 4) : val_main_v121 (F := Ideal) x0 x1 x2 x3 x4 x5 x6 x7 x8 (ix2 i g)
    = (((A.row i).sd g * (-(1 / 2) * (rt ((A.row i).ud g) / (A.row i).ud g)) / 128 : ℝ) : EReal) := by
  refine Eq.trans (b := Ideal.div ((∑ k : Fin 128, val_main_v25 (F := Ideal) x1 (ix3 i g k) * val_main_v111 (F := Ideal) x0 x1 x2 x3 x4 x5 x6 x7 x8 (ix3 i g k))
    * val_main_v37 (F := Ideal) x1 (ix3 i g 0)) (Ideal.ofBits .f32 0x43000000#32))
    (by pointwise [val_main_v121, val_main_v120, val_main_v119, val_main_v118, val_main_v115, val_main_v114, val_main_v113, val_main_cst_25, val_main_cst_26, val_main_cst_27]; simp only [Fin.sum_univ_one]) ?_
  simp only [din H, ddw H, dc H, ← EReal.coe_mul, coe_sum]
  rw [w128, div_real _ _ (by norm_num)]
  refine congrArg _ (congrArg (fun s : ℝ => s * _ / 128) ?_)
  unfold Row.sd g128
  exact Finset.sum_congr rfl fun j _ => by ring

theorem ddo (i : Fin 2048) (l : Fin 512) : val_main_v128 (F := Ideal) x0 x1 x2 x3 x4 x5 x6 x7 x8 (ix2 i l) = ((A.row i).dod l : EReal) := by
  refine Eq.trans (b := val_main_v126 (F := Ideal) x0 x1 x2 x3 x4 x5 x6 x7 x8 (ix3 i (⟨l.val / 128, by omega⟩ : Fin 4) (⟨l.val % 128, by omega⟩ : Fin 128))) (by pointwise [val_main_v128]) ?_
  refine Eq.trans (b := (val_main_v111 (F := Ideal) x0 x1 x2 x3 x4 x5 x6 x7 x8 (ix3 i (⟨l.val / 128, by omega⟩ : Fin 4) (⟨l.val % 128, by omega⟩ : Fin 128))
      * val_main_v34 (F := Ideal) x1 (ix3 i (⟨l.val / 128, by omega⟩ : Fin 4) 0)
    + val_main_v25 (F := Ideal) x1 (ix3 i (⟨l.val / 128, by omega⟩ : Fin 4) (⟨l.val % 128, by omega⟩ : Fin 128))
      * val_main_v121 (F := Ideal) x0 x1 x2 x3 x4 x5 x6 x7 x8 (ix2 i (⟨l.val / 128, by omega⟩ : Fin 4)))
    + val_main_v121 (F := Ideal) x0 x1 x2 x3 x4 x5 x6 x7 x8 (ix2 i (⟨l.val / 128, by omega⟩ : Fin 4))
      * val_main_v25 (F := Ideal) x1 (ix3 i (⟨l.val / 128, by omega⟩ : Fin 4) (⟨l.val % 128, by omega⟩ : Fin 128)))
    (by pointwise [val_main_v126, val_main_v125, val_main_v124, val_main_v123, val_main_v122, val_main_v117, val_main_v116]) ?_
  rw [ddw H, dr H, din H, dsum H]
  simp only [← EReal.coe_mul, ← EReal.coe_add]
  rw [norm_form ((A.row i).ud_pos _)]
  simp only [Nat.div_add_mod]
  refine congrArg _ ?_
  unfold Row.dod Row.rd
  ring

theorem rdos (h : Fin 4) (i : Fin 2048) (k : Fin 128) :
    val_main_v160 (F := Ideal) x0 x1 x2 x3 x4 x5 x6 x7 x8 (ix3 h i k) = ((A.row i).dos ⟨128 * h.val + k.val, by omega⟩ : EReal) := by
  refine Eq.trans ?_ (sdo H i ⟨128 * h.val + k.val, by omega⟩)
  pointwise [val_main_v160, val_main_v159]
  simp only [Nat.mul_comm h.val 128]

theorem rz6 (i : Fin 2048) (l : Fin 512) :
    val_main_v158 (F := Ideal) x0 x1 x2 x3 x4 x5 x6 x7 x8 (ix3 6 i l) = ((A.row i).dzs l : EReal) := by
  refine Eq.trans ?_ (sdz H i l)
  pointwise [val_main_v158, val_main_v157, val_main_v156, val_main_v155]

theorem rz7 (i : Fin 2048) (l : Fin 512) :
    val_main_v158 (F := Ideal) x0 x1 x2 x3 x4 x5 x6 x7 x8 (ix3 7 i l) = ((A.row i).dzg l : EReal) := by
  refine Eq.trans ?_ (ddz H i l)
  pointwise [val_main_v158, val_main_v157, val_main_v156, val_main_v155]

end Cert.KernelPostIdeal.Value

end
-- ==== Proof.PoCan.lean ====
module

public import proofs.«01_k».proof.Proof.PoBase

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals

theorem canon_11 (d : FVec Ideal S256x512 .f32) (y : S4x256x128.Idx) :
    View.canon [(⟨Rect.unit ![3, 0, 0] ![1, 256, 128] inb_S4x256x128_S1x256x128_3_0_0, k0_pay2 d⟩ : View.Piece (Elt Ideal) S4x256x128 .f32),
      ⟨Rect.unit ![2, 0, 0] ![1, 256, 128] inb_S4x256x128_S1x256x128_2_0_0, k0_pay1 (k0_pay70 d)⟩,
      ⟨Rect.unit ![1, 0, 0] ![1, 256, 128] inb_S4x256x128_S1x256x128_1_0_0, k0_pay69 d⟩,
      ⟨Rect.unit ![0, 0, 0] ![1, 256, 128] inb_S4x256x128_S1x256x128_0_0_0, k0_pay68 d⟩] y
      = d (ix2 (y 1) (⟨128 * (y 0).val + (y 2).val, by
        have h0 : (y 0).val < 4 := (y 0).isLt
        have h2 : (y 2).val < 128 := (y 2).isLt
        omega⟩ : Fin 512)) := by
  canon_tiles x h
  all_goals (pointwise [k0_pay1, k0_pay2, k0_pay68, k0_pay69, k0_pay70]; refine congrArg d ?_; blk_ext [])

theorem canon_13 (a b : FVec Ideal S256x512 .f32) (y : S2x256x512.Idx) :
    View.canon [(⟨Rect.unit ![1, 0, 0] ![1, 256, 512] inb_S2x256x512_S1x256x512_1_0_0, k0_pay4 b⟩ : View.Piece (Elt Ideal) S2x256x512 .f32),
      ⟨Rect.unit ![0, 0, 0] ![1, 256, 512] inb_S2x256x512_S1x256x512_0_0_0, k0_pay3 a⟩] y
      = if (y 0).val = 0 then a (ix2 (y 1) (y 2)) else b (ix2 (y 1) (y 2)) := by
  canon_tiles x h
  · rw [if_neg (by omega), show y 1 = x 1 from Fin.ext h1, show y 2 = x 2 from Fin.ext h2]; pointwise [k0_pay4]
  · rw [if_pos (by omega), show y 1 = x 1 from Fin.ext h1, show y 2 = x 2 from Fin.ext h2]; pointwise [k0_pay3]

end Cert.KernelPostIdeal.Value

end
-- ==== Proof.PoFin.lean ====
module

public import proofs.«01_k».proof.Proof.PoBlk
public import proofs.«01_k».proof.Proof.PoRef3
public import proofs.«01_k».proof.Proof.PoCan

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals Cert.ReferencePostIdeal.Read

/-! The arrays the kernel leaves are the reference's. -/

variable {A : Inp} {c : Dev nD} (H : Is A (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)))

theorem emb_10 (t : Fin cfg0.N) (y : S256x1024.Idx) : (((cfg0.win 10).blk t).view.emb y : S2048x1024.Idx) = ix2 (row t (y 0)) (y 1) := by
  blk_ext [idx_val t]
theorem emb_11 (t : Fin cfg0.N) (y : S4x256x128.Idx) : (((cfg0.win 11).blk t).view.emb y : S4x2048x128.Idx) = ix3 (y 0) (row t (y 1)) (y 2) := by
  blk_ext [idx_val t]
theorem emb_12 (t : Fin cfg0.N) (y : S256x512.Idx) : (((cfg0.win 12).blk t).view.emb y : S2048x512.Idx) = ix2 (row t (y 0)) (y 1) := by
  blk_ext [idx_val t]
theorem emb_13 (t : Fin cfg0.N) (y : S2x256x512.Idx) :
    (((cfg0.win 13).blk t).view.emb y : S8x2048x512.Idx) = ix3 (⟨6 + (y 0).val, by have : (y 0).val < 2 := (y 0).isLt; omega⟩ : Fin 8) (row t (y 1)) (y 2) := by
  blk_ext [idx_val t]

include H

theorem blkIs (t : Fin cfg0.N) : BIs (iblk m c 0 t) (iblk m c 1 t) (iblk m c 2 t) (iblk m c 3 t) (iblk m c 4 t) (iblk m c 5 t) (iblk m c 6 t) (iblk m c 7 t)
    (iblk m c 8 t) (iblk m c 9 t) (fun p => A.row (row t p)) where
  o h p k := by
    refine (b0 m H t h p k).trans (congrArg _ ?_)
    have e1 : (128 * h.val + k.val) / 128 = h.val := by omega
    have e2 : (128 * h.val + k.val) % 128 = k.val := by omega
    show A.o h (row t p) k = A.o ⟨(128 * h.val + k.val) / 128, _⟩ (row t p) ⟨(128 * h.val + k.val) % 128, _⟩
    simp only [e1, e2]
  d p l := b1 m H t p l
  zs p l := b2 m H t p l
  zg p l := b3 m H t p l
  x p j := b4 m H t p j
  t p j := b5 m H t p j
  w p l j := b6 m H t l j
  a p l := b7 m H t l
  b p l := b8 m H t l
  f p j := b9 m H t j

theorem final_10 : (dats m 0 c).arrAt 10 (cfgs 0).N
    = val_main_v97 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_covers 10 _ (by decide +kernel) fun t hf y => ?_
  have hy : (y : S256x1024.Idx) = ix2 (y 0) (y 1) := by funext a; match a with | ⟨0, _⟩ => rfl | ⟨1, _⟩ => rfl
  refine Eq.trans ?_ ((rdx H (row t (y 0)) (y 1)).symm.trans (congrArg _ (emb_10 t y).symm))
  blk_simp; rw [after0_10]
  by_cases h : t.val % 8 = 0
  · rw [outsAt0_A m c t h]; dsimp only; frame_out; exact (congrArg _ hy).trans (dxB_eq (blkIs m H t) (y 0) (y 1))
  · rw [outsAt0_B m c t h]; dsimp only; frame_out; exact (congrArg _ hy).trans (dxB_eq (blkIs m H t) (y 0) (y 1))

theorem final_12 : (dats m 0 c).arrAt 12 (cfgs 0).N
    = val_main_v128 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_covers 12 _ (by decide +kernel) fun t hf y => ?_
  have hy : (y : S256x512.Idx) = ix2 (y 0) (y 1) := by funext a; match a with | ⟨0, _⟩ => rfl | ⟨1, _⟩ => rfl
  refine Eq.trans ?_ ((ddo H (row t (y 0)) (y 1)).symm.trans (congrArg _ (emb_12 t y).symm))
  blk_simp; rw [after0_12]
  by_cases h : t.val % 8 = 0
  · rw [outsAt0_A m c t h]; dsimp only; frame_out; exact (congrArg _ hy).trans (dodB_eq (blkIs m H t) (y 0) (y 1))
  · rw [outsAt0_B m c t h]; dsimp only; frame_out; exact (congrArg _ hy).trans (dodB_eq (blkIs m H t) (y 0) (y 1))

theorem final_11 : (dats m 0 c).arrAt 11 (cfgs 0).N
    = val_main_v160 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_covers 11 _ (by decide +kernel) fun t hf y => ?_
  have hy : (y : S4x256x128.Idx) = ix3 (y 0) (y 1) (y 2) := by funext a; match a with | ⟨0, _⟩ => rfl | ⟨1, _⟩ => rfl | ⟨2, _⟩ => rfl
  refine Eq.trans ?_ ((rdos H (y 0) (row t (y 1)) (y 2)).symm.trans (congrArg _ (emb_11 t y).symm))
  blk_simp; rw [after0_11]
  by_cases h : t.val % 8 = 0
  · rw [outsAt0_A m c t h]; dsimp only; frame_out
    exact (canon_11 _ y).trans (dosB_eq (blkIs m H t) (y 1) _)
  · rw [outsAt0_B m c t h]; dsimp only; frame_out
    exact (canon_11 _ y).trans (dosB_eq (blkIs m H t) (y 1) _)

theorem read_13 (t : Fin cfg0.N) (y : S2x256x512.Idx) : (dats m 0 c).arrAt 13 cfg0.N (((cfg0.win 13).blk t).view.emb y)
    = if (y 0).val = 0 then ((A.row (row t (y 1))).dzs (y 2) : EReal) else ((A.row (row t (y 1))).dzg (y 2) : EReal) := by
  have hf : (cfg0.win 13).flush t = true := (by decide +kernel : ∀ t : Fin cfg0.N, (cfg0.win 13).flush t = true) t
  refine (congrFun (blocks13 m c t hf) y).trans ?_
  rw [flushed13]
  by_cases h : t.val % 8 = 0
  · rw [outsAt0_A m c t h]; dsimp only; frame_out
    refine (canon_13 _ _ y).trans ?_
    split
    · exact dzsB_eq (blkIs m H t) (y 1) (y 2)
    · exact dzgB_eq (blkIs m H t) (y 1) (y 2)
  · rw [outsAt0_B m c t h]; dsimp only; frame_out
    refine (canon_13 _ _ y).trans ?_
    split
    · exact dzsB_eq (blkIs m H t) (y 1) (y 2)
    · exact dzgB_eq (blkIs m H t) (y 1) (y 2)

theorem final_13 (j : S8x2048x512.Idx) (hj : 6 ≤ (j 0).val) : (dats m 0 c).arrAt 13 (cfgs 0).N j
    = val_main_v158 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) j := by
  have j0 : (j 0).val < 8 := (j 0).isLt
  have j1 : (j 1).val < 2048 := (j 1).isLt
  have j2 : (j 2).val < 512 := (j 2).isLt
  let t : Fin cfg0.N := ⟨(j 1).val / 256, by have : cfg0.N = 8 := N_0; omega⟩
  let y : S2x256x512.Idx := ix3 (⟨(j 0).val - 6, by omega⟩ : Fin 2) (⟨(j 1).val % 256, by omega⟩ : Fin 256) (⟨(j 2).val, j2⟩ : Fin 512)
  have hr : row t (y 1) = (⟨(j 1).val, j1⟩ : Fin 2048) := Fin.ext (show 256 * ((j 1).val / 256) + (j 1).val % 256 = (j 1).val by omega)
  have e : (((cfg0.win 13).blk t).view.emb y : S8x2048x512.Idx) = j := by
    rw [emb_13, hr]
    funext a
    match a with
    | ⟨0, _⟩ => exact Fin.ext (show 6 + ((j 0).val - 6) = (j 0).val by omega)
    | ⟨1, _⟩ => rfl
    | ⟨2, _⟩ => rfl
  refine (congrArg (fun i => (dats m 0 c).arrAt 13 cfg0.N i) e.symm).trans ((read_13 m H t y).trans ?_)
  rw [hr]
  by_cases h6 : (j 0).val = 6
  · have hj : j = ix3 (6 : Fin 8) (⟨(j 1).val, j1⟩ : Fin 2048) (⟨(j 2).val, j2⟩ : Fin 512) := by
      funext a; match a with | ⟨0, _⟩ => exact Fin.ext h6 | ⟨1, _⟩ => rfl | ⟨2, _⟩ => rfl
    refine (if_pos (show (j 0).val - 6 = 0 by omega)).trans ?_
    exact (rz6 H ⟨(j 1).val, j1⟩ ⟨(j 2).val, j2⟩).symm.trans (congrArg _ hj.symm)
  · have hj : j = ix3 (7 : Fin 8) (⟨(j 1).val, j1⟩ : Fin 2048) (⟨(j 2).val, j2⟩ : Fin 512) := by
      funext a; match a with | ⟨0, _⟩ => exact Fin.ext (show (j 0).val = 7 by omega) | ⟨1, _⟩ => rfl | ⟨2, _⟩ => rfl
    refine (if_neg (show ¬ (j 0).val - 6 = 0 by omega)).trans ?_
    exact (rz7 H ⟨(j 1).val, j1⟩ ⟨(j 2).val, j2⟩).symm.trans (congrArg _ hj.symm)

end Cert.KernelPostIdeal.Value

end
-- ==== Proof.PoAcc.lean ====
module

public import proofs.«01_k».proof.Proof.PoFin

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals Cert.ReferencePostIdeal.Read

/-! The accumulated results: the loss and the weights' gradients. -/

theorem z_7 (j : S1x128.Idx) : k0_pay7 (F := Ideal) j = 0 := by pointwise! [k0_pay7]
theorem z_8 (j : S1x1024.Idx) : k0_pay8 (F := Ideal) j = 0 := by pointwise! [k0_pay8]
theorem z_9 (j : S1x512.Idx) : k0_pay9 (F := Ideal) j = 0 := by pointwise! [k0_pay9]
theorem z_10 (j : S1x512.Idx) : k0_pay10 (F := Ideal) j = 0 := by pointwise! [k0_pay10]
theorem z_11 (j : S1024x1024.Idx) : k0_pay11 (F := Ideal) j = 0 := by pointwise! [k0_pay11]
theorem add_5 (g prev : Vec Ideal S1x512 .f32) (j : S1x512.Idx) : k0_pay5 g prev j = (prev j : EReal) + g j := by pointwise [k0_pay5]
theorem add_6 (g prev : Vec Ideal S1x512 .f32) (j : S1x512.Idx) : k0_pay6 g prev j = (prev j : EReal) + g j := by pointwise [k0_pay6]

/-- The blocks' parts of a sum over the rows. -/
theorem sum_rows (f : Fin 2048 → ℝ) : ∑ t : Fin cfg0.N, ((∑ p : Fin 256, f (row t p) : ℝ) : EReal) = ((∑ i, f i : ℝ) : EReal) := by
  rw [coe_sum]
  refine congrArg _ (Fin.sum_mul_add_congr fun s k hl => congrArg f (Fin.ext (by dsimp only; omega)))

theorem ix_row {n : Nat} (j : (⟨2, ![1, n]⟩ : Shape).Idx) : j = ix2 0 (j 1) := by
  funext a
  match a with
  | ⟨0, _⟩ => exact Subsingleton.elim (α := Fin 1) _ _
  | ⟨1, _⟩ => rfl

variable {A : Inp} {c : Dev nD} (H : Is A (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)))
include H

theorem final_14 : (dats m 0 c).arrAt 14 (cfgs 0).N
    = val_main_v161 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_after_last 14 t0_7 (by decide +kernel) _ fun j => ?_
  blk_simp
  rw [after0_14, Pipeline.eq_sum_fin_of_reset_step_apply_last (fun n h => (outsAt0 m c n h).2.2.2.2.1) 8 (fun _ => (0 : EReal))
    (fun t j => ((1 / 2 * ∑ p, (A.row (row t p)).le : ℝ) : EReal))
    (fun t h j => by
      have hj : (j : _) = ix2 0 (j 1) := ix_row j
      rw [outsAt0_A m c t h]; dsimp only; frame_out
      exact (congrArg _ hj).trans ((p38 _ _ (j 1)).trans (congrArg₂ (fun a b : EReal => a + b) (z_7 _) (lossB_eq (blkIs m H t)))))
    (fun t h j => by
      have hj : (j : _) = ix2 0 (j 1) := ix_row j
      rw [outsAt0_B m c t h]; dsimp only; frame_out
      exact (congrArg _ hj).trans ((p38 _ _ (j 1)).trans (congrArg₂ (fun a b : EReal => a + b) (congrArg _ hj.symm) (lossB_eq (blkIs m H t)))))
    (le_of_eq N_0) t0_7 rfl j, zero_add]
  have hj : (j : _) = ix2 0 (j 1) := ix_row j
  simp only [Finset.mul_sum]
  exact (sum_rows fun i => 1 / 2 * (A.row i).le).trans ((congrArg _ (Finset.mul_sum _ _ _).symm).trans ((rloss H (j 1)).symm.trans (congrArg _ hj.symm)))

theorem final_15 : (dats m 0 c).arrAt 15 (cfgs 0).N
    = val_main_v81 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_after_last 15 t0_7 (by decide +kernel) _ fun j => ?_
  blk_simp
  rw [after0_15, Pipeline.eq_sum_fin_of_reset_step_apply_last (fun n h => (outsAt0 m c n h).2.2.2.2.2.1) 8 (fun _ => (0 : EReal))
    (fun t j => ((∑ p, (A.row (row t p)).gf (j 1) : ℝ) : EReal))
    (fun t h j => by
      have hj : (j : _) = ix2 0 (j 1) := ix_row j
      rw [outsAt0_A m c t h]; dsimp only; frame_out
      exact (congrArg _ hj).trans ((gfB_eq (blkIs m H t) _ (j 1)).trans (congrArg (fun a : EReal => a + _) (z_8 _))))
    (fun t h j => by
      have hj : (j : _) = ix2 0 (j 1) := ix_row j
      rw [outsAt0_B m c t h]; dsimp only; frame_out
      exact (congrArg _ hj).trans ((gfB_eq (blkIs m H t) _ (j 1)).trans (congrArg (fun a : EReal => a + _) (congrArg _ hj.symm))))
    (le_of_eq N_0) t0_7 rfl j, zero_add]
  have hj : (j : _) = ix2 0 (j 1) := ix_row j
  exact (sum_rows fun i => (A.row i).gf (j 1)).trans ((rgf H (j 1)).symm.trans (congrArg _ hj.symm))

theorem final_16 : (dats m 0 c).arrAt 16 (cfgs 0).N
    = val_main_v153 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_after_last 16 t0_7 (by decide +kernel) _ fun j => ?_
  blk_simp
  rw [after0_16, Pipeline.eq_sum_fin_of_reset_step_apply_last (fun n h => (outsAt0 m c n h).2.2.2.2.2.2.1) 8 (fun _ => (0 : EReal))
    (fun t j => ((∑ p, (A.row (row t p)).gs (j 1) : ℝ) : EReal))
    (fun t h j => by
      have hj : (j : _) = ix2 0 (j 1) := ix_row j
      rw [outsAt0_A m c t h]; dsimp only; frame_out
      exact (add_5 _ _ j).trans (congrArg₂ (fun a b : EReal => a + b) (z_9 j) ((congrArg _ hj).trans (gsB_eq (blkIs m H t) (j 1)))))
    (fun t h j => by
      have hj : (j : _) = ix2 0 (j 1) := ix_row j
      rw [outsAt0_B m c t h]; dsimp only; frame_out
      exact (add_5 _ _ j).trans (congrArg₂ (fun a b : EReal => a + b) (rfl) ((congrArg _ hj).trans (gsB_eq (blkIs m H t) (j 1)))))
    (le_of_eq N_0) t0_7 rfl j, zero_add]
  have hj : (j : _) = ix2 0 (j 1) := ix_row j
  exact (sum_rows fun i => (A.row i).gs (j 1)).trans ((sgg H (j 1)).symm.trans (congrArg _ hj.symm))

theorem final_17 : (dats m 0 c).arrAt 17 (cfgs 0).N
    = val_main_v127 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_after_last 17 t0_7 (by decide +kernel) _ fun j => ?_
  blk_simp
  rw [after0_17, Pipeline.eq_sum_fin_of_reset_step_apply_last (fun n h => (outsAt0 m c n h).2.2.2.2.2.2.2.1) 8 (fun _ => (0 : EReal))
    (fun t j => ((∑ p, (A.row (row t p)).gd (j 1) : ℝ) : EReal))
    (fun t h j => by
      have hj : (j : _) = ix2 0 (j 1) := ix_row j
      rw [outsAt0_A m c t h]; dsimp only; frame_out
      exact (add_6 _ _ j).trans (congrArg₂ (fun a b : EReal => a + b) (z_10 j) ((congrArg _ hj).trans (gdB_eq (blkIs m H t) (j 1)))))
    (fun t h j => by
      have hj : (j : _) = ix2 0 (j 1) := ix_row j
      rw [outsAt0_B m c t h]; dsimp only; frame_out
      exact (add_6 _ _ j).trans (congrArg₂ (fun a b : EReal => a + b) (rfl) ((congrArg _ hj).trans (gdB_eq (blkIs m H t) (j 1)))))
    (le_of_eq N_0) t0_7 rfl j, zero_add]
  have hj : (j : _) = ix2 0 (j 1) := ix_row j
  exact (sum_rows fun i => (A.row i).gd (j 1)).trans ((dgg H (j 1)).symm.trans (congrArg _ hj.symm))

theorem final_18 : (dats m 0 c).arrAt 18 (cfgs 0).N
    = val_main_v99 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_after_last 18 t0_7 (by decide +kernel) _ fun j => ?_
  blk_simp
  rw [after0_18, Pipeline.eq_sum_fin_of_reset_step_apply_last (fun n h => (outsAt0 m c n h).2.2.2.2.2.2.2.2) 8 (fun _ => (0 : EReal))
    (fun t j => ((∑ p, (A.row (row t p)).gw (j 0) (j 1) : ℝ) : EReal))
    (fun t h j => by
      have hj : (j : S1024x1024.Idx) = ix2 (j 0) (j 1) := by funext a; match a with | ⟨0, _⟩ => rfl | ⟨1, _⟩ => rfl
      rw [outsAt0_A m c t h]; dsimp only; frame_out
      exact (congrArg _ hj).trans ((gwB_eq (blkIs m H t) _ (j 0) (j 1)).trans (congrArg (fun a : EReal => a + _) (z_11 _))))
    (fun t h j => by
      have hj : (j : S1024x1024.Idx) = ix2 (j 0) (j 1) := by funext a; match a with | ⟨0, _⟩ => rfl | ⟨1, _⟩ => rfl
      rw [outsAt0_B m c t h]; dsimp only; frame_out
      exact (congrArg _ hj).trans ((gwB_eq (blkIs m H t) _ (j 0) (j 1)).trans (congrArg (fun a : EReal => a + _) (congrArg _ hj.symm))))
    (le_of_eq N_0) t0_7 rfl j, zero_add]
  have hj : (j : S1024x1024.Idx) = ix2 (j 0) (j 1) := by funext a; match a with | ⟨0, _⟩ => rfl | ⟨1, _⟩ => rfl
  exact (sum_rows fun i => (A.row i).gw (j 0) (j 1)).trans ((rgw H (j 0) (j 1)).symm.trans (congrArg _ hj.symm))

end Cert.KernelPostIdeal.Value

end
-- ==== Proof.PoPre.lean ====
module

public import proofs.«01_k».proof.Proof.PoAcc
public import proofs.«01_k».proof.Proof.Gen.Pre_finite_post
public import proofs.«01_k».proof.Proof.Gen.On_written
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals

theorem and_one {s : Shape} {a b : IVec s 1} (h : andi a b = fun _ => 1#1) : a = (fun _ => 1#1) ∧ b = fun _ => 1#1 := by
  constructor <;> funext i <;> have hi := congrFun h i
  · exact (IntOp.andi_eq_one.1 hi).1
  · exact (IntOp.andi_eq_one.1 hi).2

theorem all_real {s t u : Shape} [Subsingleton t.Idx] {axes : List (Fin s.rank)} {x : FVec Ideal s .f32} {y : FVec Ideal s .f32}
    {init : IVec u 1} {h : s.ReducesTo axes t} {hu : 0 < u.numel} (j : t.Idx)
    (hy : ∀ i, y i = FloatOps.ofBits (F := Ideal) .f32 0x7F800000#32)
    (e : Host.reduce IntOp.andi (cmpf .olt (Host.absf x) y) init h hu = fun _ => 1#1) (i : s.Idx) : x i = ((x i : EReal).toReal : EReal) := by
  have := Host.reduce_andi_all _ _ _ _ j (congrFun e j) i
  obtain ⟨r, hr⟩ : IsReal (x i) := isReal_of_lt (by rw [← hy i]; exact this)
  rw [hr]
  rfl

instance : Subsingleton Cert.Pre_finite_post.S_.Idx := ⟨fun a b => funext fun d => d.elim0⟩

/-- The real numbers the arguments are. -/
def inp (c : Dev nD) : Inp where
  o h i k := ((m ((c : Thread nD τ).loc main_arg0) : Vec Ideal S4x2048x128 .f32) (ix3 h i k) : EReal).toReal
  d i l := ((m ((c : Thread nD τ).loc main_arg1) : Vec Ideal S2048x512 .f32) (ix2 i l) : EReal).toReal
  z i l := ((m ((c : Thread nD τ).loc main_arg2) : Vec Ideal S2048x1024 .f32) (ix2 i l) : EReal).toReal
  x i l := ((m ((c : Thread nD τ).loc main_arg3) : Vec Ideal S2048x1024 .f32) (ix2 i l) : EReal).toReal
  t i l := ((m ((c : Thread nD τ).loc main_arg4) : Vec Ideal S2048x1024 .f32) (ix2 i l) : EReal).toReal
  w i l := ((m ((c : Thread nD τ).loc main_arg5) : Vec Ideal S1024x1024 .f32) (ix2 i l) : EReal).toReal
  a l := ((m ((c : Thread nD τ).loc main_arg6) : Vec Ideal S1x512 .f32) (ix2 0 l) : EReal).toReal
  b l := ((m ((c : Thread nD τ).loc main_arg7) : Vec Ideal S1x512 .f32) (ix2 0 l) : EReal).toReal
  f l := ((m ((c : Thread nD τ).loc main_arg8) : Vec Ideal S1x1024 .f32) (ix2 0 l) : EReal).toReal

theorem realArgs (h : Cert.Pre_KernelPostIdeal_finite_post m) (c : Dev nD) :
    Is (inp m c) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  have h := h c
  unfold Cert.Pre_finite_post.fn Cert.Pre_finite_post.fn_part1 Cert.Pre_finite_post.fn_part2 at h
  dsimp only at h
  obtain ⟨h, e8⟩ := and_one h
  obtain ⟨h, e7⟩ := and_one h
  obtain ⟨h, e6⟩ := and_one h
  obtain ⟨h, e5⟩ := and_one h
  obtain ⟨h, e4⟩ := and_one h
  obtain ⟨h, e3⟩ := and_one h
  obtain ⟨h, e2⟩ := and_one h
  obtain ⟨e0, e1⟩ := and_one h
  exact ⟨fun _ _ _ => all_real ix0 (fun _ => rfl) e0 _, fun _ _ => all_real ix0 (fun _ => rfl) e1 _, fun _ _ => all_real ix0 (fun _ => rfl) e2 _,
    fun _ _ => all_real ix0 (fun _ => rfl) e3 _, fun _ _ => all_real ix0 (fun _ => rfl) e4 _, fun _ _ => all_real ix0 (fun _ => rfl) e5 _,
    fun _ => all_real ix0 (fun _ => rfl) e6 _, fun _ => all_real ix0 (fun _ => rfl) e7 _, fun _ => all_real ix0 (fun _ => rfl) e8 _⟩

/-- Where the mask holds, the last axis' slot is one of the two that are written. -/
theorem written_slot (x0 : FVec Ideal Cert.On_written.S4x2048x128 .f32) (x1 : FVec Ideal Cert.On_written.S2048x512 .f32)
    (x2 x3 x4 : FVec Ideal Cert.On_written.S2048x1024 .f32) (x5 : FVec Ideal Cert.On_written.S1024x1024 .f32)
    (x6 x7 : FVec Ideal Cert.On_written.S1x512 .f32) (x8 : FVec Ideal Cert.On_written.S1x1024 .f32) (i : S8x2048x512.Idx)
    (h : (Cert.On_written.fn (F := Ideal) x0 x1 x2 x3 x4 x5 x6 x7 x8).2.2.2.1 i = 1#1) : 6 ≤ (i 0).val := by
  have h' : IntOp.cmpi .sge (BitVec.ofNat 32 (i 0).val) 6#32 = 1#1 := h
  have hi : (i 0).val < 8 := (i 0).isLt
  revert h'
  generalize (i 0).val = n at hi ⊢
  revert n
  decide

end Cert.KernelPostIdeal.Value

end
-- ==== Proof.PoClaim.lean ====
module

public import proofs.«01_k».proof.Proof.PoPre
public import proofs.«01_k».proof.Proof.Gen.ReferencePostIdeal.Run

@[expose] public section

set_option maxRecDepth 16384

noncomputable section

open Idealize.ShloMosaic Idealize.ShloMosaic.TcCoe Idealize.SL.Sem
open Idealize.ShloMosaic.Pipeline (Dat)
open scoped BigOperators

namespace Cert.KernelPostIdeal.Value

open Cert.KernelPostIdeal Cert.KernelPostIdeal.Gen

variable (m : (ℓ : Loc nD τ sig) → Buf (Elt Ideal) ℓ)

open Cert.Post Cert.Reals

/-- The reference's run leaves its arguments as they were, and every counter at zero. -/
theorem reference_frame : Cert.quiescent_ReferencePostIdeal := fun m g _ =>
  (θ_run (Cert.ReferencePostIdeal.defs (F := Ideal)) _ _).mono (fun r h => And.intro (fun c => (h c).2.2.2.2.2.2.2.2.2)
      (Idealize.ShloMosaic.sem_eq_zero_of_no_sems (by decide) r.2))
    (Cert.ReferencePostIdeal.Value.run (F := Ideal) m g)

set_option maxHeartbeats 2000000 in
/-- The kernel and the reference end at the same arrays, wherever the kernel writes. -/
theorem algebraic : Cert.algebraic_KernelPostIdeal_ReferencePostIdeal_on_written_pre_finite_post := by
  intro m g m' g' hpre hagree
  refine ⟨fun c => Cert.ReferencePostIdeal.Read.val_main_v97 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)),
    fun c => Cert.ReferencePostIdeal.Read.val_main_v160 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)),
    fun c => Cert.ReferencePostIdeal.Read.val_main_v128 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)),
    fun c => Cert.ReferencePostIdeal.Read.val_main_v158 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)),
    fun c => Cert.ReferencePostIdeal.Read.val_main_v161 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)),
    fun c => Cert.ReferencePostIdeal.Read.val_main_v81 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)),
    fun c => Cert.ReferencePostIdeal.Read.val_main_v153 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)),
    fun c => Cert.ReferencePostIdeal.Read.val_main_v127 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)),
    fun c => Cert.ReferencePostIdeal.Read.val_main_v99 (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)), ?_, ?_⟩
  · refine (θ_run _ _ _).mono (fun r h c => ?_) (run_blocks m g)
    obtain ⟨h0, h1, h2, h3, h4, h5, h6, h7, h8, hk⟩ := h c
    have H := realArgs m hpre c
    exact ⟨fun i _ => congrFun (h0.trans (final_10 m H)) i, fun i _ => congrFun (h1.trans (final_11 m H)) i, fun i _ => congrFun (h2.trans (final_12 m H)) i,
      fun i hi => (congrFun h3 i).trans (final_13 m H i (written_slot _ _ _ _ _ _ _ _ _ i hi)), fun i _ => congrFun (h4.trans (final_14 m H)) i,
      fun i _ => congrFun (h5.trans (final_15 m H)) i, fun i _ => congrFun (h6.trans (final_16 m H)) i, fun i _ => congrFun (h7.trans (final_17 m H)) i,
      fun i _ => congrFun (h8.trans (final_18 m H)) i, hk⟩
  · refine (θ_run _ _ _).mono (fun r h c => ?_) (Cert.ReferencePostIdeal.Value.run (F := Ideal) m' g')
    obtain ⟨h0, h1, h2, h3, h4, h5, h6, h7, h8, hk⟩ := h c
    obtain ⟨e0, e1, e2, e3, e4, e5, e6, e7, e8⟩ := hagree c
    have e0 : StableHlo.launchContents m' c (Proc.devRef .tc Cert.ReferencePostIdeal.main_arg0) = m ((c.tc : Thread Cert.KernelPostIdeal.nD Cert.KernelPostIdeal.τ).loc Cert.KernelPostIdeal.main_arg0) := e0
    have e1 : StableHlo.launchContents m' c (Proc.devRef .tc Cert.ReferencePostIdeal.main_arg1) = m ((c.tc : Thread Cert.KernelPostIdeal.nD Cert.KernelPostIdeal.τ).loc Cert.KernelPostIdeal.main_arg1) := e1
    have e2 : StableHlo.launchContents m' c (Proc.devRef .tc Cert.ReferencePostIdeal.main_arg2) = m ((c.tc : Thread Cert.KernelPostIdeal.nD Cert.KernelPostIdeal.τ).loc Cert.KernelPostIdeal.main_arg2) := e2
    have e3 : StableHlo.launchContents m' c (Proc.devRef .tc Cert.ReferencePostIdeal.main_arg3) = m ((c.tc : Thread Cert.KernelPostIdeal.nD Cert.KernelPostIdeal.τ).loc Cert.KernelPostIdeal.main_arg3) := e3
    have e4 : StableHlo.launchContents m' c (Proc.devRef .tc Cert.ReferencePostIdeal.main_arg4) = m ((c.tc : Thread Cert.KernelPostIdeal.nD Cert.KernelPostIdeal.τ).loc Cert.KernelPostIdeal.main_arg4) := e4
    have e5 : StableHlo.launchContents m' c (Proc.devRef .tc Cert.ReferencePostIdeal.main_arg5) = m ((c.tc : Thread Cert.KernelPostIdeal.nD Cert.KernelPostIdeal.τ).loc Cert.KernelPostIdeal.main_arg5) := e5
    have e6 : StableHlo.launchContents m' c (Proc.devRef .tc Cert.ReferencePostIdeal.main_arg6) = m ((c.tc : Thread Cert.KernelPostIdeal.nD Cert.KernelPostIdeal.τ).loc Cert.KernelPostIdeal.main_arg6) := e6
    have e7 : StableHlo.launchContents m' c (Proc.devRef .tc Cert.ReferencePostIdeal.main_arg7) = m ((c.tc : Thread Cert.KernelPostIdeal.nD Cert.KernelPostIdeal.τ).loc Cert.KernelPostIdeal.main_arg7) := e7
    have e8 : StableHlo.launchContents m' c (Proc.devRef .tc Cert.ReferencePostIdeal.main_arg8) = m ((c.tc : Thread Cert.KernelPostIdeal.nD Cert.KernelPostIdeal.τ).loc Cert.KernelPostIdeal.main_arg8) := e8
    refine ⟨fun i _ => congrFun (h0.trans ?_) i, fun i _ => congrFun (h1.trans ?_) i, fun i _ => congrFun (h2.trans ?_) i, fun i _ => congrFun (h3.trans ?_) i,
      fun i _ => congrFun (h4.trans ?_) i, fun i _ => congrFun (h5.trans ?_) i, fun i _ => congrFun (h6.trans ?_) i, fun i _ => congrFun (h7.trans ?_) i,
      fun i _ => congrFun (h8.trans ?_) i, hk⟩
    · refine (Cert.ReferencePostIdeal.Read.val_main_v97_eq (StableHlo.launchContents m' c)).trans ?_
      rw [e0, e1, e2, e3, e4, e5, e6, e7, e8]
    · refine (Cert.ReferencePostIdeal.Read.val_main_v160_eq (StableHlo.launchContents m' c)).trans ?_
      rw [e0, e1, e2, e3, e4, e5, e6, e7, e8]
    · refine (Cert.ReferencePostIdeal.Read.val_main_v128_eq (StableHlo.launchContents m' c)).trans ?_
      rw [e0, e1, e2, e3, e4, e5, e6, e7, e8]
    · refine (Cert.ReferencePostIdeal.Read.val_main_v158_eq (StableHlo.launchContents m' c)).trans ?_
      rw [e0, e1, e2, e3, e4, e5, e6, e7, e8]
    · refine (Cert.ReferencePostIdeal.Read.val_main_v161_eq (StableHlo.launchContents m' c)).trans ?_
      rw [e0, e1, e2, e3, e4, e5, e6, e7, e8]
    · refine (Cert.ReferencePostIdeal.Read.val_main_v81_eq (StableHlo.launchContents m' c)).trans ?_
      rw [e0, e1, e2, e3, e4, e5, e6, e7, e8]
    · refine (Cert.ReferencePostIdeal.Read.val_main_v153_eq (StableHlo.launchContents m' c)).trans ?_
      rw [e0, e1, e2, e3, e4, e5, e6, e7, e8]
    · refine (Cert.ReferencePostIdeal.Read.val_main_v127_eq (StableHlo.launchContents m' c)).trans ?_
      rw [e0, e1, e2, e3, e4, e5, e6, e7, e8]
    · refine (Cert.ReferencePostIdeal.Read.val_main_v99_eq (StableHlo.launchContents m' c)).trans ?_
      rw [e0, e1, e2, e3, e4, e5, e6, e7, e8]

end Cert.KernelPostIdeal.Value

end
-- ==== Proof.GaSem.lean ====
module

public import Idealize.ShloMosaic.Lib.Claim
public import proofs.«01_k».proof.Proof.PoSem

@[expose] public section

noncomputable section

open Idealize.ShloMosaic Idealize.ShloMosaic.TcCoe Idealize.SL.Sem
open scoped BigOperators

/-! The gates' derivatives over the real numbers. -/

namespace Cert.Gates

open Cert.Reals Cert.Post

/-- `log (1 + exp z)`, as both programs write it. -/
def sp (z : ℝ) : ℝ := max z 0 + Real.log (1 + Real.exp (-|z|))

/-- Its derivative is the logistic function. -/
theorem exp_sp (z : ℝ) : Real.exp (z - sp z) = sg z := by
  have h : 0 < 1 + Real.exp (-|z|) := by positivity
  have hz : Real.exp z * Real.exp (-z) = 1 := by rw [← Real.exp_add]; simp
  have hp : 0 < Real.exp z := Real.exp_pos z
  unfold sp sg
  rw [← sub_sub, Real.exp_sub, Real.exp_log h]
  rcases le_total 0 z with h0 | h0
  · rw [max_eq_left h0, abs_of_nonneg h0, sub_self, Real.exp_zero]
  · rw [max_eq_right h0, abs_of_nonpos h0, neg_neg, sub_zero, div_eq_div_iff (by positivity) (by positivity)]
    rw [mul_add, hz]; ring

/-- The two functions over the extended reals. -/
def sgE (x : EReal) : EReal := Ideal.div 1 (1 + Ideal.exp (-x))
def spE (x : EReal) : EReal := max x 0 + Ideal.log (1 + Ideal.exp (-(max x (-x))))

theorem top_word : Ideal.ofBits .f32 0x7F800000#32 = ⊤ := by simp [Ideal.ofBits, Ideal.ieee]

theorem sgE_real (z : ℝ) : sgE (z : EReal) = (sg z : EReal) := by
  unfold sgE
  rw [← EReal.coe_neg, Ideal.exp_coe, ← EReal.coe_one]
  exact sg_form z

theorem spE_real (z : ℝ) : spE (z : EReal) = (sp z : EReal) := by
  have ha : max (z : EReal) (-(z : EReal)) = ((|z| : ℝ) : EReal) := by
    rw [← EReal.coe_neg]
    exact (EReal.coe_strictMono.monotone.map_max (a := z) (b := -z)).symm
  have hm : max (z : EReal) 0 = ((max z 0 : ℝ) : EReal) := (EReal.coe_strictMono.monotone.map_max (a := z) (b := 0)).symm
  unfold spE sp
  rw [ha, hm, ← EReal.coe_neg, Ideal.exp_coe, ← EReal.coe_one, ← EReal.coe_add, Ideal.log_coe, if_neg (not_le.2 (by positivity)), ← EReal.coe_add]

theorem exp_bot : Ideal.exp ⊥ = 0 := rfl
theorem exp_top : Ideal.exp ⊤ = ⊤ := rfl
theorem exp_zero : Ideal.exp 0 = 1 := by rw [← EReal.coe_zero, Ideal.exp_coe, Real.exp_zero, EReal.coe_one]
theorem log_one : Ideal.log 1 = 0 := by
  rw [← EReal.coe_one, Ideal.log_coe, if_neg (by norm_num), Real.log_one, EReal.coe_zero]

/-- The reference's derivative of the second function is the first one, at the infinities too. -/
theorem der (x : EReal) : Ideal.exp ((if x = ⊤ then 0 else x) - if spE x = ⊤ then 0 else spE x) = sgE x := by
  induction x using EReal.rec with
  | bot =>
    have h : spE ⊥ = 0 := by simp [spE, exp_bot, log_one]
    rw [h]
    simp [sgE, exp_bot, exp_top, exp_zero, Ideal.div, EReal.add_top_of_ne_bot (show (1 : EReal) ≠ ⊥ from EReal.coe_ne_bot 1)]
  | coe z =>
    rw [spE_real, if_neg (EReal.coe_ne_top z), if_neg (EReal.coe_ne_top _), ← EReal.coe_sub, Ideal.exp_coe, exp_sp, sgE_real]
  | top =>
    have h : spE ⊤ = ⊤ := by simp [spE, exp_bot, log_one]
    rw [h]
    simp [sgE, exp_bot, exp_top, exp_zero, Ideal.div]

/-- A real factor taken out of a sum of real products. -/
theorem factor {n : Nat} {d s : Fin n → EReal} {e : EReal} (hd : ∀ i, IsReal (d i)) (hs : ∀ i, IsReal (s i)) (he : IsReal e) :
    ∑ i, d i * (-e * s i) = (-∑ i, d i * s i) * e := by
  choose d' hd using hd
  choose s' hs using hs
  obtain ⟨e, rfl⟩ := he
  simp only [hd, hs, ← EReal.coe_neg, ← EReal.coe_mul, coe_sum]
  congr 1
  rw [neg_mul, Finset.sum_mul, ← Finset.sum_neg_distrib]
  exact Finset.sum_congr rfl fun i _ => by ring

end Cert.Gates

end
-- ==== Proof.GaKer.lean ====
module

public import proofs.«01_k».proof.Proof.GaSem
public import proofs.«01_k».proof.Proof.Gen.KernelGatesIdeal.Value
public import proofs.«01_k».proof.Proof.Gen.KernelGatesIdeal.Frame
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelGatesIdeal.Value

open Cert.KernelGatesIdeal Cert.KernelGatesIdeal.Gen

variable (m : (ℓ : Loc nD τ sig) → Buf (Elt Ideal) ℓ)
open Cert.Reals Cert.Post Cert.Gates

/-- The two lane tests. -/
theorem lt4 : ∀ l : Fin 128, IntOp.cmpi .slt (BitVec.ofNat 32 l.val) 4#32 = if l.val < 4 then 1#1 else 0#1 := by decide +kernel
theorem in48 : ∀ l : Fin 128, IntOp.andi (IntOp.cmpi .sge (BitVec.ofNat 32 l.val) 4#32) (IntOp.cmpi .slt (BitVec.ofNat 32 l.val) 8#32)
    = if 4 ≤ l.val ∧ l.val < 8 then 1#1 else 0#1 := by decide +kernel

theorem select_ite {p : Prop} [Decidable p] (a b : EReal) : Scalar.select (if p then 1#1 else 0#1) a b = if p then a else b := by
  by_cases h : p
  · rw [if_pos h, if_pos h]; rfl
  · rw [if_neg h, if_neg h]; rfl

variable (x0 : Vec Ideal S2048x128 .f32) (x1 x2 : Vec Ideal S1x128 .f32) (x3 : Vec Ideal S2048x128 .f32)

/-! The entries of the three results. -/

theorem k_out4 (i : Fin 2048) (l : Fin 128) :
    k0_pay3 (k0_pay13 x0 x1 x2 x3) x3 (k0_pay6 x0) (k0_pay14 x0 x1 x2 x3) (k0_pay15 x0 x1 x2 x3) (k0_pay16 x0 x1 x2 x3) (ix2 i l)
      = if l.val < 4 then x3 (ix2 i l) * sgE (x0 (ix2 i l)) * (1 - sgE (x0 (ix2 i l)))
        else if 4 ≤ l.val ∧ l.val < 8 then x3 (ix2 i l) * -Ideal.exp (x1 (ix2 0 l)) * sgE (x0 (ix2 i l) + x2 (ix2 0 l)) else 0 := by
  pointwise [k0_pay3, k0_pay2, k0_pay1, k0_pay13, k0_pay14, k0_pay15, k0_pay16, k0_pay12, k0_pay11, k0_pay10, k0_pay8, k0_pay7, k0_pay6]
  rw [lt4, in48, select_ite, select_ite]
  simp only [zero_sub, sgE]

theorem k_out5 (l : Fin 128) :
    k0_pay5 (k0_pay13 x0 x1 x2 x3) x3 (k0_pay9 x0 x1 x2) (ix2 0 l)
      = if 4 ≤ l.val ∧ l.val < 8 then ∑ i : Fin 2048, x3 (ix2 i l) * (-Ideal.exp (x1 (ix2 0 l)) * spE (x0 (ix2 i l) + x2 (ix2 0 l))) else (0 : EReal) := by
  pointwise [k0_pay5, k0_pay2, k0_pay1, k0_pay13, k0_pay14, k0_pay15, k0_pay16, k0_pay12, k0_pay11, k0_pay10, k0_pay9, k0_pay8, k0_pay7, k0_pay6]
  rw [in48, select_ite]
  simp only [zero_sub, spE]
  rfl

theorem k_out6 (l : Fin 128) :
    k0_pay4 (k0_pay13 x0 x1 x2 x3) (k0_pay14 x0 x1 x2 x3) (k0_pay15 x0 x1 x2 x3) (k0_pay16 x0 x1 x2 x3) (ix2 0 l)
      = if 4 ≤ l.val ∧ l.val < 8 then ∑ i : Fin 2048, x3 (ix2 i l) * -Ideal.exp (x1 (ix2 0 l)) * sgE (x0 (ix2 i l) + x2 (ix2 0 l)) else (0 : EReal) := by
  pointwise [k0_pay4, k0_pay2, k0_pay1, k0_pay13, k0_pay14, k0_pay15, k0_pay16, k0_pay12, k0_pay11, k0_pay10, k0_pay9, k0_pay8, k0_pay7, k0_pay6]
  rw [in48, select_ite]
  simp only [zero_sub, sgE]

end Cert.KernelGatesIdeal.Value

end
-- ==== Proof.GaRef.lean ====
module

public import proofs.«01_k».proof.Proof.GaSem
public import proofs.«01_k».proof.Proof.Gen.ReferenceGatesIdeal.Read
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.ReferenceGatesIdeal.Read

open Cert.ReferenceGatesIdeal Cert.ReferenceGatesIdeal.Gen

open Cert.Reals Cert.Post Cert.Gates

variable (x0 : Vec Ideal S2048x128 .f32) (x1 x2 : Vec Ideal S1x4 .f32) (x3 : Vec Ideal S2048x128 .f32)

theorem r_sp (i : Fin 2048) (h : Fin 4) : val_main_v15_0 (F := Ideal) x0 x2 (ix2 i h) = spE ((x0 (ix2 i (⟨4 + h.val, by omega⟩ : Fin 128)) : EReal) + x2 (ix2 0 h)) := by
  pointwise [val_main_v15_0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_v14, val_main_v13, val_main_v12]
  rw [if_neg (not_not.2 rfl)]
  rfl

theorem r_de (i : Fin 2048) (h : Fin 4) : val_main_v15_1 (F := Ideal) x0 x2 (ix2 i h) = sgE ((x0 (ix2 i (⟨4 + h.val, by omega⟩ : Fin 128)) : EReal) + x2 (ix2 0 h)) := by
  pointwise [val_main_v15_1, val_main_call0_v21, val_main_call0_v20, val_main_call0_v19, val_main_call0_v18, val_main_call0_v17, val_main_call0_v16, val_main_call0_v15, val_main_call0_v14, val_main_call0_v13, val_main_call0_cst_0, val_main_call0_cst_1, val_main_call0_cst_2, val_main_call0_cst_3, val_main_v14, val_main_v13, val_main_v12]
  rw [r_sp, top_word]
  exact der _

theorem r_33 (i : Fin 2048) (l : Fin 128) : val_main_v33 (F := Ideal) x0 x1 x2 x3 (ix2 i l)
    = (if h : 4 ≤ l.val ∧ l.val - 4 < 4 then -Ideal.exp (x1 (ix2 0 (⟨l.val - 4, h.2⟩ : Fin 4))) * x3 (ix2 i (⟨4 + (l.val - 4), by omega⟩ : Fin 128))
          * sgE ((x0 (ix2 i (⟨4 + (l.val - 4), by omega⟩ : Fin 128)) : EReal) + x2 (ix2 0 (⟨l.val - 4, h.2⟩ : Fin 4))) else (0 : EReal))
      + if l.val < 4 then x3 (ix2 i l) * (sgE (x0 (ix2 i l)) * (1 - sgE (x0 (ix2 i l)))) else 0 := by
  pointwise [val_main_v33, val_main_v32, val_main_v31, val_main_v28, val_main_v25, val_main_v21, val_main_v20, val_main_v19, val_main_v18, val_main_v11, val_main_v10, val_main_v9, val_main_v8, val_main_v7, val_main_v6, val_main_v5, val_main_v4, val_main_v3, val_main_v2, val_main_v1, val_main_v0, val_main_cst, val_main_cst_0, val_main_cst_1, val_main_cst_4, val_main_cst_5]
  simp only [r_de]
  rfl

theorem int_zero : FloatOps.sitofp (F := Ideal) FTy.f32 0#32 = (0 : EReal) := by
  show (((0#32 : BitVec 32).toInt : ℝ) : EReal) = 0
  simp

theorem pad_2 (j : S_.Idx) : val_main_call2_v0 (F := Ideal) j = 0 := by pointwise! [val_main_call2_v0, val_main_c]; exact int_zero
theorem pad_3 (j : S_.Idx) : val_main_call3_v0 (F := Ideal) j = 0 := by pointwise! [val_main_call3_v0, val_main_c_6]; exact int_zero

theorem r_34 (l : Fin 128) : val_main_v34 (F := Ideal) x0 x1 x2 x3 (ix2 0 l)
    = if h : 4 ≤ l.val ∧ l.val - 4 < 4 then (-∑ i : Fin 2048, x3 (ix2 i (⟨4 + (l.val - 4), by omega⟩ : Fin 128))
          * spE ((x0 (ix2 i (⟨4 + (l.val - 4), by omega⟩ : Fin 128)) : EReal) + x2 (ix2 0 (⟨l.val - 4, h.2⟩ : Fin 4)))) * Ideal.exp (x1 (ix2 0 (⟨l.val - 4, h.2⟩ : Fin 4)))
      else (0 : EReal) := by
  pointwise [val_main_v34, val_main_v30, val_main_v29, val_main_v24, val_main_v23, val_main_v22, val_main_v19, val_main_v10, val_main_cst_2]
  simp only [r_sp, pad_2]

theorem r_35 (l : Fin 128) : val_main_v35 (F := Ideal) x0 x1 x2 x3 (ix2 0 l)
    = if h : 4 ≤ l.val ∧ l.val - 4 < 4 then ∑ i : Fin 2048, -Ideal.exp (x1 (ix2 0 (⟨l.val - 4, h.2⟩ : Fin 4))) * x3 (ix2 i (⟨4 + (l.val - 4), by omega⟩ : Fin 128))
          * sgE ((x0 (ix2 i (⟨4 + (l.val - 4), by omega⟩ : Fin 128)) : EReal) + x2 (ix2 0 (⟨l.val - 4, h.2⟩ : Fin 4)))
      else (0 : EReal) := by
  pointwise [val_main_v35, val_main_v27, val_main_v26, val_main_v25, val_main_v21, val_main_v20, val_main_v19, val_main_v11, val_main_v10, val_main_cst_3]
  simp only [r_de, pad_3]

end Cert.ReferenceGatesIdeal.Read

end
-- ==== Proof.GaVal.lean ====
module

public import proofs.«01_k».proof.Proof.GaKer
public import proofs.«01_k».proof.Proof.GaRef

@[expose] public section

set_option maxRecDepth 16384

noncomputable section

open Idealize.ShloMosaic Idealize.ShloMosaic.TcCoe Idealize.SL.Sem
open Idealize.ShloMosaic.Pipeline (Dat)
open scoped BigOperators

namespace Cert.KernelGatesIdeal.Value

open Cert.KernelGatesIdeal Cert.KernelGatesIdeal.Gen

variable (m : (ℓ : Loc nD τ sig) → Buf (Elt Ideal) ℓ)
open Cert.Reals Cert.Post Cert.Gates Cert.ReferenceGatesIdeal.Read

/-! The two arguments the kernel reads padded to all lanes. -/

theorem pad_lane (a : Vec Ideal S1x4 .f32) (l : Fin 128) : (pad S1x128 ![0, 4] ![0, 120] ![0, 0] a
    (sitofp (F := Ideal) .f32 (constantI S_ 32 0#32)) pads_S1x4_S1x128_000_41200 h_S_ : Vec Ideal S1x128 .f32) (ix2 0 l)
    = if h : 4 ≤ l.val ∧ l.val - 4 < 4 then a (ix2 0 (⟨l.val - 4, h.2⟩ : Fin 4)) else (0 : EReal) := by
  pointwise []
  simp only [int_zero]

theorem pad_a (c : Dev nD) (l : Fin 128) : (V m c main_v0 : Vec Ideal S1x128 .f32) (ix2 0 l)
    = if h : 4 ≤ l.val ∧ l.val - 4 < 4 then (m ((c : Thread nD τ).loc main_arg1) : Vec Ideal S1x4 .f32) (ix2 0 (⟨l.val - 4, h.2⟩ : Fin 4)) else (0 : EReal) := by
  simp only [V, hostOps0, hostOps0_1, hostOps0_2, hostOps0_3, List.flatten_cons, List.flatten_nil, List.append_nil, List.cons_append, List.nil_append]
  entry_read
  refine Eq.trans (b := (pad S1x128 ![0, 4] ![0, 120] ![0, 0] (m ((c : Thread nD τ).loc main_arg1) : Vec Ideal S1x4 .f32)
    (sitofp (F := Ideal) .f32 (constantI S_ 32 0#32)) pads_S1x4_S1x128_000_41200 h_S_ : Vec Ideal S1x128 .f32) (ix2 0 l)) rfl ?_
  exact pad_lane _ l

theorem pad_b (c : Dev nD) (l : Fin 128) : (V m c main_v1 : Vec Ideal S1x128 .f32) (ix2 0 l)
    = if h : 4 ≤ l.val ∧ l.val - 4 < 4 then (m ((c : Thread nD τ).loc main_arg2) : Vec Ideal S1x4 .f32) (ix2 0 (⟨l.val - 4, h.2⟩ : Fin 4)) else (0 : EReal) := by
  simp only [V, hostOps0, hostOps0_1, hostOps0_2, hostOps0_3, List.flatten_cons, List.flatten_nil, List.append_nil, List.cons_append, List.nil_append]
  entry_read
  refine Eq.trans (b := (pad S1x128 ![0, 4] ![0, 120] ![0, 0] (m ((c : Thread nD τ).loc main_arg2) : Vec Ideal S1x4 .f32)
    (sitofp (F := Ideal) .f32 (constantI S_ 32 0#32)) pads_S1x4_S1x128_000_41200 h_S_ : Vec Ideal S1x128 .f32) (ix2 0 l)) rfl ?_
  exact pad_lane _ l

/-- Every window's block index at the only grid point. -/
theorem idx_val : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem b_0 (c : Dev nD) (t : Fin cfg0.N) (i : Fin 2048) (l : Fin 128) :
    (iblk m c 0 t : Vec Ideal S2048x128 .f32) (ix2 i l) = m ((c : Thread nD τ).loc main_arg0) (ix2 i l) := by
  blk_simp [iblk, idx_val t]
  rw [V_main_arg0]
  exact congrArg _ (by blk_ext [idx_val t])
theorem b_3 (c : Dev nD) (t : Fin cfg0.N) (i : Fin 2048) (l : Fin 128) :
    (iblk m c 3 t : Vec Ideal S2048x128 .f32) (ix2 i l) = m ((c : Thread nD τ).loc main_arg3) (ix2 i l) := by
  blk_simp [iblk, idx_val t]
  rw [V_main_arg3]
  exact congrArg _ (by blk_ext [idx_val t])
theorem b_1 (c : Dev nD) (t : Fin cfg0.N) (l : Fin 128) : (iblk m c 1 t : Vec Ideal S1x128 .f32) (ix2 0 l)
    = if h : 4 ≤ l.val ∧ l.val - 4 < 4 then (m ((c : Thread nD τ).loc main_arg1) : Vec Ideal S1x4 .f32) (ix2 0 (⟨l.val - 4, h.2⟩ : Fin 4)) else (0 : EReal) := by
  refine Eq.trans ?_ (pad_a m c l)
  blk_simp [iblk, idx_val t]
  exact congrArg _ (by blk_ext [idx_val t])
theorem b_2 (c : Dev nD) (t : Fin cfg0.N) (l : Fin 128) : (iblk m c 2 t : Vec Ideal S1x128 .f32) (ix2 0 l)
    = if h : 4 ≤ l.val ∧ l.val - 4 < 4 then (m ((c : Thread nD τ).loc main_arg2) : Vec Ideal S1x4 .f32) (ix2 0 (⟨l.val - 4, h.2⟩ : Fin 4)) else (0 : EReal) := by
  refine Eq.trans ?_ (pad_b m c l)
  blk_simp [iblk, idx_val t]
  exact congrArg _ (by blk_ext [idx_val t])
theorem emb_4 (t : Fin cfg0.N) (y : S2048x128.Idx) : (((cfg0.win 4).blk t).view.emb y : S2048x128.Idx) = ix2 (y 0) (y 1) := by blk_ext [idx_val t]
theorem emb_5 (t : Fin cfg0.N) (y : S1x128.Idx) : (((cfg0.win 5).blk t).view.emb y : S1x128.Idx) = ix2 0 (y 1) := by blk_ext [idx_val t]
theorem emb_6 (t : Fin cfg0.N) (y : S1x128.Idx) : (((cfg0.win 6).blk t).view.emb y : S1x128.Idx) = ix2 0 (y 1) := by blk_ext [idx_val t]

section
variable {y0 x0 : Vec Ideal S2048x128 .f32} {a b : Vec Ideal S1x4 .f32} {x1 x2 : Vec Ideal S1x128 .f32} {y3 x3 : Vec Ideal S2048x128 .f32}
  (h0 : ∀ (i : Fin 2048) (l : Fin 128), x0 (ix2 i l) = y0 (ix2 i l)) (h3 : ∀ (i : Fin 2048) (l : Fin 128), x3 (ix2 i l) = y3 (ix2 i l))
  (h1 : ∀ l : Fin 128, x1 (ix2 0 l) = if h : 4 ≤ l.val ∧ l.val - 4 < 4 then a (ix2 0 (⟨l.val - 4, h.2⟩ : Fin 4)) else (0 : EReal))
  (h2 : ∀ l : Fin 128, x2 (ix2 0 l) = if h : 4 ≤ l.val ∧ l.val - 4 < 4 then b (ix2 0 (⟨l.val - 4, h.2⟩ : Fin 4)) else (0 : EReal))
include h0 h1 h2 h3

/-! The three results over one point's blocks are the reference's. -/

theorem out4_entry (i : Fin 2048) (l : Fin 128) : out0_4 x0 x1 x2 x3 (ix2 i l) = val_main_v33 (F := Ideal) y0 a b y3 (ix2 i l) := by
  unfold out0_4
  frame_out
  rw [k_out4, r_33]
  simp only [h0, h3]
  by_cases h4 : l.val < 4
  · rw [if_pos h4, dif_neg (by omega), if_pos h4, zero_add, mul_assoc]
  · rw [if_neg h4, if_neg h4, add_zero]
    by_cases h8 : 4 ≤ l.val ∧ l.val - 4 < 4
    · have e : (⟨4 + (l.val - 4), by omega⟩ : Fin 128) = l := Fin.ext (by dsimp only; omega)
      rw [if_pos (by omega), dif_pos h8, h1, h2, dif_pos h8, dif_pos h8, e]
      exact congrArg (fun z : EReal => z * _) (mul_comm _ _)
    · rw [if_neg (by omega), dif_neg h8]

theorem out6_entry (l : Fin 128) : out0_6 x0 x1 x2 x3 (ix2 0 l) = val_main_v35 (F := Ideal) y0 a b y3 (ix2 0 l) := by
  unfold out0_6
  frame_out
  rw [k_out6, r_35]
  simp only [h0, h3]
  by_cases h8 : 4 ≤ l.val ∧ l.val - 4 < 4
  · have e : (⟨4 + (l.val - 4), by omega⟩ : Fin 128) = l := Fin.ext (by dsimp only; omega)
    rw [if_pos (by omega), dif_pos h8, h1, h2, dif_pos h8, dif_pos h8, e]
    exact Finset.sum_congr rfl fun i _ => congrArg (fun z : EReal => z * _) (mul_comm _ _)
  · rw [if_neg (by omega), dif_neg h8]

theorem out5_entry (hs : ∀ (i : Fin 2048) (h : Fin 4), IsReal (y0 (ix2 i (⟨4 + h.val, by omega⟩ : Fin 128)))) (ha : ∀ h : Fin 4, IsReal (a (ix2 0 h)))
    (hb : ∀ h : Fin 4, IsReal (b (ix2 0 h))) (hd : ∀ (i : Fin 2048) (h : Fin 4), IsReal (y3 (ix2 i (⟨4 + h.val, by omega⟩ : Fin 128)))) (l : Fin 128) :
    out0_5 x0 x1 x2 x3 (ix2 0 l) = val_main_v34 (F := Ideal) y0 a b y3 (ix2 0 l) := by
  unfold out0_5
  frame_out
  rw [k_out5, r_34]
  simp only [h0, h3]
  by_cases h8 : 4 ≤ l.val ∧ l.val - 4 < 4
  · have e : (⟨4 + (l.val - 4), by omega⟩ : Fin 128) = l := Fin.ext (by dsimp only; omega)
    have hs := fun i => hs i ⟨l.val - 4, h8.2⟩
    have hd := fun i => hd i ⟨l.val - 4, h8.2⟩
    rw [if_pos (by omega), dif_pos h8, h1, h2, dif_pos h8, dif_pos h8]
    simp only [e] at hs hd ⊢
    refine factor hd (fun i => ?_) ?_
    · obtain ⟨z, hz⟩ := (hs i).add (hb ⟨l.val - 4, h8.2⟩)
      exact ⟨sp z, (congrArg spE hz).trans (spE_real z)⟩
    · obtain ⟨z, hz⟩ := ha ⟨l.val - 4, h8.2⟩
      exact ⟨Real.exp z, (congrArg Ideal.exp hz).trans (Ideal.exp_coe z)⟩
  · rw [if_neg (by omega), dif_neg h8]
end

theorem final_4 (c : Dev nD) : (dats m 0 c).arrAt 4 (cfgs 0).N
    = val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hy : (y : S2048x128.Idx) = ix2 (y 0) (y 1) := by funext a; match a with | ⟨0, _⟩ => rfl | ⟨1, _⟩ => rfl
  refine Eq.trans ?_ (congrArg _ (emb_4 t y).symm)
  refine Eq.trans ?_ (out4_entry (b_0 m c t) (b_3 m c t) (b_1 m c t) (b_2 m c t) (y 0) (y 1))
  blk_simp; rw [after0_4]
  exact congrArg _ hy

theorem final_6 (c : Dev nD) : (dats m 0 c).arrAt 6 (cfgs 0).N
    = val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have hy : (y : S1x128.Idx) = ix2 0 (y 1) := by funext a; match a with | ⟨0, _⟩ => exact Subsingleton.elim (α := Fin 1) _ _ | ⟨1, _⟩ => rfl
  refine Eq.trans ?_ (congrArg _ (emb_6 t y).symm)
  refine Eq.trans ?_ (out6_entry (b_0 m c t) (b_3 m c t) (b_1 m c t) (b_2 m c t) (y 1))
  blk_simp; rw [after0_6]
  exact congrArg _ hy

theorem final_5 (c : Dev nD) (hs : ∀ (i : Fin 2048) (h : Fin 4), IsReal ((m ((c : Thread nD τ).loc main_arg0) : Vec Ideal S2048x128 .f32) (ix2 i (⟨4 + h.val, by omega⟩ : Fin 128))))
    (ha : ∀ h : Fin 4, IsReal ((m ((c : Thread nD τ).loc main_arg1) : Vec Ideal S1x4 .f32) (ix2 0 h)))
    (hb : ∀ h : Fin 4, IsReal ((m ((c : Thread nD τ).loc main_arg2) : Vec Ideal S1x4 .f32) (ix2 0 h)))
    (hd : ∀ (i : Fin 2048) (h : Fin 4), IsReal ((m ((c : Thread nD τ).loc main_arg3) : Vec Ideal S2048x128 .f32) (ix2 i (⟨4 + h.val, by omega⟩ : Fin 128)))) :
    (dats m 0 c).arrAt 5 (cfgs 0).N
    = val_main_v34 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hy : (y : S1x128.Idx) = ix2 0 (y 1) := by funext a; match a with | ⟨0, _⟩ => exact Subsingleton.elim (α := Fin 1) _ _ | ⟨1, _⟩ => rfl
  refine Eq.trans ?_ (congrArg _ (emb_5 t y).symm)
  refine Eq.trans ?_ (out5_entry (b_0 m c t) (b_3 m c t) (b_1 m c t) (b_2 m c t) hs ha hb hd (y 1))
  blk_simp; rw [after0_5]
  exact congrArg _ hy

end Cert.KernelGatesIdeal.Value

end
-- ==== Proof.GaClaim.lean ====
module

public import proofs.«01_k».proof.Proof.GaVal
public import proofs.«01_k».proof.Proof.PoPre
public import proofs.«01_k».proof.Proof.Gen.Pre_finite_gates
public import proofs.«01_k».proof.Proof.Gen.ReferenceGatesIdeal.Run
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

namespace Cert.KernelGatesIdeal.Value

open Cert.KernelGatesIdeal Cert.KernelGatesIdeal.Gen

variable (m : (ℓ : Loc nD τ sig) → Buf (Elt Ideal) ℓ)
open Cert.Reals
open Cert.KernelPostIdeal.Value (and_one all_real)

instance : Subsingleton Cert.Pre_finite_gates.S_.Idx := ⟨fun a b => funext fun d => d.elim0⟩

/-- The reference's run leaves its arguments as they were, and every counter at zero. -/
theorem reference_frame : Cert.quiescent_ReferenceGatesIdeal := fun m g _ =>
  (θ_run (Cert.ReferenceGatesIdeal.defs (F := Ideal)) _ _).mono (fun r h => And.intro (fun c => (h c).2.2.2)
      (Idealize.ShloMosaic.sem_eq_zero_of_no_sems (by decide) r.2))
    (Cert.ReferenceGatesIdeal.Value.run (F := Ideal) m g)

/-- Under the precondition the lanes of the decay are real, in every argument. -/
theorem realArgs (h : Cert.Pre_KernelGatesIdeal_finite_gates m) (c : Dev nD) :
    (∀ (i : Fin 2048) (h : Fin 4), IsReal ((m ((c : Thread nD τ).loc main_arg0) : Vec Ideal S2048x128 .f32) (ix2 i (⟨4 + h.val, by omega⟩ : Fin 128))))
    ∧ (∀ h : Fin 4, IsReal ((m ((c : Thread nD τ).loc main_arg1) : Vec Ideal S1x4 .f32) (ix2 0 h)))
    ∧ (∀ h : Fin 4, IsReal ((m ((c : Thread nD τ).loc main_arg2) : Vec Ideal S1x4 .f32) (ix2 0 h)))
    ∧ ∀ (i : Fin 2048) (h : Fin 4), IsReal ((m ((c : Thread nD τ).loc main_arg3) : Vec Ideal S2048x128 .f32) (ix2 i (⟨4 + h.val, by omega⟩ : Fin 128))) := by
  have h := h c
  unfold Cert.Pre_finite_gates.fn Cert.Pre_finite_gates.fn_part1 at h
  dsimp only at h
  obtain ⟨h, e3⟩ := and_one h
  obtain ⟨h, e2⟩ := and_one h
  obtain ⟨e0, e1⟩ := and_one h
  have lane (x : Vec Ideal S2048x128 .f32) (i : Fin 2048) (h : Fin 4) {hs} :
      (extractStridedSlice Cert.Pre_finite_gates.S2048x4 ![0, 4] x hs : Vec Ideal Cert.Pre_finite_gates.S2048x4 .f32) (ix2 i h) = x (ix2 i (⟨4 + h.val, by omega⟩ : Fin 128)) := by
    pointwise []
  refine ⟨fun i h => ?_, fun h => ⟨_, all_real ix0 (fun _ => rfl) e1 (ix2 0 h)⟩, fun h => ⟨_, all_real ix0 (fun _ => rfl) e2 (ix2 0 h)⟩, fun i h => ?_⟩
  · exact ⟨_, (lane _ i h).symm.trans (all_real ix0 (fun _ => rfl) e0 (ix2 i h))⟩
  · exact ⟨_, (lane _ i h).symm.trans (all_real ix0 (fun _ => rfl) e3 (ix2 i h))⟩

set_option maxHeartbeats 2000000 in
/-- The kernel and the reference end at the same arrays. -/
theorem algebraic : Cert.algebraic_KernelGatesIdeal_ReferenceGatesIdeal_pre_finite_gates := by
  intro m g m' g' hpre hagree
  refine ⟨fun c => Cert.ReferenceGatesIdeal.Read.val_main_v33 (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)),
    fun c => Cert.ReferenceGatesIdeal.Read.val_main_v34 (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)),
    fun c => Cert.ReferenceGatesIdeal.Read.val_main_v35 (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)), ?_, ?_⟩
  · refine (θ_run _ _ _).mono (fun r h c => ?_) (run_blocks m g)
    obtain ⟨h0, h1, h2, hk⟩ := h c
    obtain ⟨r0, r1, r2, r3⟩ := realArgs m hpre c
    exact ⟨h0.trans (final_4 m c), h1.trans (final_5 m c r0 r1 r2 r3), h2.trans (final_6 m c), hk⟩
  · refine (θ_run _ _ _).mono (fun r h c => ?_) (Cert.ReferenceGatesIdeal.Value.run (F := Ideal) m' g')
    obtain ⟨h0, h1, h2, hk⟩ := h c
    obtain ⟨e0, e1, e2, e3⟩ := hagree c
    refine ⟨h0.trans ?_, h1.trans ?_, h2.trans ?_, hk⟩
    · refine (Cert.ReferenceGatesIdeal.Read.val_main_v33_eq m' c).trans ?_
      rw [e0, e1, e2, e3]
    · refine (Cert.ReferenceGatesIdeal.Read.val_main_v34_eq _ _ _ _).trans ?_
      rw [e0, e1, e2, e3]
    · refine (Cert.ReferenceGatesIdeal.Read.val_main_v35_eq m' c).trans ?_
      rw [e0, e1, e2, e3]

end Cert.KernelGatesIdeal.Value

end
-- ==== Proof.GsVal.lean ====
module

public import proofs.«01_k».proof.Proof.Gen.KernelGsIdeal.Value
public import proofs.«01_k».proof.Proof.Gen.KernelGsIdeal.Frame
public import proofs.«01_k».proof.Proof.Gen.ReferenceGsIdeal.Read
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelGsIdeal.Value

open Cert.KernelGsIdeal Cert.KernelGsIdeal.Gen

variable (m : (ℓ : Loc nD τ sig) → Buf (Elt Ideal) ℓ)
open Cert.ReferenceGsIdeal.Read

/-- Every window's block index at every grid point. -/
theorem idx_val : ∀ t : Fin cfg0.N, win0_0.index t = ![0, t.val] ∧ win0_1.index t = ![t.val, 0] ∧ win0_2.index t = ![0, 0] :=
  (by decide +kernel : ∀ t : Fin grid0.N, _)

/-- The row a block's row is. -/
abbrev row (t : Fin cfg0.N) (p : Fin 512) : Fin 2048 := ⟨512 * t.val + p.val, by have := t.isLt.trans_eq N_0; omega⟩

/-- One entry of the gradient: a sum over the rows. -/
theorem v15_apply (x0 : Vec Ideal Cert.ReferenceGsIdeal.S2048x1024 .f32) (x1 : Vec Ideal Cert.ReferenceGsIdeal.S1x1024 .f32)
    (x2 : Vec Ideal Cert.ReferenceGsIdeal.S2048x128 .f32) (d : Fin 1024) (l : Fin 128) :
    val_main_v15 (F := Ideal) x0 x1 x2 (ix2 d l) = ∑ i : Fin 2048, val_main_v12 (F := Ideal) x0 x1 (ix2 i d) * x2 (ix2 i l) := by
  have h : val_main_v15 (F := Ideal) x0 x1 x2 (ix2 d l) = ∑ i : Fin 2048, x2 (ix2 i l) * val_main_v12 (F := Ideal) x0 x1 (ix2 i d) := by
    pointwise [val_main_v15, val_main_v14]
  rw [h]
  exact Finset.sum_congr rfl fun i _ => mul_comm _ _

/-- A block's part of an entry. -/
def part (h : Vec Ideal S1024x512 .bf16) (x : Vec Ideal S512x128 .f32) (d : Fin 1024) (l : Fin 128) : EReal := ∑ p : Fin 512, h (ix2 d p) * x (ix2 p l)

/-- A block's part of an entry, added to what is there. -/
theorem pay2_apply (acc : Vec Ideal S1024x128 .f32) (h : Vec Ideal S1024x512 .bf16) (x : Vec Ideal S512x128 .f32) (j : S1024x128.Idx) :
    k0_pay2 acc h x j = (acc j : EReal) + part h x (j 0) (j 1) := by
  pointwise [k0_pay2, part]

theorem pay1_apply (j : S1024x128.Idx) : k0_pay1 (F := Ideal) j = 0 := by pointwise! [k0_pay1]

theorem h_eq (c : Dev nD) (t : Fin cfg0.N) (d : Fin 1024) (p : Fin 512) :
    (iblk m c 0 t : Vec Ideal S1024x512 .bf16) (ix2 d p)
      = val_main_v12 (F := Ideal) (m ((c : Thread nD τ).loc main_arg0)) (m ((c : Thread nD τ).loc main_arg1)) (ix2 (row t p) d) := by
  blk_simp [iblk, V, idx_val t]
  entry_read
  pointwise [val_main_v12, val_main_v11, val_main_v10, val_main_v9, val_main_v8, val_main_v7, val_main_v6, val_main_v5, val_main_v4, val_main_v3, val_main_v2, val_main_v1, val_main_cst_0, val_main_cst_1, val_main_cst_2]
  blk_point [iblk, V, idx_val t]

theorem x_eq (c : Dev nD) (t : Fin cfg0.N) (p : Fin 512) (l : Fin 128) :
    (iblk m c 1 t : Vec Ideal S512x128 .f32) (ix2 p l) = m ((c : Thread nD τ).loc main_arg2) (ix2 (row t p) l) := by
  blk_point [iblk, V, idx_val t]

theorem final_2 (c : Dev nD) : (dats m 0 c).arrAt 2 (cfgs 0).N
    = val_main_v15 (F := Ideal) (m ((c : Thread nD τ).loc main_arg0)) (m ((c : Thread nD τ).loc main_arg1)) (m ((c : Thread nD τ).loc main_arg2)) := by
  refine (dats m 0 c).arrAt_eq_of_after_last 2 t0_3 (by decide +kernel) _ fun j => ?_
  blk_simp
  rw [after0_2, Pipeline.eq_sum_fin_of_reset_step_apply_last (fun n h => outsAt0 m c n h) 4 (fun _ => 0)
    (fun t j => part (iblk m c 0 t) (iblk m c 1 t) (j 0) (j 1))
    (fun t h j => by rw [outsAt0_A m c t h, out_A_2_eq, pay2_apply, pay1_apply])
    (fun t h j => by rw [outsAt0_B m c t h, out_B_2_eq, pay2_apply])
    (le_of_eq N_0) t0_3 rfl j, zero_add]
  have hj : (j : S1024x128.Idx) = ix2 (j 0) (j 1) := by funext a; match a with | ⟨0, _⟩ => rfl | ⟨1, _⟩ => rfl
  refine Eq.trans ?_ ((v15_apply _ _ _ (j 0) (j 1)).symm.trans (congrArg _ hj.symm))
  unfold part
  refine Fin.sum_mul_add_congr fun s k hl => ?_
  have e : (⟨s.val * 512 + k.val, hl⟩ : Fin 2048) = row s k := Fin.ext (by dsimp only; omega)
  exact (congrArg₂ (fun a b : EReal => a * b) (h_eq m c s (j 0) k) (x_eq m c s k (j 1))).trans (by rw [e])

end Cert.KernelGsIdeal.Value

end
-- ==== Proof.GsClaim.lean ====
module

public import proofs.«01_k».proof.Defs
public import proofs.«01_k».proof.Proof.GsVal
public import proofs.«01_k».proof.Proof.Gen.ReferenceGsIdeal.Run

@[expose] public section

set_option maxRecDepth 16384

noncomputable section

open Idealize.ShloMosaic Idealize.ShloMosaic.TcCoe Idealize.SL.Sem
open Idealize.ShloMosaic.Pipeline (Dat)
open scoped BigOperators

namespace Cert.KernelGsIdeal.Value

open Cert.KernelGsIdeal Cert.KernelGsIdeal.Gen

/-- The reference's run leaves its arguments as they were, and every counter at zero. -/
theorem reference_frame : Cert.quiescent_ReferenceGsIdeal := fun m g _ =>
  (θ_run (Cert.ReferenceGsIdeal.defs (F := Ideal)) _ _).mono (fun r h => And.intro (fun c => (h c).2)
      (Idealize.ShloMosaic.sem_eq_zero_of_no_sems (by decide) r.2))
    (Cert.ReferenceGsIdeal.Value.run (F := Ideal) m g)

/-- The kernel and the reference end at the same arrays. -/
theorem algebraic : Cert.algebraic_KernelGsIdeal_ReferenceGsIdeal := by
  intro m g m' g' hpre hagree
  refine ⟨fun c => Cert.ReferenceGsIdeal.Read.val_main_v15 (F := Ideal) (m ((c.tc : Thread Cert.KernelGsIdeal.nD Cert.KernelGsIdeal.τ).loc Cert.KernelGsIdeal.main_arg0)) (m ((c.tc : Thread Cert.KernelGsIdeal.nD Cert.KernelGsIdeal.τ).loc Cert.KernelGsIdeal.main_arg1)) (m ((c.tc : Thread Cert.KernelGsIdeal.nD Cert.KernelGsIdeal.τ).loc Cert.KernelGsIdeal.main_arg2)), ?_, ?_⟩
  · exact (θ_run _ _ _).mono (fun r h c => ⟨(h c).1.trans (final_2 m c), (h c).2⟩) (run_blocks m g)
  · refine (θ_run _ _ _).mono (fun r h c => ⟨(h c).1.trans ?_, (h c).2⟩) (Cert.ReferenceGsIdeal.Value.run (F := Ideal) m' g')
    · obtain ⟨e0, e1, e2⟩ := hagree c
      refine (Cert.ReferenceGsIdeal.Read.val_main_v15_eq _ _ _ ).trans ?_
      rw [e0, e1, e2]

end Cert.KernelGsIdeal.Value

end
-- ==== Proof.AdVal.lean ====
module

public import proofs.«01_k».proof.Proof.Gen.KernelAdamIdeal.Value
public import proofs.«01_k».proof.Proof.Gen.ReferenceAdamIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelAdamIdeal.Value

open Cert.KernelAdamIdeal Cert.KernelAdamIdeal.Gen

variable (m : (ℓ : Loc nD τ sig) → Buf (Elt Ideal) ℓ)
open Cert.ReferenceAdamIdeal.Read

section
variable (x0 : Vec Ideal S8x128x1024 .bf16) (x1 x2 x3 : Vec Ideal S128x1024 .f32)

/-- The sum over the eight parts. -/
theorem sum_parts : k0_pay5 (F := Ideal) x0 x1 x2 x3 = val_main_v1 (F := Ideal) x0 := by
  funext j
  have h : val_main_v1 (F := Ideal) x0 j = ∑ k : Fin 8, x0 (idx_main_v1 j k) := by
    rw [val_main_v1_apply]
    pointwise [val_main_v0, val_main_cst]
  rw [h, Fin.sum_univ_eight]
  have e : ∀ k : Fin 8, idx_main_v1 j k = ix3 k (j 0) (j 1) := fun k => by
    funext a
    match a with
    | ⟨0, _⟩ => rfl
    | ⟨1, _⟩ => rfl
    | ⟨2, _⟩ => rfl
  simp only [e]
  pointwise [k0_pay5, k0_pay4]

/-- The first moment. -/
theorem moment : G6 (F := Ideal) x0 x1 x2 x3 = val_main_v6 (F := Ideal) x0 x2 := by
  unfold G6
  rw [sum_parts]
  funext j
  unfold val_main_v6 val_main_v5
  generalize val_main_v1 (F := Ideal) x0 = g
  pointwise [k0_pay1, val_main_v4, val_main_v3, val_main_v2, val_main_cst_0, val_main_cst_1]

/-- The second moment. -/
theorem square : G7 (F := Ideal) x0 x1 x2 x3 = val_main_v12 (F := Ideal) x0 x3 := by
  unfold G7
  rw [sum_parts]
  funext j
  unfold val_main_v12 val_main_v11 val_main_v9
  generalize val_main_v1 (F := Ideal) x0 = g
  pointwise [k0_pay2, val_main_v8, val_main_v7, val_main_v10, val_main_cst_2, val_main_cst_3]

/-- The update. -/
theorem delta : G5 (F := Ideal) x0 x1 x2 x3 = val_main_v25 (F := Ideal) x0 x1 x2 x3 := by
  unfold G5
  rw [sum_parts]
  funext j
  unfold val_main_v25 val_main_v23 val_main_v20 val_main_v19 val_main_v17 val_main_v16 val_main_v14 val_main_v12 val_main_v11 val_main_v9 val_main_v6 val_main_v5
  generalize val_main_v1 (F := Ideal) x0 = g
  pointwise [k0_pay3, k0_pay1, k0_pay2, val_main_v4, val_main_v3, val_main_v2, val_main_v8, val_main_v7, val_main_v10, val_main_v13, val_main_v15, val_main_v18, val_main_v21, val_main_v22, val_main_v24, val_main_cst_0, val_main_cst_1, val_main_cst_2, val_main_cst_3, val_main_cst_4, val_main_cst_5, val_main_cst_6, val_main_cst_7, val_main_cst_8]
end

end Cert.KernelAdamIdeal.Value

end
-- ==== Proof.AdClaim.lean ====
module

public import proofs.«01_k».proof.Defs
public import proofs.«01_k».proof.Proof.AdVal
public import proofs.«01_k».proof.Proof.Gen.ReferenceAdamIdeal.Run

@[expose] public section

set_option maxRecDepth 16384

noncomputable section

open Idealize.ShloMosaic Idealize.ShloMosaic.TcCoe Idealize.SL.Sem
open Idealize.ShloMosaic.Pipeline (Dat)
open scoped BigOperators

namespace Cert.KernelAdamIdeal.Value

open Cert.KernelAdamIdeal Cert.KernelAdamIdeal.Gen

/-- The reference's run leaves its arguments as they were, and every counter at zero. -/
theorem reference_frame : Cert.quiescent_ReferenceAdamIdeal := fun m g _ =>
  (θ_run (Cert.ReferenceAdamIdeal.defs (F := Ideal)) _ _).mono (fun r h => And.intro (fun c => (h c).2.2.2.2)
      (Idealize.ShloMosaic.sem_eq_zero_of_no_sems (by decide) r.2))
    (Cert.ReferenceAdamIdeal.Value.run (F := Ideal) m g)

/-- The kernel and the reference end at the same arrays. -/
theorem algebraic : Cert.algebraic_KernelAdamIdeal_ReferenceAdamIdeal := by
  intro m g m' g' hpre hagree
  refine ⟨fun c => Cert.ReferenceAdamIdeal.Read.val_main_v1 (F := Ideal) (m ((c.tc : Thread Cert.KernelAdamIdeal.nD Cert.KernelAdamIdeal.τ).loc Cert.KernelAdamIdeal.main_arg0)),
    fun c => Cert.ReferenceAdamIdeal.Read.val_main_v25 (F := Ideal) (m ((c.tc : Thread Cert.KernelAdamIdeal.nD Cert.KernelAdamIdeal.τ).loc Cert.KernelAdamIdeal.main_arg0)) (m ((c.tc : Thread Cert.KernelAdamIdeal.nD Cert.KernelAdamIdeal.τ).loc Cert.KernelAdamIdeal.main_arg1)) (m ((c.tc : Thread Cert.KernelAdamIdeal.nD Cert.KernelAdamIdeal.τ).loc Cert.KernelAdamIdeal.main_arg2)) (m ((c.tc : Thread Cert.KernelAdamIdeal.nD Cert.KernelAdamIdeal.τ).loc Cert.KernelAdamIdeal.main_arg3)),
    fun c => Cert.ReferenceAdamIdeal.Read.val_main_v6 (F := Ideal) (m ((c.tc : Thread Cert.KernelAdamIdeal.nD Cert.KernelAdamIdeal.τ).loc Cert.KernelAdamIdeal.main_arg0)) (m ((c.tc : Thread Cert.KernelAdamIdeal.nD Cert.KernelAdamIdeal.τ).loc Cert.KernelAdamIdeal.main_arg2)),
    fun c => Cert.ReferenceAdamIdeal.Read.val_main_v12 (F := Ideal) (m ((c.tc : Thread Cert.KernelAdamIdeal.nD Cert.KernelAdamIdeal.τ).loc Cert.KernelAdamIdeal.main_arg0)) (m ((c.tc : Thread Cert.KernelAdamIdeal.nD Cert.KernelAdamIdeal.τ).loc Cert.KernelAdamIdeal.main_arg3)), ?_, ?_⟩
  · exact (θ_run _ _ _).mono (fun r h c => ⟨(h c).1.trans (sum_parts _ _ _ _), (h c).2.1.trans (delta _ _ _ _),
      (h c).2.2.1.trans (moment _ _ _ _), (h c).2.2.2.1.trans (square _ _ _ _), (h c).2.2.2.2⟩) (run (F := Ideal) m g)
  · refine (θ_run _ _ _).mono (fun r h c => ⟨(h c).1.trans ?_, (h c).2.1.trans ?_, (h c).2.2.1.trans ?_, (h c).2.2.2.1.trans ?_, (h c).2.2.2.2⟩)
      (Cert.ReferenceAdamIdeal.Value.run (F := Ideal) m' g')
    · refine (Cert.ReferenceAdamIdeal.Read.val_main_v1_eq _).trans ?_
      rw [(hagree c).1]
    · refine (Cert.ReferenceAdamIdeal.Read.val_main_v25_eq _ _ _ _).trans ?_
      rw [(hagree c).1, (hagree c).2.1, (hagree c).2.2.1, (hagree c).2.2.2]
    · refine (Cert.ReferenceAdamIdeal.Read.val_main_v6_eq _ _).trans ?_
      rw [(hagree c).1, (hagree c).2.2.1]
    · refine (Cert.ReferenceAdamIdeal.Read.val_main_v12_eq _ _).trans ?_
      rw [(hagree c).1, (hagree c).2.2.2]

end Cert.KernelAdamIdeal.Value

end
-- ==== Proof.CvRef.lean ====
module

public import proofs.«01_k».proof.Proof.Gen.KernelConvIdeal.Value
public import proofs.«01_k».proof.Proof.Gen.ReferenceConvIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelConvIdeal.Value

open Cert.KernelConvIdeal Cert.KernelConvIdeal.Gen

variable (m : (ℓ : Loc nD τ sig) → Buf (Elt Ideal) ℓ)
open Cert.ReferenceConvIdeal.Read

/-- The column that a block's lane is. -/
abbrev col (b : Fin 12) (l : Fin 128) : Fin 1536 := ⟨128 * b.val + l.val, by omega⟩

/-- The head that a block reads. -/
abbrev src (b : Fin 12) : Fin 24 := ⟨12 + b.val, by omega⟩

section
variable (x0 : Vec Ideal S24x2048x128 .f32) (x1 : Vec Ideal S4x1536 .f32)

/-- The input `s` rows back, zero before the first row. -/
def tap (s : ℕ) (i : Fin 2048) (b : Fin 12) (l : Fin 128) : EReal :=
  if s ≤ i.val then x0 (ix3 (src b) (⟨i.val - s, by omega⟩ : Fin 2048) l) else 0

/-- The convolution of four rows. -/
def pre (i : Fin 2048) (b : Fin 12) (l : Fin 128) : EReal :=
  tap x0 3 i b l * x1 (ix2 0 (col b l)) + tap x0 2 i b l * x1 (ix2 1 (col b l)) + tap x0 1 i b l * x1 (ix2 2 (col b l)) + tap x0 0 i b l * x1 (ix2 3 (col b l))

/-- The activation. -/
def act (p : EReal) : EReal := p * Ideal.div 1 (1 + Ideal.exp (-p))

/-- One entry of a head: queries and keys are normalised, queries also scaled. -/
def head (b : Fin 12) (A : Fin 128 → EReal) (l : Fin 128) : EReal :=
  if b.val < 4 then A l * Ideal.rsqrt (∑ x, A x * A x + Ideal.ofBits .f32 0x358637BD#32) * Ideal.ofBits .f32 0x3DB504F3#32
  else if b.val < 8 then A l * Ideal.rsqrt (∑ x, A x * A x + Ideal.ofBits .f32 0x358637BD#32)
  else A l

theorem v2_col (i : Fin 2048) (b : Fin 12) (l : Fin 128) :
    val_main_v2 (F := Ideal) x0 (ix2 i (col b l)) = x0 (ix3 (src b) i l) := by
  rw [val_main_v2_apply, val_main_v1_apply, val_main_v0_apply]
  refine congrArg x0 (funext fun a => ?_)
  match a with
  | ⟨0, _⟩ => exact Fin.ext (by dsimp only [idx_main_v0, idx_main_v1, idx_main_v2, ix2, ix3]; simp; omega)
  | ⟨1, _⟩ => exact Fin.ext (by dsimp only [idx_main_v0, idx_main_v1, idx_main_v2, ix2, ix3]; simp; omega)
  | ⟨2, _⟩ => exact Fin.ext (by dsimp only [idx_main_v0, idx_main_v1, idx_main_v2, ix2, ix3]; simp; omega)

theorem int_zero : FloatOps.sitofp (F := Ideal) FTy.f32 0#32 = (0 : EReal) := by
  show ((BitVec.toInt 0#32 : ℝ) : EReal) = 0
  simp

theorem v3_apply (r : Fin 2051) (c : Fin 1536) :
    val_main_v3 (F := Ideal) x0 (ix2 r c) = if h : 3 ≤ r.val then val_main_v2 (F := Ideal) x0 (ix2 (⟨r.val - 3, by omega⟩ : Fin 2048) c) else 0 := by
  unfold val_main_v3
  generalize val_main_v2 (F := Ideal) x0 = y
  pointwise [val_main_call0_v0, val_main_c]
  by_cases h : 3 ≤ r.val
  · rw [dif_pos ⟨h, by omega⟩, dif_pos h]
  · rw [dif_neg (fun q => h q.1), dif_neg h]
    exact int_zero

/-- A row of the padded input is a row of the input, or zero. -/
theorem v3_tap (s : ℕ) (i : Fin 2048) (b : Fin 12) (l : Fin 128) (r : Fin 2051) (h0 : r.val + s = i.val + 3) :
    val_main_v3 (F := Ideal) x0 (ix2 r (col b l)) = tap x0 s i b l := by
  rw [v3_apply]
  unfold tap
  by_cases h : s ≤ i.val
  · rw [dif_pos (by omega), if_pos h, v2_col]
    exact congrArg (fun k => x0 (ix3 _ k l)) (Fin.ext (by dsimp only; omega))
  · rw [dif_neg (by omega), if_neg h]

/-- A row of the padded input at an index given by its coordinates. -/
theorem v3_at (s : ℕ) (i : Fin 2048) (b : Fin 12) (l : Fin 128) (j : Cert.ReferenceConvIdeal.S2051x1536.Idx) (r : Fin 2051)
    (h0 : r.val + s = i.val + 3) (hj : j = ix2 r (col b l)) : val_main_v3 (F := Ideal) x0 j = tap x0 s i b l :=
  (congrArg _ hj).trans (v3_tap x0 s i b l r h0)

theorem pre_eq (i : Fin 2048) (b : Fin 12) (l : Fin 128) : val_main_v30 (F := Ideal) x0 x1 (ix2 i (col b l)) = pre x0 x1 i b l := by
  rw [val_main_v30_apply, val_main_v29_apply, val_main_v23_apply, val_main_v22_apply, val_main_v16_apply, val_main_v15_apply, val_main_v9_apply]
  rw [val_main_v4_apply, val_main_v10_apply, val_main_v17_apply, val_main_v24_apply,
    v3_at x0 3 i b l (idx_main_v4 (ix2 i (col b l))) ⟨i.val, by omega⟩ rfl (by funext a; match a with | ⟨0, _⟩ => rfl | ⟨1, _⟩ => rfl),
    v3_at x0 2 i b l (idx_main_v10 (ix2 i (col b l))) ⟨1 + i.val, by omega⟩ (by dsimp only; omega) (by funext a; match a with | ⟨0, _⟩ => rfl | ⟨1, _⟩ => rfl),
    v3_at x0 1 i b l (idx_main_v17 (ix2 i (col b l))) ⟨2 + i.val, by omega⟩ (by dsimp only; omega) (by funext a; match a with | ⟨0, _⟩ => rfl | ⟨1, _⟩ => rfl),
    v3_at x0 0 i b l (idx_main_v24 (ix2 i (col b l))) ⟨3 + i.val, by omega⟩ (by dsimp only; omega) (by funext a; match a with | ⟨0, _⟩ => rfl | ⟨1, _⟩ => rfl)]
  unfold pre
  pointwise [val_main_v28, val_main_v27, val_main_v26, val_main_v25, val_main_v21, val_main_v20, val_main_v19, val_main_v18, val_main_v14, val_main_v13, val_main_v12, val_main_v11, val_main_v8, val_main_v7, val_main_v6, val_main_v5]

theorem act_eq (i : Fin 2048) (c : Fin 1536) : val_main_v31 (F := Ideal) x0 x1 (ix2 i c) = act (val_main_v30 (F := Ideal) x0 x1 (ix2 i c)) := by
  unfold val_main_v31 val_main_call1_v5 val_main_call1_v3 val_main_call1_v1 val_main_call1_v0
  generalize val_main_v30 (F := Ideal) x0 x1 = y
  pointwise [val_main_call1_v4, val_main_call1_v2, val_main_call1_cst, val_main_call1_cst_0, act]

/-- One entry of a head, by the column's number. -/
def byCol (Y : ℕ → EReal) (c : ℕ) : EReal :=
  if c < 512 then Y (c / 128 * 128 + c % 128) * Ideal.rsqrt (∑ x : Fin 128, Y (c / 128 * 128 + x.val) * Y (c / 128 * 128 + x.val) + Ideal.ofBits .f32 0x358637BD#32)
    * Ideal.ofBits .f32 0x3DB504F3#32
  else if c - 512 < 512 then Y (512 + ((c - 512) / 128 * 128 + (c - 512) % 128))
    * Ideal.rsqrt (∑ x : Fin 128, Y (512 + ((c - 512) / 128 * 128 + x.val)) * Y (512 + ((c - 512) / 128 * 128 + x.val)) + Ideal.ofBits .f32 0x358637BD#32)
  else Y (1024 + (c - 512 - 512))

theorem byCol_eq (Y : ℕ → EReal) (b : Fin 12) (l : Fin 128) : byCol Y (128 * b.val + l.val) = head b (fun x => Y (128 * b.val + x.val)) l := by
  have hl : l.val < 128 := l.isLt
  have hb : b.val < 12 := b.isLt
  obtain ⟨c, hc⟩ : ∃ c : ℕ, c = 128 * b.val + l.val := ⟨_, rfl⟩
  unfold head
  rw [← hc]
  unfold byCol
  by_cases h4 : b.val < 4
  · have e : c / 128 * 128 = 128 * b.val := by omega
    have e' : c % 128 = l.val := by omega
    rw [if_pos (show c < 512 by omega), if_pos h4, e, e']
  · rw [if_neg (show ¬ c < 512 by omega), if_neg h4]
    by_cases h8 : b.val < 8
    · have e : ∀ x : ℕ, 512 + ((c - 512) / 128 * 128 + x) = 128 * b.val + x := fun x => by omega
      have e' : (c - 512) % 128 = l.val := by omega
      rw [if_pos (show c - 512 < 512 by omega), if_pos h8, e']
      simp only [e]
    · rw [if_neg (show ¬ c - 512 < 512 by omega), if_neg h8]
      exact congrArg Y (by omega)

theorem v57_byCol (i : Fin 2048) (c : Fin 1536) (Y : ℕ → EReal) (hY : ∀ (p : ℕ) (hp : p < 1536), val_main_v31 (F := Ideal) x0 x1 (ix2 i (⟨p, hp⟩ : Fin 1536)) = Y p) :
    val_main_v57 (F := Ideal) x0 x1 (ix2 i c) = byCol Y c.val := by
  unfold val_main_v57 val_main_v46 val_main_v44 val_main_v43 val_main_v42 val_main_v41 val_main_v40 val_main_v38 val_main_v37 val_main_v36 val_main_v35 val_main_v32 val_main_v56 val_main_v55 val_main_v54 val_main_v53 val_main_v52 val_main_v50 val_main_v49 val_main_v48 val_main_v47 val_main_v33 val_main_v34
  generalize val_main_v31 (F := Ideal) x0 x1 = y at hY ⊢
  pointwise [val_main_cst, val_main_cst_0, val_main_v39, val_main_v45, val_main_cst_1, val_main_cst_2, val_main_cst_3, val_main_v51]
  simp only [hY]
  unfold byCol
  rfl

/-- One entry of the reference's result. -/
theorem v57_apply (i : Fin 2048) (b : Fin 12) (l : Fin 128) :
    val_main_v57 (F := Ideal) x0 x1 (ix2 i (col b l)) = head b (fun x => act (pre x0 x1 i b x)) l := by
  have hY : ∀ (p : ℕ) (hp : p < 1536), val_main_v31 (F := Ideal) x0 x1 (ix2 i (⟨p, hp⟩ : Fin 1536))
      = (fun p : ℕ => if h : p < 1536 then val_main_v31 (F := Ideal) x0 x1 (ix2 i (⟨p, h⟩ : Fin 1536)) else (0 : EReal)) p := fun p hp => by dsimp only; rw [dif_pos hp]
  rw [v57_byCol x0 x1 i (col b l) _ hY]
  refine (byCol_eq _ b l).trans (congrArg (fun A => head b A l) (funext fun x => ?_))
  refine (hY _ (by omega)).symm.trans ?_
  rw [← pre_eq, ← act_eq]
end

end Cert.KernelConvIdeal.Value

end
-- ==== Proof.CvKer.lean ====
module

public import proofs.«01_k».proof.Proof.CvRef
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelConvIdeal.Value

open Cert.KernelConvIdeal Cert.KernelConvIdeal.Gen

variable (m : (ℓ : Loc nD τ sig) → Buf (Elt Ideal) ℓ)
/-- A row's test, as the kernel writes it. -/
theorem ge (s : ℕ) (hs : s ≤ 3) (i : Fin 2048) (a b : EReal) :
    Scalar.select (IntOp.cmpi .sge (BitVec.ofNat 32 i.val) (BitVec.ofNat 32 s)) a b = if s ≤ i.val then a else b := by
  have hi := i.isLt
  have e : IntOp.cmpi .sge (BitVec.ofNat 32 i.val) (BitVec.ofNat 32 s) = if s ≤ i.val then 1#1 else 0#1 := by
    have h1 : (BitVec.ofNat 32 i.val).toInt = (i.val : ℤ) := by
      rw [BitVec.toInt_eq_toNat_of_lt (by simp; omega)]; simp; omega
    have h2 : (BitVec.ofNat 32 s).toInt = (s : ℤ) := by
      rw [BitVec.toInt_eq_toNat_of_lt (by simp; omega)]; simp; omega
    by_cases h : s ≤ i.val
    · rw [if_pos h]
      simp [IntOp.cmpi, BitVec.sle, h1, h2, h]
    · rw [if_neg h]
      simp [IntOp.cmpi, BitVec.sle, h1, h2, h]
  rw [e]
  by_cases h : s ≤ i.val
  · rw [if_pos h, if_pos h]; rfl
  · rw [if_neg h, if_neg h]; rfl

section
variable {P0 : Vec Ideal S1x2048x128 .f32} {w0 w1 w2 w3 : Vec Ideal S1x128 .f32} {x0 : Vec Ideal S24x2048x128 .f32} {x1 : Vec Ideal S4x1536 .f32}
  {b : Fin 12} (hP : ∀ (i : Fin 2048) (l : Fin 128), P0 (ix3 0 i l) = x0 (ix3 (src b) i l))
  (h0 : ∀ l : Fin 128, w0 (ix2 0 l) = x1 (ix2 0 (col b l))) (h1 : ∀ l : Fin 128, w1 (ix2 0 l) = x1 (ix2 1 (col b l)))
  (h2 : ∀ l : Fin 128, w2 (ix2 0 l) = x1 (ix2 2 (col b l))) (h3 : ∀ l : Fin 128, w3 (ix2 0 l) = x1 (ix2 3 (col b l)))
include hP h0 h1 h2 h3

/-- The convolution of a block. -/
theorem pay2_apply (i : Fin 2048) (l : Fin 128) : k0_pay2 (F := Ideal) P0 w0 w1 w2 w3 (ix2 i l) = pre x0 x1 i b l := by
  refine Eq.trans (b := Scalar.select (IntOp.cmpi .sge (BitVec.ofNat 32 i.val) (BitVec.ofNat 32 3))
            (P0 (ix3 0 (⟨(i.val + 2048 - 3) % 2048, by omega⟩ : Fin 2048) l) * w0 (ix2 0 l)) 0 +
          Scalar.select (IntOp.cmpi .sge (BitVec.ofNat 32 i.val) (BitVec.ofNat 32 2))
            (P0 (ix3 0 (⟨(i.val + 2048 - 2) % 2048, by omega⟩ : Fin 2048) l) * w1 (ix2 0 l)) 0 +
        Scalar.select (IntOp.cmpi .sge (BitVec.ofNat 32 i.val) (BitVec.ofNat 32 1))
          (P0 (ix3 0 (⟨(i.val + 2048 - 1) % 2048, by omega⟩ : Fin 2048) l) * w2 (ix2 0 l)) 0 +
      P0 (ix3 0 i l) * w3 (ix2 0 l)) (by pointwise [k0_pay2]) ?_
  rw [ge 3 (by omega), ge 2 (by omega), ge 1 (by omega)]
  simp only [hP, h0, h1, h2, h3]
  have T : ∀ (s : ℕ) (hs : s ≤ 3) (w : EReal), (if s ≤ i.val then x0 (ix3 (src b) (⟨(i.val + 2048 - s) % 2048, by omega⟩ : Fin 2048) l) * w else 0)
      = tap x0 s i b l * w := fun s hs w => by
    unfold tap
    by_cases h : s ≤ i.val
    · rw [if_pos h, if_pos h]
      exact congrArg (fun k => x0 (ix3 _ k l) * w) (Fin.ext (by dsimp only; omega))
    · rw [if_neg h, if_neg h, zero_mul]
  rw [T 3 (by omega), T 2 (by omega), T 1 (by omega)]
  unfold pre
  have e : tap x0 0 i b l = x0 (ix3 (src b) i l) := rfl
  rw [e]

/-- The block's result. -/
theorem pay1_apply {a : BitVec 32} (h8 : Scalar.cmpi .slt a 8#32 = if b.val < 8 then 1#1 else 0#1) (h4 : Scalar.cmpi .slt a 4#32 = if b.val < 4 then 1#1 else 0#1)
    (i : Fin 2048) (l : Fin 128) :
    k0_pay1 (F := Ideal) a (k0_pay2 P0 w0 w1 w2 w3) (k0_pay3 P0 w0 w1 w2 w3) k0_pay4 (ix2 i l) = head b (fun x => act (pre x0 x1 i b x)) l := by
  have e3 : ∀ x : Fin 128, k0_pay3 (F := Ideal) P0 w0 w1 w2 w3 (ix2 i x) = Ideal.exp (-pre x0 x1 i b x) := fun x => by
    rw [← pay2_apply hP h0 h1 h2 h3 i x]
    unfold k0_pay3
    generalize k0_pay2 (F := Ideal) P0 w0 w1 w2 w3 = y
    pointwise []
    exact congrArg Ideal.exp (zero_sub _)
  have e4 : ∀ x : Fin 128, k0_pay4 (F := Ideal) (ix2 i x) = (1 : EReal) := fun x => by pointwise! [k0_pay4]
  have e2 := pay2_apply hP h0 h1 h2 h3 i
  generalize k0_pay2 (F := Ideal) P0 w0 w1 w2 w3 = v at e2 ⊢
  generalize k0_pay3 (F := Ideal) P0 w0 w1 w2 w3 = e at e3 ⊢
  generalize k0_pay4 (F := Ideal) = o at e4 ⊢
  pointwise [k0_pay1]
  rw [h8, h4]
  simp only [e2, e3, e4]
  unfold head act
  by_cases q4 : b.val < 4
  · rw [if_pos (show b.val < 8 by omega), if_pos q4, if_pos q4]; rfl
  · rw [if_neg q4, if_neg q4]
    by_cases q8 : b.val < 8
    · rw [if_pos q8, if_pos q8]; exact mul_one _
    · rw [if_neg q8, if_neg q8]; exact (mul_one _).trans (mul_one _)
end

end Cert.KernelConvIdeal.Value

end
-- ==== Proof.CvVal.lean ====
module

public import proofs.«01_k».proof.Proof.CvKer
public import proofs.«01_k».proof.Proof.Gen.KernelConvIdeal.Frame
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KernelConvIdeal.Value

open Cert.KernelConvIdeal Cert.KernelConvIdeal.Gen

variable (m : (ℓ : Loc nD τ sig) → Buf (Elt Ideal) ℓ)
variable (m : (ℓ : Loc nD τ sig) → Buf (Elt Ideal) ℓ)
open Cert.ReferenceConvIdeal.Read

/-- Every window's block index at every grid point. -/
theorem idx_val : ∀ t : Fin cfg0.N, win0_0.index t = ![12 + t.val, 0, 0] ∧ win0_1.index t = ![0, t.val] ∧ win0_2.index t = ![0, t.val] :=
  (by decide +kernel : ∀ t : Fin grid0.N, _)

/-- The block of a grid point. -/
abbrev blk (t : Fin cfg0.N) : Fin 12 := ⟨t.val, t.isLt.trans_eq N_0⟩

/-- The two tests of the grid's coordinate. -/
theorem coord : ∀ t : Fin cfg0.N, Scalar.cmpi .slt (BitVec.ofNat 32 ((grid0.coords t) 0).val) 8#32 = (if t.val < 8 then 1#1 else 0#1)
    ∧ Scalar.cmpi .slt (BitVec.ofNat 32 ((grid0.coords t) 0).val) 4#32 = (if t.val < 4 then 1#1 else 0#1) :=
  (by decide +kernel : ∀ t : Fin grid0.N, _)

theorem x_eq (c : Dev nD) (t : Fin cfg0.N) (i : Fin 2048) (l : Fin 128) :
    (iblk m c 0 t : Vec Ideal S1x2048x128 .f32) (ix3 0 i l) = m ((c : Thread nD τ).loc main_arg0) (ix3 (src (blk t)) i l) := by
  blk_point [iblk, V, idx_val t]

theorem w_eq (c : Dev nD) (t : Fin cfg0.N) (k : Fin 4) (l : Fin 128) :
    (iblk m c 1 t : Vec Ideal S4x128 .f32) (ix2 k l) = m ((c : Thread nD τ).loc main_arg1) (ix2 k (col (blk t) l)) := by
  blk_point [iblk, V, idx_val t]

/-- One entry of what a grid point leaves. -/
theorem out_entry (c : Dev nD) (t : Fin cfg0.N) (i : Fin 2048) (l : Fin 128) :
    outsAt0 m c t (ix2 i l) = val_main_v57 (F := Ideal) (m ((c : Thread nD τ).loc main_arg0)) (m ((c : Thread nD τ).loc main_arg1)) (ix2 i (col (blk t) l)) := by
  rw [v57_apply]
  unfold outsAt0
  frame_out
  refine pay1_apply (b := blk t) (x_eq m c t) (fun l => ?_) (fun l => ?_) (fun l => ?_) (fun l => ?_) (coord t).1 (coord t).2 i l
  · refine Eq.trans ?_ (w_eq m c t 0 l)
    generalize (iblk m c 1 t : Vec Ideal S4x128 .f32) = w
    pointwise []
  · refine Eq.trans ?_ (w_eq m c t 1 l)
    generalize (iblk m c 1 t : Vec Ideal S4x128 .f32) = w
    pointwise []
  · refine Eq.trans ?_ (w_eq m c t 2 l)
    generalize (iblk m c 1 t : Vec Ideal S4x128 .f32) = w
    pointwise []
  · refine Eq.trans ?_ (w_eq m c t 3 l)
    generalize (iblk m c 1 t : Vec Ideal S4x128 .f32) = w
    pointwise []

theorem emb (t : Fin cfg0.N) (y : S2048x128.Idx) : ((cfg0.win 2).blk t).view.emb y = (ix2 (y 0) (col (blk t) (y 1)) : S2048x1536.Idx) := by
  blk_ext [idx_val t]

theorem final_2 (c : Dev nD) : (dats m 0 c).arrAt 2 (cfgs 0).N
    = val_main_v57 (F := Ideal) (m ((c : Thread nD τ).loc main_arg0)) (m ((c : Thread nD τ).loc main_arg1)) := by
  refine (dats m 0 c).arrAt_eq_of_covers 2 _ (by decide +kernel) fun t hf y => ?_
  have hy : (y : S2048x128.Idx) = ix2 (y 0) (y 1) := by funext a; match a with | ⟨0, _⟩ => rfl | ⟨1, _⟩ => rfl
  refine Eq.trans ?_ (congrArg _ (emb t y).symm)
  refine Eq.trans ?_ (out_entry m c t (y 0) (y 1))
  blk_simp; rw [after0_2]
  exact congrArg _ hy

end Cert.KernelConvIdeal.Value

end
-- ==== Proof.CvClaim.lean ====
module

public import proofs.«01_k».proof.Defs
public import proofs.«01_k».proof.Proof.CvVal
public import proofs.«01_k».proof.Proof.Gen.ReferenceConvIdeal.Run

@[expose] public section

set_option maxRecDepth 16384

noncomputable section

open Idealize.ShloMosaic Idealize.ShloMosaic.TcCoe Idealize.SL.Sem
open Idealize.ShloMosaic.Pipeline (Dat)
open scoped BigOperators

namespace Cert.KernelConvIdeal.Value

open Cert.KernelConvIdeal Cert.KernelConvIdeal.Gen

/-- The reference's run leaves its arguments as they were, and every counter at zero. -/
theorem reference_frame : Cert.quiescent_ReferenceConvIdeal := fun m g _ =>
  (θ_run (Cert.ReferenceConvIdeal.defs (F := Ideal)) _ _).mono (fun r h => And.intro (fun c => (h c).2)
      (Idealize.ShloMosaic.sem_eq_zero_of_no_sems (by decide) r.2))
    (Cert.ReferenceConvIdeal.Value.run (F := Ideal) m g)

/-- The kernel and the reference end at the same arrays. -/
theorem algebraic : Cert.algebraic_KernelConvIdeal_ReferenceConvIdeal := by
  intro m g m' g' hpre hagree
  refine ⟨fun c => Cert.ReferenceConvIdeal.Read.val_main_v57 (F := Ideal) (m ((c.tc : Thread Cert.KernelConvIdeal.nD Cert.KernelConvIdeal.τ).loc Cert.KernelConvIdeal.main_arg0)) (m ((c.tc : Thread Cert.KernelConvIdeal.nD Cert.KernelConvIdeal.τ).loc Cert.KernelConvIdeal.main_arg1)), ?_, ?_⟩
  · exact (θ_run _ _ _).mono (fun r h c => ⟨(h c).1.trans (final_2 m c), (h c).2⟩) (run_blocks m g)
  · refine (θ_run _ _ _).mono (fun r h c => ⟨(h c).1.trans ?_, (h c).2⟩) (Cert.ReferenceConvIdeal.Value.run (F := Ideal) m' g')
    · obtain ⟨e0, e1, e2⟩ := hagree c
      refine (Cert.ReferenceConvIdeal.Read.val_main_v57_eq _ _).trans ?_
      rw [e0, e1]

end Cert.KernelConvIdeal.Value

end
-- ==== Proof.AcVal.lean ====
module

public import proofs.«01_k».proof.Proof.Gen.KernelAcIdeal.Value
public import proofs.«01_k».proof.Proof.Gen.ReferenceAcIdeal.Read
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelAcIdeal.Value

open Cert.KernelAcIdeal Cert.KernelAcIdeal.Gen
open Cert.ReferenceAcIdeal.Read

section
variable (x0 : Vec Ideal S8x4x192 .f32) (x1 x2 x3 : Vec Ideal S4x192 .f32)

/-- The sum over the eight parts. -/
theorem sum_parts : k0_pay5 (F := Ideal) x0 x1 x2 x3 = val_main_v0 (F := Ideal) x0 := by
  funext j
  have h : val_main_v0 (F := Ideal) x0 j = ∑ k : Fin 8, x0 (idx_main_v0 j k) := by
    rw [val_main_v0_apply]
    pointwise [val_main_cst]
  rw [h, Fin.sum_univ_eight]
  have e : ∀ k : Fin 8, idx_main_v0 j k = ix3 k (j 0) (j 1) := fun k => by
    funext a
    match a with
    | ⟨0, _⟩ => rfl
    | ⟨1, _⟩ => rfl
    | ⟨2, _⟩ => rfl
  simp only [e]
  pointwise [k0_pay5, k0_pay3]

/-- The first moment. -/
theorem moment : k0_pay6 (F := Ideal) x0 x1 x2 x3 = val_main_v5 (F := Ideal) x0 x2 := by
  have h : k0_pay6 (F := Ideal) x0 x1 x2 x3
      = addf (mulf (broadcast S4x192 (Scalar.ofBits .f32 0x3F666666#32)) (View.ld x2 r0_8))
          (mulf (broadcast S4x192 (Scalar.ofBits .f32 0x3DCCCCCD#32)) (k0_pay5 (F := Ideal) x0 x1 x2 x3)) := rfl
  rw [h, sum_parts]
  funext j
  unfold val_main_v5 val_main_v4
  generalize val_main_v0 (F := Ideal) x0 = g
  pointwise [val_main_v3, val_main_v2, val_main_v1, val_main_cst_0, val_main_cst_1]

/-- The second moment. -/
theorem square : G7 (F := Ideal) x0 x1 x2 x3 = val_main_v11 (F := Ideal) x0 x3 := by
  unfold G7
  rw [sum_parts]
  funext j
  unfold val_main_v11 val_main_v10 val_main_v8
  generalize val_main_v0 (F := Ideal) x0 = g
  pointwise [k0_pay1, val_main_v7, val_main_v6, val_main_v9, val_main_cst_2, val_main_cst_3]

/-- The update. -/
theorem delta : G5 (F := Ideal) x0 x1 x2 x3 = val_main_v24 (F := Ideal) x0 x1 x2 x3 := by
  unfold G5
  rw [moment, sum_parts]
  funext j
  unfold val_main_v24 val_main_v22 val_main_v19 val_main_v18 val_main_v16 val_main_v15 val_main_v13 val_main_v11 val_main_v10 val_main_v8
  generalize val_main_v5 (F := Ideal) x0 x2 = a
  generalize val_main_v0 (F := Ideal) x0 = g
  pointwise [k0_pay2, k0_pay1, val_main_v7, val_main_v6, val_main_v9, val_main_v12, val_main_v14, val_main_v17, val_main_v20, val_main_v21, val_main_v23, val_main_cst_2, val_main_cst_3, val_main_cst_4, val_main_cst_5, val_main_cst_6, val_main_cst_7, val_main_cst_8]
end

end Cert.KernelAcIdeal.Value

end
-- ==== Proof.AcClaim.lean ====
module

public import proofs.«01_k».proof.Defs
public import proofs.«01_k».proof.Proof.AcVal
public import proofs.«01_k».proof.Proof.Gen.ReferenceAcIdeal.Run

@[expose] public section

set_option maxRecDepth 16384

noncomputable section

open Idealize.ShloMosaic Idealize.ShloMosaic.TcCoe Idealize.SL.Sem
open Idealize.ShloMosaic.Pipeline (Dat)
open scoped BigOperators

namespace Cert.KernelAcIdeal.Value

open Cert.KernelAcIdeal Cert.KernelAcIdeal.Gen

/-- The reference's run leaves its arguments as they were, and every counter at zero. -/
theorem reference_frame : Cert.quiescent_ReferenceAcIdeal := fun m g _ =>
  (θ_run (Cert.ReferenceAcIdeal.defs (F := Ideal)) _ _).mono (fun r h => And.intro (fun c => (h c).2.2.2.2)
      (Idealize.ShloMosaic.sem_eq_zero_of_no_sems (by decide) r.2))
    (Cert.ReferenceAcIdeal.Value.run (F := Ideal) m g)

/-- The kernel and the reference end at the same arrays. -/
theorem algebraic : Cert.algebraic_KernelAcIdeal_ReferenceAcIdeal := by
  intro m g m' g' hpre hagree
  refine ⟨fun c => Cert.ReferenceAcIdeal.Read.val_main_v0 (F := Ideal) (m ((c.tc : Thread Cert.KernelAcIdeal.nD Cert.KernelAcIdeal.τ).loc Cert.KernelAcIdeal.main_arg0)),
    fun c => Cert.ReferenceAcIdeal.Read.val_main_v24 (F := Ideal) (m ((c.tc : Thread Cert.KernelAcIdeal.nD Cert.KernelAcIdeal.τ).loc Cert.KernelAcIdeal.main_arg0)) (m ((c.tc : Thread Cert.KernelAcIdeal.nD Cert.KernelAcIdeal.τ).loc Cert.KernelAcIdeal.main_arg1)) (m ((c.tc : Thread Cert.KernelAcIdeal.nD Cert.KernelAcIdeal.τ).loc Cert.KernelAcIdeal.main_arg2)) (m ((c.tc : Thread Cert.KernelAcIdeal.nD Cert.KernelAcIdeal.τ).loc Cert.KernelAcIdeal.main_arg3)),
    fun c => Cert.ReferenceAcIdeal.Read.val_main_v5 (F := Ideal) (m ((c.tc : Thread Cert.KernelAcIdeal.nD Cert.KernelAcIdeal.τ).loc Cert.KernelAcIdeal.main_arg0)) (m ((c.tc : Thread Cert.KernelAcIdeal.nD Cert.KernelAcIdeal.τ).loc Cert.KernelAcIdeal.main_arg2)),
    fun c => Cert.ReferenceAcIdeal.Read.val_main_v11 (F := Ideal) (m ((c.tc : Thread Cert.KernelAcIdeal.nD Cert.KernelAcIdeal.τ).loc Cert.KernelAcIdeal.main_arg0)) (m ((c.tc : Thread Cert.KernelAcIdeal.nD Cert.KernelAcIdeal.τ).loc Cert.KernelAcIdeal.main_arg3)), ?_, ?_⟩
  · exact (θ_run _ _ _).mono (fun r h c => ⟨(h c).1.trans (sum_parts _ _ _ _), (h c).2.1.trans (delta _ _ _ _),
      (h c).2.2.1.trans (moment _ _ _ _), (h c).2.2.2.1.trans (square _ _ _ _), (h c).2.2.2.2⟩) (run (F := Ideal) m g)
  · refine (θ_run _ _ _).mono (fun r h c => ⟨(h c).1.trans ?_, (h c).2.1.trans ?_, (h c).2.2.1.trans ?_, (h c).2.2.2.1.trans ?_, (h c).2.2.2.2⟩)
      (Cert.ReferenceAcIdeal.Value.run (F := Ideal) m' g')
    · refine (Cert.ReferenceAcIdeal.Read.val_main_v0_eq _).trans ?_
      rw [(hagree c).1]
    · refine (Cert.ReferenceAcIdeal.Read.val_main_v24_eq _ _ _ _).trans ?_
      rw [(hagree c).1, (hagree c).2.1, (hagree c).2.2.1, (hagree c).2.2.2]
    · refine (Cert.ReferenceAcIdeal.Read.val_main_v5_eq _ _).trans ?_
      rw [(hagree c).1, (hagree c).2.2.1]
    · refine (Cert.ReferenceAcIdeal.Read.val_main_v11_eq _ _).trans ?_
      rw [(hagree c).1, (hagree c).2.2.2]

end Cert.KernelAcIdeal.Value

end
-- ==== Proof.lean ====
module

public import proofs.«01_k».proof.Defs
public import proofs.«01_k».proof.Proof.Gen.KernelDx
public import proofs.«01_k».proof.Proof.Gen.KernelDx.Skeleton
public import proofs.«01_k».proof.Proof.Gen.KernelDx.Launch
public import proofs.«01_k».proof.Proof.Gen.KernelDx.Points
public import proofs.«01_k».proof.Proof.Gen.KernelDx.Frame
public import proofs.«01_k».proof.Proof.Gen.KernelDxIdeal
public import proofs.«01_k».proof.Proof.Gen.KernelDxIdeal.Skeleton
public import proofs.«01_k».proof.Proof.Gen.KernelDxIdeal.Launch
public import proofs.«01_k».proof.Proof.Gen.KernelDxIdeal.Points
public import proofs.«01_k».proof.Proof.Gen.KernelDxIdeal.Frame
public import proofs.«01_k».proof.Proof.Gen.ReferenceDxIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.Pre_finite_dx
public import proofs.«01_k».proof.Proof.DxClaim
public import proofs.«01_k».proof.Proof.InClaim
public import Idealize.ShloMosaic.Adequacy
public import Idealize.ShloMosaic.Init
public import proofs.«01_k».proof.Proof.Gen.KernelDxIdeal.Value
public import proofs.«01_k».proof.Proof.Gen.KernelInIdeal.Value
public import proofs.«01_k».proof.Proof.Gen.ReferenceDxIdeal.Run
public import proofs.«01_k».proof.Proof.Gen.ReferenceInIdeal.Run
public import proofs.«01_k».proof.Proof.Gen.ReferenceDxIdeal.Read
public import proofs.«01_k».proof.Proof.Gen.ReferenceInIdeal.Read
public import proofs.«01_k».proof.Proof.Gen.KernelGw
public import proofs.«01_k».proof.Proof.Gen.KernelGwIdeal
public import proofs.«01_k».proof.Proof.Gen.KernelGw.Skeleton
public import proofs.«01_k».proof.Proof.Gen.KernelGwIdeal.Skeleton
public import proofs.«01_k».proof.Proof.Gen.KernelGw.Launch
public import proofs.«01_k».proof.Proof.Gen.KernelGwIdeal.Launch
public import proofs.«01_k».proof.Proof.Gen.KernelGw.Points
public import proofs.«01_k».proof.Proof.Gen.KernelGwIdeal.Points
public import proofs.«01_k».proof.Proof.Gen.KernelGw.Frame
public import proofs.«01_k».proof.Proof.Gen.KernelGwIdeal.Frame
public import proofs.«01_k».proof.Proof.Gen.KernelGwIdeal.Value
public import proofs.«01_k».proof.Proof.Gen.ReferenceGwIdeal
public import proofs.«01_k».proof.Proof.Gen.ReferenceGwIdeal.Run
public import proofs.«01_k».proof.Proof.Gen.ReferenceGwIdeal.Read
public import proofs.«01_k».proof.Proof.GwClaim
public import proofs.«01_k».proof.Proof.Gen.KernelPost
public import proofs.«01_k».proof.Proof.Gen.KernelPost.Skeleton
public import proofs.«01_k».proof.Proof.Gen.KernelPost.Launch
public import proofs.«01_k».proof.Proof.Gen.KernelPost.Points
public import proofs.«01_k».proof.Proof.Gen.KernelPost.Frame
public import proofs.«01_k».proof.Proof.Gen.KernelPostIdeal
public import proofs.«01_k».proof.Proof.Gen.KernelPostIdeal.Skeleton
public import proofs.«01_k».proof.Proof.Gen.KernelPostIdeal.Launch
public import proofs.«01_k».proof.Proof.Gen.KernelPostIdeal.Points
public import proofs.«01_k».proof.Proof.Gen.KernelPostIdeal.Frame
public import proofs.«01_k».proof.Proof.Gen.KernelPostIdeal.Value
public import proofs.«01_k».proof.Proof.Gen.ReferencePostIdeal
public import proofs.«01_k».proof.Proof.Gen.ReferencePostIdeal.Run
public import proofs.«01_k».proof.Proof.Gen.ReferencePostIdeal.Read
public import proofs.«01_k».proof.Proof.Gen.Pre_finite_post
public import proofs.«01_k».proof.Proof.Gen.On_written
public import proofs.«01_k».proof.Proof.PoClaim
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.KernelGatesIdeal.Value
public import proofs.«01_k».proof.Proof.Gen.ReferenceGatesIdeal
public import proofs.«01_k».proof.Proof.Gen.ReferenceGatesIdeal.Run
public import proofs.«01_k».proof.Proof.Gen.ReferenceGatesIdeal.Read
public import proofs.«01_k».proof.Proof.Gen.KernelGs
public import proofs.«01_k».proof.Proof.Gen.KernelGs.Skeleton
public import proofs.«01_k».proof.Proof.Gen.KernelGs.Launch
public import proofs.«01_k».proof.Proof.Gen.KernelGs.Points
public import proofs.«01_k».proof.Proof.Gen.KernelGs.Frame
public import proofs.«01_k».proof.Proof.Gen.KernelGsIdeal
public import proofs.«01_k».proof.Proof.Gen.KernelGsIdeal.Skeleton
public import proofs.«01_k».proof.Proof.Gen.KernelGsIdeal.Launch
public import proofs.«01_k».proof.Proof.Gen.KernelGsIdeal.Points
public import proofs.«01_k».proof.Proof.Gen.KernelGsIdeal.Frame
public import proofs.«01_k».proof.Proof.Gen.KernelGsIdeal.Value
public import proofs.«01_k».proof.Proof.Gen.ReferenceGsIdeal
public import proofs.«01_k».proof.Proof.Gen.ReferenceGsIdeal.Run
public import proofs.«01_k».proof.Proof.Gen.ReferenceGsIdeal.Read
public import proofs.«01_k».proof.Proof.Gen.Pre_finite_gates
public import proofs.«01_k».proof.Proof.GaClaim
public import proofs.«01_k».proof.Proof.GsClaim
public import proofs.«01_k».proof.Proof.Gen.KernelAdam
public import proofs.«01_k».proof.Proof.Gen.KernelAdam.Skeleton
public import proofs.«01_k».proof.Proof.Gen.KernelAdam.Launch
public import proofs.«01_k».proof.Proof.Gen.KernelAdam.Points
public import proofs.«01_k».proof.Proof.Gen.KernelAdam.Frame
public import proofs.«01_k».proof.Proof.Gen.KernelAdamIdeal
public import proofs.«01_k».proof.Proof.Gen.KernelAdamIdeal.Skeleton
public import proofs.«01_k».proof.Proof.Gen.KernelAdamIdeal.Launch
public import proofs.«01_k».proof.Proof.Gen.KernelAdamIdeal.Points
public import proofs.«01_k».proof.Proof.Gen.KernelAdamIdeal.Frame
public import proofs.«01_k».proof.Proof.Gen.KernelAdamIdeal.Value
public import proofs.«01_k».proof.Proof.Gen.ReferenceAdamIdeal
public import proofs.«01_k».proof.Proof.Gen.ReferenceAdamIdeal.Run
public import proofs.«01_k».proof.Proof.Gen.ReferenceAdamIdeal.Read
public import proofs.«01_k».proof.Proof.AdClaim
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Gen.ReferenceConvIdeal.Read
public import proofs.«01_k».proof.Proof.CvClaim
public import proofs.«01_k».proof.Proof.Gen.KernelAc
public import proofs.«01_k».proof.Proof.Gen.KernelAc.Skeleton
public import proofs.«01_k».proof.Proof.Gen.KernelAc.Launch
public import proofs.«01_k».proof.Proof.Gen.KernelAc.Points
public import proofs.«01_k».proof.Proof.Gen.KernelAc.Frame
public import proofs.«01_k».proof.Proof.Gen.KernelAcIdeal
public import proofs.«01_k».proof.Proof.Gen.KernelAcIdeal.Skeleton
public import proofs.«01_k».proof.Proof.Gen.KernelAcIdeal.Launch
public import proofs.«01_k».proof.Proof.Gen.KernelAcIdeal.Points
public import proofs.«01_k».proof.Proof.Gen.KernelAcIdeal.Frame
public import proofs.«01_k».proof.Proof.Gen.KernelAcIdeal.Value
public import proofs.«01_k».proof.Proof.Gen.ReferenceAcIdeal
public import proofs.«01_k».proof.Proof.Gen.ReferenceAcIdeal.Run
public import proofs.«01_k».proof.Proof.Gen.ReferenceAcIdeal.Read
public import proofs.«01_k».proof.Proof.AcClaim

@[expose] public section

noncomputable section

namespace Cert.Proof

open Idealize.ShloMosaic Idealize.SL.Sem Cert.KernelDx

/-- Every claim: the frames are the generated ones, and the values are those of `DxClaim`, `InClaim`, `GwClaim`, `PoClaim`,
`GaClaim`, `GsClaim`, `AdClaim`, `CvClaim` and `AcClaim`. -/
theorem claim : Cert.Claim := ⟨Cert.KernelDx.Gen.facts, Cert.KernelDxIdeal.Gen.facts, Cert.ReferenceDxIdeal.Gen.facts, Cert.KernelIn.Gen.facts, Cert.KernelInIdeal.Gen.facts, Cert.ReferenceInIdeal.Gen.facts, Cert.KernelGw.Gen.facts, Cert.KernelGwIdeal.Gen.facts, Cert.ReferenceGwIdeal.Gen.facts,
  Cert.KernelPost.Gen.facts, Cert.KernelPostIdeal.Gen.facts, Cert.ReferencePostIdeal.Gen.facts, Cert.KernelGates.Gen.facts, Cert.KernelGatesIdeal.Gen.facts, Cert.ReferenceGatesIdeal.Gen.facts, Cert.KernelGs.Gen.facts, Cert.KernelGsIdeal.Gen.facts, Cert.ReferenceGsIdeal.Gen.facts,
  Cert.KernelAdam.Gen.facts, Cert.KernelAdamIdeal.Gen.facts, Cert.ReferenceAdamIdeal.Gen.facts, Cert.KernelConv.Gen.facts, Cert.KernelConvIdeal.Gen.facts, Cert.ReferenceConvIdeal.Gen.facts,
  Cert.KernelAc.Gen.facts, Cert.KernelAcIdeal.Gen.facts, Cert.ReferenceAcIdeal.Gen.facts,
  Cert.Pre_finite_dx.Gen.facts, Cert.Pre_finite_post.Gen.facts, Cert.Pre_finite_gates.Gen.facts, Cert.On_written.Gen.facts,
  fun m ρ _ => Cert.KernelDx.Gen.frame m ρ, fun m ρ _ => Cert.KernelDxIdeal.Gen.frame m ρ, fun m ρ _ => Cert.KernelDxIdeal.Gen.frame m ρ,
  Cert.KernelDxIdeal.Value.reference_frame, fun m ρ _ => Cert.KernelDxIdeal.Value.reference_frame m ρ trivial,
  fun m ρ _ => Cert.KernelIn.Gen.frame m ρ, fun m ρ _ => Cert.KernelInIdeal.Gen.frame m ρ, Cert.KernelInIdeal.Value.reference_frame,
  fun m ρ _ => Cert.KernelGw.Gen.frame m ρ, fun m ρ _ => Cert.KernelGwIdeal.Gen.frame m ρ, Cert.KernelGwIdeal.Value.reference_frame,
  fun m ρ _ => Cert.KernelPost.Gen.frame m ρ, fun m ρ _ => Cert.KernelPostIdeal.Gen.frame m ρ, fun m ρ _ => Cert.KernelPostIdeal.Gen.frame m ρ,
  Cert.KernelPostIdeal.Value.reference_frame, fun m ρ _ => Cert.KernelPostIdeal.Value.reference_frame m ρ trivial,
  fun m ρ _ => Cert.KernelGates.Gen.frame m ρ, fun m ρ _ => Cert.KernelGatesIdeal.Gen.frame m ρ, fun m ρ _ => Cert.KernelGatesIdeal.Gen.frame m ρ,
  Cert.KernelGatesIdeal.Value.reference_frame, fun m ρ _ => Cert.KernelGatesIdeal.Value.reference_frame m ρ trivial,
  fun m ρ _ => Cert.KernelGs.Gen.frame m ρ, fun m ρ _ => Cert.KernelGsIdeal.Gen.frame m ρ, Cert.KernelGsIdeal.Value.reference_frame,
  fun m ρ _ => Cert.KernelAdam.Gen.frame m ρ, fun m ρ _ => Cert.KernelAdamIdeal.Gen.frame m ρ, Cert.KernelAdamIdeal.Value.reference_frame,
  fun m ρ _ => Cert.KernelConv.Gen.frame m ρ, fun m ρ _ => Cert.KernelConvIdeal.Gen.frame m ρ, Cert.KernelConvIdeal.Value.reference_frame,
  fun m ρ _ => Cert.KernelAc.Gen.frame m ρ, fun m ρ _ => Cert.KernelAcIdeal.Gen.frame m ρ, Cert.KernelAcIdeal.Value.reference_frame,
  trivial, Cert.KernelDxIdeal.Value.algebraic, trivial, Cert.KernelInIdeal.Value.algebraic, trivial, Cert.KernelGwIdeal.Value.algebraic,
  trivial, Cert.KernelPostIdeal.Value.algebraic, trivial, Cert.KernelGatesIdeal.Value.algebraic,
  trivial, Cert.KernelGsIdeal.Value.algebraic,
  trivial, Cert.KernelAdamIdeal.Value.algebraic, trivial, Cert.KernelConvIdeal.Value.algebraic,
  trivial, Cert.KernelAcIdeal.Value.algebraic⟩

end Cert.Proof

end
